-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))).2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))).2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)) (v2 : (c : Dev Cert.KernelIdeal.nD) → Buf (Elt Ideal) ((c.tc : Thread Cert.KernelIdeal.nD Cert.KernelIdeal.τ).loc Cert.KernelIdeal.main_v70_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_v70_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v79) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_2)) (v1 : (c : Dev Cert.Kernel3Ideal.nD) → Buf (Elt Ideal) ((c.tc : Thread Cert.Kernel3Ideal.nD Cert.Kernel3Ideal.τ).loc Cert.Kernel3Ideal.main_v1_0)) (v2 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_2) = v0 c
          ∧ r.2.mem ((c.tc : Thread Cert.Kernel3Ideal.nD Cert.Kernel3Ideal.τ).loc Cert.Kernel3Ideal.main_v1_0) = v1 c
          ∧ r.2.mem ((c.tc : Thread Cert.Kernel3Ideal.nD Cert.Kernel3Ideal.τ).loc Cert.Kernel3Ideal.main_v1_1) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v43) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v42) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_arg1) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v4) = v2 c
          ∧ r.2.mem ((c.tc : Thread Cert.Reference9Ideal.nD Cert.Reference9Ideal.τ).loc Cert.Reference9Ideal.main_v10) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_arg1) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v10) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg1) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg1) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg1) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg1) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg1) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg1) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v15) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v29) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v16) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v15) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v15) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v28) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts) (hPre_finite2 : Cert.Pre_finite2.Facts) (hPre_finite3 : Cert.Pre_finite3.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite.lean ====
abbrev S8192x1024 : Shape := ⟨2, ![8192, 1024]⟩
abbrev S8192x2048 : Shape := ⟨2, ![8192, 2048]⟩
abbrev S4x256x256 : Shape := ⟨3, ![4, 256, 256]⟩
abbrev S1x1024 : Shape := ⟨2, ![1, 1024]⟩
abbrev S_ : Shape := ⟨0, ![]⟩

class Facts : Prop where
  bcast_S_S8192x2048 : S_.BroadcastsInDim S8192x2048 (![] : Fin 0 → Fin S8192x2048.rank)
  bitsLt_bf16_f32 : FTy.bits .bf16 < FTy.bits .f32
  bcast_S_S4x256x256 : S_.BroadcastsInDim S4x256x256 (![] : Fin 0 → Fin S4x256x256.rank)
  bcast_S_S1x1024 : S_.BroadcastsInDim S1x1024 (![] : Fin 0 → Fin S1x1024.rank)

variable [Facts]

def fn {F : FTy → Type} [FloatOps F] (main_arg0 : FVec F S8192x1024 .f32) (main_arg1 : FVec F S8192x2048 .f32) (main_arg2 : FVec F S4x256x256 .bf16) (main_arg3 : FVec F S1x1024 .f32) : IVec S8192x2048 1 × IVec S4x256x256 1 × IVec S1x1024 1 :=
  let main_v0 : FVec F S8192x2048 .f32 := Host.absf main_arg1
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S4x256x256 .f32 := (extf .f32 · bitsLt_bf16_f32) main_arg2
  let main_v4 : FVec F S4x256x256 .f32 := Host.absf main_v3
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_v7 : FVec F S1x1024 .f32 := Host.absf main_arg3
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  (main_v2, main_v6, main_v9)
-- ==== Pre_finite2.lean ====
abbrev S8192x2048 : Shape := ⟨2, ![8192, 2048]⟩
abbrev S256x4096 : Shape := ⟨2, ![256, 4096]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S256x4096 : S_.BroadcastsInDim S256x4096 (![] : Fin 0 → Fin S256x4096.rank)

variable [Facts]

def fn {F : FTy → Type} [FloatOps F] (main_arg0 : FVec F S8192x2048 .bf16) (main_arg1 : FVec F S256x4096 .bf16) (main_arg2 : FVec F S8192x2048 .bf16) : IVec S8192x2048 1 × IVec S256x4096 1 × IVec S8192x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S256x4096 .f32 := (extf .f32 · bitsLt_bf16_f32) main_arg1
  let main_v5 : FVec F S256x4096 .f32 := Host.absf main_v4
  let main_cst_0 : FVec F S_ .f32 := constant S_ .f32 0x7F800000#32
  let main_v6 : FVec F S256x4096 .f32 := broadcastInDim S256x4096 ![] bcast_S_S256x4096 main_cst_0
  let main_v7 : IVec S256x4096 1 := cmpf .olt main_v5 main_v6
  let main_v8 : FVec F S8192x2048 .f32 := (extf .f32 · bitsLt_bf16_f32) main_arg2
  let main_v9 : FVec F S8192x2048 .f32 := Host.absf main_v8
  let main_cst_1 : FVec F S_ .f32 := constant S_ .f32 0x7F800000#32
  let main_v10 : FVec F S8192x2048 .f32 := broadcastInDim S8192x2048 ![] bcast_S_S8192x2048 main_cst_1
  let main_v11 : IVec S8192x2048 1 := cmpf .olt main_v9 main_v10
  (main_v3, main_v7, main_v11)
-- ==== Pre_finite3.lean ====
abbrev S8192x2048 : Shape := ⟨2, ![8192, 2048]⟩
abbrev S4x2048x1408 : Shape := ⟨3, ![4, 2048, 1408]⟩
abbrev S4x1408x2048 : Shape := ⟨3, ![4, 1408, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S4x2048x1408 : S_.BroadcastsInDim S4x2048x1408 (![] : Fin 0 → Fin S4x2048x1408.rank)
  bcast_S_S4x1408x2048 : S_.BroadcastsInDim S4x1408x2048 (![] : Fin 0 → Fin S4x1408x2048.rank)

variable [Facts]

def fn_part1 {F : FTy → Type} [FloatOps F] (main_v3 : IVec S8192x2048 1) (main_v7 : IVec S4x2048x1408 1) (main_v11 : IVec S4x2048x1408 1) (main_v15 : IVec S4x1408x2048 1) (main_v17 : FVec F S8192x2048 .f32) (main_v18 : FVec F S8192x2048 .f32) : IVec S8192x2048 1 × IVec S4x2048x1408 1 × IVec S4x2048x1408 1 × IVec S4x1408x2048 1 × IVec S8192x2048 1 :=
  let main_v19 : IVec S8192x2048 1 := cmpf .olt main_v17 main_v18
  (main_v3, main_v7, main_v11, main_v15, main_v19)

def fn {F : FTy → Type} [FloatOps F] (main_arg0 : FVec F S8192x2048 .bf16) (main_arg1 : FVec F S4x2048x1408 .bf16) (main_arg2 : FVec F S4x2048x1408 .bf16) (main_arg3 : FVec F S4x1408x2048 .bf16) (main_arg4 : FVec F S8192x2048 .bf16) : IVec S8192x2048 1 × IVec S4x2048x1408 1 × IVec S4x2048x1408 1 × IVec S4x1408x2048 1 × IVec S8192x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S4x2048x1408 .f32 := (extf .f32 · bitsLt_bf16_f32) main_arg1
  let main_v5 : FVec F S4x2048x1408 .f32 := Host.absf main_v4
  let main_cst_0 : FVec F S_ .f32 := constant S_ .f32 0x7F800000#32
  let main_v6 : FVec F S4x2048x1408 .f32 := broadcastInDim S4x2048x1408 ![] bcast_S_S4x2048x1408 main_cst_0
  let main_v7 : IVec S4x2048x1408 1 := cmpf .olt main_v5 main_v6
  let main_v8 : FVec F S4x2048x1408 .f32 := (extf .f32 · bitsLt_bf16_f32) main_arg2
  let main_v9 : FVec F S4x2048x1408 .f32 := Host.absf main_v8
  let main_cst_1 : FVec F S_ .f32 := constant S_ .f32 0x7F800000#32
  let main_v10 : FVec F S4x2048x1408 .f32 := broadcastInDim S4x2048x1408 ![] bcast_S_S4x2048x1408 main_cst_1
  let main_v11 : IVec S4x2048x1408 1 := cmpf .olt main_v9 main_v10
  let main_v12 : FVec F S4x1408x2048 .f32 := (extf .f32 · bitsLt_bf16_f32) main_arg3
  let main_v13 : FVec F S4x1408x2048 .f32 := Host.absf main_v12
  let main_cst_2 : FVec F S_ .f32 := constant S_ .f32 0x7F800000#32
  let main_v14 : FVec F S4x1408x2048 .f32 := broadcastInDim S4x1408x2048 ![] bcast_S_S4x1408x2048 main_cst_2
  let main_v15 : IVec S4x1408x2048 1 := cmpf .olt main_v13 main_v14
  let main_v16 : FVec F S8192x2048 .f32 := (extf .f32 · bitsLt_bf16_f32) main_arg4
  let main_v17 : FVec F S8192x2048 .f32 := Host.absf main_v16
  let main_cst_3 : FVec F S_ .f32 := constant S_ .f32 0x7F800000#32
  let main_v18 : FVec F S8192x2048 .f32 := broadcastInDim S8192x2048 ![] bcast_S_S8192x2048 main_cst_3
  fn_part1 (F := F) main_v3 main_v7 main_v11 main_v15 main_v17 main_v18
-- ==== Pre_finite7.lean ====
abbrev S8192x2048 : Shape := ⟨2, ![8192, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .f32) (main_arg1 : FVec F S1x2048 .f32) (main_arg2 : FVec F S8192x2048 .f32) (main_arg3 : FVec F S8192x2048 .f32) : IVec S8192x2048 1 × IVec S1x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Kernel.lean ====
abbrev S8192x1024 : Shape := ⟨2, ![8192, 1024]⟩
abbrev S8192x2048 : Shape := ⟨2, ![8192, 2048]⟩
abbrev S4x256x256 : Shape := ⟨3, ![4, 256, 256]⟩
abbrev S1x1024 : Shape := ⟨2, ![1, 1024]⟩
abbrev S1x8192x1024 : Shape := ⟨3, ![1, 8192, 1024]⟩
abbrev S1x8192x4x256 : Shape := ⟨4, ![1, 8192, 4, 256]⟩
abbrev S_ : Shape := ⟨0, ![]⟩
abbrev S8192 : Shape := ⟨1, ![8192]⟩
abbrev S1x8192x1x256 : Shape := ⟨4, ![1, 8192, 1, 256]⟩
abbrev S1x8192x256 : Shape := ⟨3, ![1, 8192, 256]⟩
abbrev S1x2x256 : Shape := ⟨3, ![1, 2, 256]⟩
abbrev S1x8190x256 : Shape := ⟨3, ![1, 8190, 256]⟩
abbrev S1x8192x1 : Shape := ⟨3, ![1, 8192, 1]⟩
abbrev S1x4x256 : Shape := ⟨3, ![1, 4, 256]⟩
abbrev S1x8188x256 : Shape := ⟨3, ![1, 8188, 256]⟩
abbrev S1x8x256 : Shape := ⟨3, ![1, 8, 256]⟩
abbrev S1x8184x256 : Shape := ⟨3, ![1, 8184, 256]⟩
abbrev S1x16x256 : Shape := ⟨3, ![1, 16, 256]⟩
abbrev S1x8176x256 : Shape := ⟨3, ![1, 8176, 256]⟩
abbrev S8192x4x256 : Shape := ⟨3, ![8192, 4, 256]⟩
abbrev S512x1024 : Shape := ⟨2, ![512, 1024]⟩
abbrev S16x1024 : Shape := ⟨2, ![16, 1024]⟩
abbrev S528x1 : Shape := ⟨2, ![528, 1]⟩
abbrev S512x256 : Shape := ⟨2, ![512, 256]⟩
abbrev S16x256 : Shape := ⟨2, ![16, 256]⟩
abbrev S1x256 : Shape := ⟨2, ![1, 256]⟩
abbrev S528x256 : Shape := ⟨2, ![528, 256]⟩
abbrev S1x256x256 : Shape := ⟨3, ![1, 256, 256]⟩
abbrev S256x256 : Shape := ⟨2, ![256, 256]⟩
abbrev S256 : Shape := ⟨1, ![256]⟩

abbrev nBuf : Space → Nat
  | .hbm => 88
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S4x256x256, .bf16⟩
  | .hbm, ⟨3, _⟩ => ⟨S1x1024, .f32⟩
  | .hbm, ⟨4, _⟩ => ⟨S1x8192x1024, .f32⟩
  | .hbm, ⟨5, _⟩ => ⟨S1x8192x4x256, .f32⟩
  | .hbm, ⟨6, _⟩ => ⟨S_, .f32⟩
  | .hbm, ⟨7, _⟩ => ⟨S_, .f32⟩
  | .hbm, ⟨8, _⟩ => ⟨S1x8192x4x256, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S1x8192x1x256, .f32⟩
  | .hbm, ⟨14, _⟩ => ⟨S1x8192x256, .f32⟩
  | .hbm, ⟨15, _⟩ => ⟨S_, .f32⟩
  | .hbm, ⟨16, _⟩ => ⟨S1x2x256, .f32⟩
  | .hbm, ⟨17, _⟩ => ⟨S1x8190x256, .f32⟩
  | .hbm, ⟨18, _⟩ => ⟨S1x8192x256, .f32⟩
  | .hbm, ⟨19, _⟩ => ⟨S1x8192x256, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S1x8192x1, .f32⟩
  | .hbm, ⟨24, _⟩ => ⟨S1x8192x256, .f32⟩
  | .hbm, ⟨25, _⟩ => ⟨S1x8192x256, .f32⟩
  | .hbm, ⟨26, _⟩ => ⟨S1x8192x1x256, .f32⟩
  | .hbm, ⟨27, _⟩ => ⟨S1x8192x256, .f32⟩
  | .hbm, ⟨28, _⟩ => ⟨S1x8192x256, .f32⟩
  | .hbm, ⟨29, _⟩ => ⟨S1x8192x1x256, .f32⟩
  | .hbm, ⟨30, _⟩ => ⟨S1x8192x256, .f32⟩
  | .hbm, ⟨31, _⟩ => ⟨S_, .f32⟩
  | .hbm, ⟨32, _⟩ => ⟨S1x4x256, .f32⟩
  | .hbm, ⟨33, _⟩ => ⟨S1x8188x256, .f32⟩
  | .hbm, ⟨34, _⟩ => ⟨S1x8192x256, .f32⟩
  | .hbm, ⟨35, _⟩ => ⟨S1x8192x256, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S1x8192x1, .f32⟩
  | .hbm, ⟨40, _⟩ => ⟨S1x8192x256, .f32⟩
  | .hbm, ⟨41, _⟩ => ⟨S1x8192x256, .f32⟩
  | .hbm, ⟨42, _⟩ => ⟨S1x8192x1x256, .f32⟩
  | .hbm, ⟨43, _⟩ => ⟨S1x8192x256, .f32⟩
  | .hbm, ⟨44, _⟩ => ⟨S1x8192x256, .f32⟩
  | .hbm, ⟨45, _⟩ => ⟨S1x8192x1x256, .f32⟩
  | .hbm, ⟨46, _⟩ => ⟨S1x8192x256, .f32⟩
  | .hbm, ⟨47, _⟩ => ⟨S_, .f32⟩
  | .hbm, ⟨48, _⟩ => ⟨S1x8x256, .f32⟩
  | .hbm, ⟨49, _⟩ => ⟨S1x8184x256, .f32⟩
  | .hbm, ⟨50, _⟩ => ⟨S1x8192x256, .f32⟩
  | .hbm, ⟨51, _⟩ => ⟨S1x8192x256, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S1x8192x1, .f32⟩
  | .hbm, ⟨56, _⟩ => ⟨S1x8192x256, .f32⟩
  | .hbm, ⟨57, _⟩ => ⟨S1x8192x256, .f32⟩
  | .hbm, ⟨58, _⟩ => ⟨S1x8192x1x256, .f32⟩
  | .hbm, ⟨59, _⟩ => ⟨S1x8192x256, .f32⟩
  | .hbm, ⟨60, _⟩ => ⟨S1x8192x256, .f32⟩
  | .hbm, ⟨61, _⟩ => ⟨S1x8192x1x256, .f32⟩
  | .hbm, ⟨62, _⟩ => ⟨S1x8192x256, .f32⟩
  | .hbm, ⟨63, _⟩ => ⟨S_, .f32⟩
  | .hbm, ⟨64, _⟩ => ⟨S1x16x256, .f32⟩
  | .hbm, ⟨65, _⟩ => ⟨S1x8176x256, .f32⟩
  | .hbm, ⟨66, _⟩ => ⟨S1x8192x256, .f32⟩
  | .hbm, ⟨67, _⟩ => ⟨S1x8192x256, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S1x8192x1, .f32⟩
  | .hbm, ⟨72, _⟩ => ⟨S1x8192x256, .f32⟩
  | .hbm, ⟨73, _⟩ => ⟨S1x8192x256, .f32⟩
  | .hbm, ⟨74, _⟩ => ⟨S1x8192x1x256, .f32⟩
  | .hbm, ⟨75, _⟩ => ⟨S1x8192x256, .f32⟩
  | .hbm, ⟨76, _⟩ => ⟨S1x8192x256, .f32⟩
  | .hbm, ⟨77, _⟩ => ⟨S1x8192x1x256, .f32⟩
  | .hbm, ⟨78, _⟩ => ⟨S1x8192x1x256, .f32⟩
  | .hbm, ⟨79, _⟩ => ⟨S1x8192x1x256, .f32⟩
  | .hbm, ⟨80, _⟩ => ⟨S1x8192x1x256, .f32⟩
  | .hbm, ⟨81, _⟩ => ⟨S1x8192x4x256, .f32⟩
  | .hbm, ⟨82, _⟩ => ⟨S8192x4x256, .f32⟩
  | .hbm, ⟨83, _⟩ => ⟨S8192x1024, .f32⟩
  | .hbm, ⟨84, _⟩ => ⟨S8192x1024, .bf16⟩
  | .hbm, ⟨85, _⟩ => ⟨S8192x1024, .bf16⟩
  | .hbm, ⟨86, _⟩ => ⟨S4x256x256, .f32⟩
  | .hbm, ⟨87, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .bf16⟩
  | .local _ .vmem, ⟨5, _⟩ => ⟨S512x1024, .bf16⟩
  | .local _ .vmem, ⟨6, _⟩ => ⟨S4x256x256, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S4x256x256, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70_0 : Ref sig .tc := ⟨.hbm, 85, rfl⟩
abbrev main_v70_1 : Ref sig .tc := ⟨.hbm, 86, rfl⟩
abbrev main_v70_2 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_19 : BitVec 32 := 0#32
  let v43 : BitVec 1 := Scalar.cmpi .ne v42 c0_i32_19
  v43

def k0_cond2 (i : grid0.Coords) : BitVec 1 :=
  let arg0 : BitVec 32 := BitVec.ofNat 32 (i 0).val
  let c0_i32_20 : BitVec 32 := 0#32
  let v44 : BitVec 1 := Scalar.cmpi .sgt arg0 c0_i32_20
  let v45 : BitVec 32 := Scalar.extui v44
  let c0_i32_21 : BitVec 32 := 0#32
  let v46 : BitVec 1 := Scalar.cmpi .ne v45 c0_i32_21
  v46

def k0_cond3 (i : grid0.Coords) : BitVec 1 :=
  let arg0 : BitVec 32 := BitVec.ofNat 32 (i 0).val
  let c0_i32_44 : BitVec 32 := 0#32
  let v86 : BitVec 1 := Scalar.cmpi .eq arg0 c0_i32_44
  let v87 : BitVec 32 := Scalar.extui v86
  let c0_i32_45 : BitVec 32 := 0#32
  let v88 : BitVec 1 := Scalar.cmpi .ne v87 c0_i32_45
  v88

def k0_cond4 (i : grid0.Coords) : BitVec 1 :=
  let arg0 : BitVec 32 := BitVec.ofNat 32 (i 0).val
  let c0_i32_46 : BitVec 32 := 0#32
  let v89 : BitVec 1 := Scalar.cmpi .sgt arg0 c0_i32_46
  let v90 : BitVec 32 := Scalar.extui v89
  let c0_i32_47 : BitVec 32 := 0#32
  let v91 : BitVec 1 := Scalar.cmpi .ne v90 c0_i32_47
  v91

def k0_cond5 (i : grid0.Coords) : BitVec 1 :=
  let arg0 : BitVec 32 := BitVec.ofNat 32 (i 0).val
  let c0_i32_71 : BitVec 32 := 0#32
  let v133 : BitVec 1 := Scalar.cmpi .eq arg0 c0_i32_71
  let v134 : BitVec 32 := Scalar.extui v133
  let c0_i32_72 : BitVec 32 := 0#32
  let v135 : BitVec 1 := Scalar.cmpi .ne v134 c0_i32_72
  v135

def k0_cond6 (i : grid0.Coords) : BitVec 1 :=
  let arg0 : BitVec 32 := BitVec.ofNat 32 (i 0).val
  let c0_i32_73 : BitVec 32 := 0#32
  let v136 : BitVec 1 := Scalar.cmpi .sgt arg0 c0_i32_73
  let v137 : BitVec 32 := Scalar.extui v136
  let c0_i32_74 : BitVec 32 := 0#32
  let v138 : BitVec 1 := Scalar.cmpi .ne v137 c0_i32_74
  v138

def k0_cond7 (i : grid0.Coords) : BitVec 1 :=
  let arg0 : BitVec 32 := BitVec.ofNat 32 (i 0).val
  let c0_i32_99 : BitVec 32 := 0#32
  let v182 : BitVec 1 := Scalar.cmpi .eq arg0 c0_i32_99
  let v183 : BitVec 32 := Scalar.extui v182
  let c0_i32_100 : BitVec 32 := 0#32
  let v184 : BitVec 1 := Scalar.cmpi .ne v183 c0_i32_100
  v184

def k0_cond8 (i : grid0.Coords) : BitVec 1 :=
  let arg0 : BitVec 32 := BitVec.ofNat 32 (i 0).val
  let c0_i32_101 : BitVec 32 := 0#32
  let v185 : BitVec 1 := Scalar.cmpi .sgt arg0 c0_i32_101
  let v186 : BitVec 32 := Scalar.extui v185
  let c0_i32_102 : BitVec 32 := 0#32
  let v187 : BitVec 1 := Scalar.cmpi .ne v186 c0_i32_102
  v187

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x1024 : Shape := ⟨2, ![8192, 1024]⟩
abbrev S8192x2048 : Shape := ⟨2, ![8192, 2048]⟩
abbrev S4x256x256 : Shape := ⟨3, ![4, 256, 256]⟩
abbrev S1x1024 : Shape := ⟨2, ![1, 1024]⟩
abbrev S1x8192x1024 : Shape := ⟨3, ![1, 8192, 1024]⟩
abbrev S1x8192x4x256 : Shape := ⟨4, ![1, 8192, 4, 256]⟩
abbrev S_ : Shape := ⟨0, ![]⟩
abbrev S8192 : Shape := ⟨1, ![8192]⟩
abbrev S1x8192x1x256 : Shape := ⟨4, ![1, 8192, 1, 256]⟩
abbrev S1x8192x256 : Shape := ⟨3, ![1, 8192, 256]⟩
abbrev S1x2x256 : Shape := ⟨3, ![1, 2, 256]⟩
abbrev S1x8190x256 : Shape := ⟨3, ![1, 8190, 256]⟩
abbrev S1x8192x1 : Shape := ⟨3, ![1, 8192, 1]⟩
abbrev S1x4x256 : Shape := ⟨3, ![1, 4, 256]⟩
abbrev S1x8188x256 : Shape := ⟨3, ![1, 8188, 256]⟩
abbrev S1x8x256 : Shape := ⟨3, ![1, 8, 256]⟩
abbrev S1x8184x256 : Shape := ⟨3, ![1, 8184, 256]⟩
abbrev S1x16x256 : Shape := ⟨3, ![1, 16, 256]⟩
abbrev S1x8176x256 : Shape := ⟨3, ![1, 8176, 256]⟩
abbrev S4x256x1x8192 : Shape := ⟨4, ![4, 256, 1, 8192]⟩
abbrev S1x1x1024 : Shape := ⟨3, ![1, 1, 1024]⟩
abbrev S1024 : Shape := ⟨1, ![1024]⟩
abbrev S4x1x8192x256 : Shape := ⟨4, ![4, 1, 8192, 256]⟩

abbrev nBuf : Space → Nat
  | .hbm => 195
  | .vmem => 0
  | .smem => 0
  | _ => 0

abbrev hbmTy0_0 (i : Nat) : BufTy := match i % 128 with
  | 0 => ⟨S8192x1024, .f32⟩
  | 1 => ⟨S8192x2048, .f32⟩
  | 2 => ⟨S4x256x256, .bf16⟩
  | 3 => ⟨S1x1024, .f32⟩
  | 4 => ⟨S8192x1024, .f32⟩
  | 5 => ⟨S1x8192x1024, .f32⟩
  | 6 => ⟨S1x8192x1024, .f32⟩
  | 7 => ⟨S4x256x256, .f32⟩
  | 8 => ⟨S1x8192x4x256, .f32⟩
  | 9 => ⟨S_, .f32⟩
  | 10 => ⟨S_, .f32⟩
  | 11 => ⟨S1x8192x4x256, .f32⟩
  | 12 => ⟨S8192, .f32⟩
  | 13 => ⟨S_, .f32⟩
  | 14 => ⟨S8192, .f32⟩
  | 15 => ⟨S8192, .f32⟩
  | 16 => ⟨S1x8192x1x256, .f32⟩
  | 17 => ⟨S1x8192x256, .f32⟩
  | 18 => ⟨S_, .f32⟩
  | 19 => ⟨S1x2x256, .f32⟩
  | 20 => ⟨S1x8190x256, .f32⟩
  | 21 => ⟨S1x8192x256, .f32⟩
  | 22 => ⟨S_, .f32⟩
  | 23 => ⟨S1x2x256, .f32⟩
  | 24 => ⟨S1x8192x256, .f32⟩
  | 25 => ⟨S_, .f32⟩
  | 26 => ⟨S8192, .f32⟩
  | 27 => ⟨S8192, .f32⟩
  | 28 => ⟨S1x8192x1, .f32⟩
  | 29 => ⟨S1x8192x256, .f32⟩
  | 30 => ⟨S1x8192x256, .f32⟩
  | 31 => ⟨S1x8192x1x256, .f32⟩
  | 32 => ⟨S1x8192x256, .f32⟩
  | 33 => ⟨S1x8192x256, .f32⟩
  | 34 => ⟨S1x8192x1x256, .f32⟩
  | 35 => ⟨S1x8192x256, .f32⟩
  | 36 => ⟨S_, .f32⟩
  | 37 => ⟨S1x4x256, .f32⟩
  | 38 => ⟨S1x8188x256, .f32⟩
  | 39 => ⟨S1x8192x256, .f32⟩
  | 40 => ⟨S_, .f32⟩
  | 41 => ⟨S1x4x256, .f32⟩
  | 42 => ⟨S1x8192x256, .f32⟩
  | 43 => ⟨S_, .f32⟩
  | 44 => ⟨S8192, .f32⟩
  | 45 => ⟨S8192, .f32⟩
  | 46 => ⟨S1x8192x1, .f32⟩
  | 47 => ⟨S1x8192x256, .f32⟩
  | 48 => ⟨S1x8192x256, .f32⟩
  | 49 => ⟨S1x8192x1x256, .f32⟩
  | 50 => ⟨S1x8192x256, .f32⟩
  | 51 => ⟨S1x8192x256, .f32⟩
  | 52 => ⟨S1x8192x1x256, .f32⟩
  | 53 => ⟨S1x8192x256, .f32⟩
  | 54 => ⟨S_, .f32⟩
  | 55 => ⟨S1x8x256, .f32⟩
  | 56 => ⟨S1x8184x256, .f32⟩
  | 57 => ⟨S1x8192x256, .f32⟩
  | 58 => ⟨S_, .f32⟩
  | 59 => ⟨S1x8x256, .f32⟩
  | 60 => ⟨S1x8192x256, .f32⟩
  | 61 => ⟨S_, .f32⟩
  | 62 => ⟨S8192, .f32⟩
  | 63 => ⟨S8192, .f32⟩
  | 64 => ⟨S1x8192x1, .f32⟩
  | 65 => ⟨S1x8192x256, .f32⟩
  | 66 => ⟨S1x8192x256, .f32⟩
  | 67 => ⟨S1x8192x1x256, .f32⟩
  | 68 => ⟨S1x8192x256, .f32⟩
  | 69 => ⟨S1x8192x256, .f32⟩
  | 70 => ⟨S1x8192x1x256, .f32⟩
  | 71 => ⟨S1x8192x256, .f32⟩
  | 72 => ⟨S_, .f32⟩
  | 73 => ⟨S1x16x256, .f32⟩
  | 74 => ⟨S1x8176x256, .f32⟩
  | 75 => ⟨S1x8192x256, .f32⟩
  | 76 => ⟨S_, .f32⟩
  | 77 => ⟨S1x16x256, .f32⟩
  | 78 => ⟨S1x8192x256, .f32⟩
  | 79 => ⟨S_, .f32⟩
  | 80 => ⟨S8192, .f32⟩
  | 81 => ⟨S8192, .f32⟩
  | 82 => ⟨S1x8192x1, .f32⟩
  | 83 => ⟨S1x8192x256, .f32⟩
  | 84 => ⟨S1x8192x256, .f32⟩
  | 85 => ⟨S1x8192x1x256, .f32⟩
  | 86 => ⟨S1x8192x256, .f32⟩
  | 87 => ⟨S1x8192x256, .f32⟩
  | 88 => ⟨S1x8192x1x256, .f32⟩
  | 89 => ⟨S1x8192x1x256, .f32⟩
  | 90 => ⟨S1x8192x1x256, .f32⟩
  | 91 => ⟨S1x8192x1x256, .f32⟩
  | 92 => ⟨S1x8192x4x256, .f32⟩
  | 93 => ⟨S4x256x1x8192, .f32⟩
  | 94 => ⟨S1x8192x4x256, .f32⟩
  | 95 => ⟨S1x8192x1024, .f32⟩
  | 96 => ⟨S1x1x1024, .f32⟩
  | 97 => ⟨S1x8192x1024, .f32⟩
  | 98 => ⟨S1x8192x1024, .f32⟩
  | 99 => ⟨S1x8192x1024, .f32⟩
  | 100 => ⟨S_, .f32⟩
  | 101 => ⟨S1x1024, .f32⟩
  | 102 => ⟨S1x1x1024, .f32⟩
  | 103 => ⟨S1x8192x1024, .f32⟩
  | 104 => ⟨S1x8192x1024, .f32⟩
  | 105 => ⟨S_, .f32⟩
  | 106 => ⟨S1024, .f32⟩
  | 107 => ⟨S1x1024, .f32⟩
  | 108 => ⟨S1x8192x4x256, .f32⟩
  | 109 => ⟨S4x256x1x8192, .f32⟩
  | 110 => ⟨S4x1x8192x256, .f32⟩
  | 111 => ⟨S1x8192x4x256, .f32⟩
  | 112 => ⟨S4x256x256, .f32⟩
  | 113 => ⟨S4x256x256, .f32⟩
  | 114 => ⟨S1x8192x1x256, .f32⟩
  | 115 => ⟨S1x8192x256, .f32⟩
  | 116 => ⟨S1x8192x1x256, .f32⟩
  | 117 => ⟨S1x8192x256, .f32⟩
  | 118 => ⟨S1x8192x1x256, .f32⟩
  | 119 => ⟨S1x8192x256, .f32⟩
  | 120 => ⟨S1x8192x1x256, .f32⟩
  | 121 => ⟨S1x8192x256, .f32⟩
  | 122 => ⟨S1x8192x256, .f32⟩
  | 123 => ⟨S1x8192x1x256, .f32⟩
  | 124 => ⟨S_, .f32⟩
  | 125 => ⟨S1x8192x4x256, .f32⟩
  | 126 => ⟨S1x8192x256, .f32⟩
  | 127 => ⟨S1x8192x256, .f32⟩
  | _ => ⟨S8192x1024, .f32⟩

abbrev hbmTy0_1 (i : Nat) : BufTy := match i % 128 with
  | 0 => ⟨S1x8192x256, .f32⟩
  | 1 => ⟨S1x16x256, .f32⟩
  | 2 => ⟨S1x8176x256, .f32⟩
  | 3 => ⟨S_, .f32⟩
  | 4 => ⟨S1x8192x256, .f32⟩
  | 5 => ⟨S1x8192x256, .f32⟩
  | 6 => ⟨S1x8192x1x256, .f32⟩
  | 7 => ⟨S_, .f32⟩
  | 8 => ⟨S1x8192x4x256, .f32⟩
  | 9 => ⟨S1x8192x256, .f32⟩
  | 10 => ⟨S1x8192x1x256, .f32⟩
  | 11 => ⟨S_, .f32⟩
  | 12 => ⟨S1x8192x4x256, .f32⟩
  | 13 => ⟨S1x8192x4x256, .f32⟩
  | 14 => ⟨S1x8192x256, .f32⟩
  | 15 => ⟨S1x8192x256, .f32⟩
  | 16 => ⟨S1x8192x256, .f32⟩
  | 17 => ⟨S1x8x256, .f32⟩
  | 18 => ⟨S1x8184x256, .f32⟩
  | 19 => ⟨S_, .f32⟩
  | 20 => ⟨S1x8192x256, .f32⟩
  | 21 => ⟨S1x8192x256, .f32⟩
  | 22 => ⟨S1x8192x1x256, .f32⟩
  | 23 => ⟨S_, .f32⟩
  | 24 => ⟨S1x8192x4x256, .f32⟩
  | 25 => ⟨S1x8192x4x256, .f32⟩
  | 26 => ⟨S1x8192x256, .f32⟩
  | 27 => ⟨S1x8192x1x256, .f32⟩
  | 28 => ⟨S_, .f32⟩
  | 29 => ⟨S1x8192x4x256, .f32⟩
  | 30 => ⟨S1x8192x4x256, .f32⟩
  | 31 => ⟨S1x8192x256, .f32⟩
  | 32 => ⟨S1x8192x256, .f32⟩
  | 33 => ⟨S1x8192x256, .f32⟩
  | 34 => ⟨S1x4x256, .f32⟩
  | 35 => ⟨S1x8188x256, .f32⟩
  | 36 => ⟨S_, .f32⟩
  | 37 => ⟨S1x8192x256, .f32⟩
  | 38 => ⟨S1x8192x256, .f32⟩
  | 39 => ⟨S1x8192x1x256, .f32⟩
  | 40 => ⟨S_, .f32⟩
  | 41 => ⟨S1x8192x4x256, .f32⟩
  | 42 => ⟨S1x8192x4x256, .f32⟩
  | 43 => ⟨S1x8192x256, .f32⟩
  | 44 => ⟨S1x8192x1x256, .f32⟩
  | 45 => ⟨S_, .f32⟩
  | 46 => ⟨S1x8192x4x256, .f32⟩
  | 47 => ⟨S1x8192x4x256, .f32⟩
  | 48 => ⟨S1x8192x256, .f32⟩
  | 49 => ⟨S1x8192x256, .f32⟩
  | 50 => ⟨S1x8192x256, .f32⟩
  | 51 => ⟨S1x2x256, .f32⟩
  | 52 => ⟨S1x8190x256, .f32⟩
  | 53 => ⟨S_, .f32⟩
  | 54 => ⟨S1x8192x256, .f32⟩
  | 55 => ⟨S1x8192x256, .f32⟩
  | 56 => ⟨S1x8192x1x256, .f32⟩
  | 57 => ⟨S_, .f32⟩
  | 58 => ⟨S1x8192x4x256, .f32⟩
  | 59 => ⟨S1x8192x4x256, .f32⟩
  | 60 => ⟨S_, .f32⟩
  | 61 => ⟨S_, .f32⟩
  | 62 => ⟨S1x8192x4x256, .f32⟩
  | 63 => ⟨S1x8192x4x256, .f32⟩
  | 64 => ⟨S1x8192x1024, .f32⟩
  | 65 => ⟨S8192x1024, .f32⟩
  | 66 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_12 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_13 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_cst_14 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_15 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_16 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_17 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_cst_18 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_19 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_20 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_21 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_22 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_cst_23 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_cst_24 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_cst_25 : Ref sig .tc := ⟨.hbm, 185, rfl⟩
abbrev main_v153 : Ref sig .tc := ⟨.hbm, 186, rfl⟩
abbrev main_v154 : Ref sig .tc := ⟨.hbm, 187, rfl⟩
abbrev main_call1_call0_cst : Ref sig .tc := ⟨.hbm, 188, rfl⟩
abbrev main_call1_call0_v0 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩

abbrev nD : Nat := 1
abbrev τ : Topo := Topo.v7x

variable {F : FTy → Type} [FloatOps F]
-- ==== Kernel2.lean ====
abbrev S8192x2048 : Shape := ⟨2, ![8192, 2048]⟩
abbrev S256x4096 : Shape := ⟨2, ![256, 4096]⟩
abbrev S512x2048 : Shape := ⟨2, ![512, 2048]⟩
abbrev S256x2048 : Shape := ⟨2, ![256, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .hbm, ⟨3, _⟩ => ⟨S8192x2048, .bf16⟩
  | .hbm, ⟨4, _⟩ => ⟨S256x4096, .f32⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S256x4096, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v141 : BitVec 32 := Scalar.extui v0
  let c0_i32_99 : BitVec 32 := 0#32
  let v142 : BitVec 1 := Scalar.cmpi .ne v141 c0_i32_99
  v142

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v143 : BitVec 1 := Scalar.xori v0 v_true
  let v144 : BitVec 32 := Scalar.extui v143
  let c0_i32_100 : BitVec 32 := 0#32
  let v145 : BitVec 1 := Scalar.cmpi .ne v144 c0_i32_100
  v145

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S8192x2048 : Shape := ⟨2, ![8192, 2048]⟩
abbrev S256x4096 : Shape := ⟨2, ![256, 4096]⟩
abbrev S1x8192x2048 : Shape := ⟨3, ![1, 8192, 2048]⟩
abbrev S1x256x4096 : Shape := ⟨3, ![1, 256, 4096]⟩
abbrev S1x8192x4x512 : Shape := ⟨4, ![1, 8192, 4, 512]⟩
abbrev S1x256x2x4x512 : Shape := ⟨5, ![1, 256, 2, 4, 512]⟩
abbrev S1x256x1x4x512 : Shape := ⟨5, ![1, 256, 1, 4, 512]⟩
abbrev S1x256x4x512 : Shape := ⟨4, ![1, 256, 4, 512]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x512x8192 : Shape := ⟨4, ![1, 4, 512, 8192]⟩
abbrev S1x4x512x256 : Shape := ⟨4, ![1, 4, 512, 256]⟩
abbrev S4x8192 : Shape := ⟨2, ![4, 8192]⟩
abbrev S1x4x256x512 : Shape := ⟨4, ![1, 4, 256, 512]⟩
abbrev S1x4x8192x512 : Shape := ⟨4, ![1, 4, 8192, 512]⟩

abbrev nBuf : Space → Nat
  | .hbm => 99
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .hbm, ⟨3, _⟩ => ⟨S1x8192x2048, .bf16⟩
  | .hbm, ⟨4, _⟩ => ⟨S1x8192x2048, .f32⟩
  | .hbm, ⟨5, _⟩ => ⟨S1x256x4096, .bf16⟩
  | .hbm, ⟨6, _⟩ => ⟨S1x256x4096, .f32⟩
  | .hbm, ⟨7, _⟩ => ⟨S1x8192x4x512, .f32⟩
  | .hbm, ⟨8, _⟩ => ⟨S1x256x2x4x512, .f32⟩
  | .hbm, ⟨9, _⟩ => ⟨S1x256x1x4x512, .f32⟩
  | .hbm, ⟨10, _⟩ => ⟨S1x256x4x512, .f32⟩
  | .hbm, ⟨11, _⟩ => ⟨S1x256x1x4x512, .f32⟩
  | .hbm, ⟨12, _⟩ => ⟨S1x256x4x512, .f32⟩
  | .hbm, ⟨13, _⟩ => ⟨S1x4x8192x256, .f32⟩
  | .hbm, ⟨14, _⟩ => ⟨S_, .f32⟩
  | .hbm, ⟨15, _⟩ => ⟨S1x4x8192x256, .f32⟩
  | .hbm, ⟨16, _⟩ => ⟨S1x4x8192x256, .f32⟩
  | .hbm, ⟨17, _⟩ => ⟨S_, .f32⟩
  | .hbm, ⟨18, _⟩ => ⟨S1x4x8192, .f32⟩
  | .hbm, ⟨19, _⟩ => ⟨S1x4x8192x1, .f32⟩
  | .hbm, ⟨20, _⟩ => ⟨S1x4x8192x256, .f32⟩
  | .hbm, ⟨21, _⟩ => ⟨S1x4x8192x256, .i1⟩
  | .hbm, ⟨22, _⟩ => ⟨S1x4x8192x256, .f32⟩
  | .hbm, ⟨23, _⟩ => ⟨S_, .f32⟩
  | .hbm, ⟨24, _⟩ => ⟨S1x4x8192, .f32⟩
  | .hbm, ⟨25, _⟩ => ⟨S_, .f32⟩
  | .hbm, ⟨26, _⟩ => ⟨S1x4x8192, .f32⟩
  | .hbm, ⟨27, _⟩ => ⟨S1x4x8192, .f32⟩
  | .hbm, ⟨28, _⟩ => ⟨S_, .f32⟩
  | .hbm, ⟨29, _⟩ => ⟨S1x4x8192, .f32⟩
  | .hbm, ⟨30, _⟩ => ⟨S1x4x8192, .i1⟩
  | .hbm, ⟨31, _⟩ => ⟨S_, .f32⟩
  | .hbm, ⟨32, _⟩ => ⟨S1x4x8192, .f32⟩
  | .hbm, ⟨33, _⟩ => ⟨S1x4x8192, .i1⟩
  | .hbm, ⟨34, _⟩ => ⟨S_, .f32⟩
  | .hbm, ⟨35, _⟩ => ⟨S1x4x8192, .f32⟩
  | .hbm, ⟨36, _⟩ => ⟨S_, .f32⟩
  | .hbm, ⟨37, _⟩ => ⟨S1x4x8192, .f32⟩
  | .hbm, ⟨38, _⟩ => ⟨S_, .f32⟩
  | .hbm, ⟨39, _⟩ => ⟨S1x4x8192, .f32⟩
  | .hbm, ⟨40, _⟩ => ⟨S1x4x8192, .f32⟩
  | .hbm, ⟨41, _⟩ => ⟨S1x4x8192, .f32⟩
  | .hbm, ⟨42, _⟩ => ⟨S1x4x8192x1, .f32⟩
  | .hbm, ⟨43, _⟩ => ⟨S1x4x8192x256, .f32⟩
  | .hbm, ⟨44, _⟩ => ⟨S1x4x8192x256, .f32⟩
  | .hbm, ⟨45, _⟩ => ⟨S1x4x8192x256, .f32⟩
  | .hbm, ⟨46, _⟩ => ⟨S_, .f32⟩
  | .hbm, ⟨47, _⟩ => ⟨S1x4x8192, .f32⟩
  | .hbm, ⟨48, _⟩ => ⟨S1x4x8192x1, .f32⟩
  | .hbm, ⟨49, _⟩ => ⟨S1x4x8192x256, .f32⟩
  | .hbm, ⟨50, _⟩ => ⟨S1x4x8192x256, .f32⟩
  | .hbm, ⟨51, _⟩ => ⟨S1x4x8192x1, .f32⟩
  | .hbm, ⟨52, _⟩ => ⟨S_, .f32⟩
  | .hbm, ⟨53, _⟩ => ⟨S1x4x8192x1, .f32⟩
  | .hbm, ⟨54, _⟩ => ⟨S1x4x8192x1, .f32⟩
  | .hbm, ⟨55, _⟩ => ⟨S1x4x512x8192, .f32⟩
  | .hbm, ⟨56, _⟩ => ⟨S1x8192x4x512, .f32⟩
  | .hbm, ⟨57, _⟩ => ⟨S1x8192x2048, .f32⟩
  | .hbm, ⟨58, _⟩ => ⟨S1x8192x2048, .bf16⟩
  | .hbm, ⟨59, _⟩ => ⟨S1x8192x2048, .f32⟩
  | .hbm, ⟨60, _⟩ => ⟨S1x8192x4x512, .f32⟩
  | .hbm, ⟨61, _⟩ => ⟨S1x4x512x8192, .f32⟩
  | .hbm, ⟨62, _⟩ => ⟨S1x4x8192x256, .f32⟩
  | .hbm, ⟨63, _⟩ => ⟨S1x4x512x256, .f32⟩
  | .hbm, ⟨64, _⟩ => ⟨S1x256x4x512, .f32⟩
  | .hbm, ⟨65, _⟩ => ⟨S1x4x8192x256, .f32⟩
  | .hbm, ⟨66, _⟩ => ⟨S1x4x8192x256, .f32⟩
  | .hbm, ⟨67, _⟩ => ⟨S1x4x8192x256, .f32⟩
  | .hbm, ⟨68, _⟩ => ⟨S_, .f32⟩
  | .hbm, ⟨69, _⟩ => ⟨S1x4x8192, .f32⟩
  | .hbm, ⟨70, _⟩ => ⟨S1x4x8192x1, .f32⟩
  | .hbm, ⟨71, _⟩ => ⟨S1x4x8192x1, .f32⟩
  | .hbm, ⟨72, _⟩ => ⟨S1x4x8192x256, .f32⟩
  | .hbm, ⟨73, _⟩ => ⟨S1x4x8192x256, .f32⟩
  | .hbm, ⟨74, _⟩ => ⟨S_, .f32⟩
  | .hbm, ⟨75, _⟩ => ⟨S4x8192, .f32⟩
  | .hbm, ⟨76, _⟩ => ⟨S1x4x8192, .f32⟩
  | .hbm, ⟨77, _⟩ => ⟨S1x4x8192x256, .f32⟩
  | .hbm, ⟨78, _⟩ => ⟨S1x4x8192x256, .f32⟩
  | .hbm, ⟨79, _⟩ => ⟨S1x4x8192x256, .f32⟩
  | .hbm, ⟨80, _⟩ => ⟨S_, .f32⟩
  | .hbm, ⟨81, _⟩ => ⟨S1x4x8192x256, .f32⟩
  | .hbm, ⟨82, _⟩ => ⟨S1x4x8192x256, .f32⟩
  | .hbm, ⟨83, _⟩ => ⟨S1x4x256x512, .f32⟩
  | .hbm, ⟨84, _⟩ => ⟨S1x256x4x512, .f32⟩
  | .hbm, ⟨85, _⟩ => ⟨S1x4x8192x512, .f32⟩
  | .hbm, ⟨86, _⟩ => ⟨S1x8192x4x512, .f32⟩
  | .hbm, ⟨87, _⟩ => ⟨S1x256x1x4x512, .f32⟩
  | .hbm, ⟨88, _⟩ => ⟨S_, .f32⟩
  | .hbm, ⟨89, _⟩ => ⟨S1x256x2x4x512, .f32⟩
  | .hbm, ⟨90, _⟩ => ⟨S1x256x1x4x512, .f32⟩
  | .hbm, ⟨91, _⟩ => ⟨S_, .f32⟩
  | .hbm, ⟨92, _⟩ => ⟨S1x256x2x4x512, .f32⟩
  | .hbm, ⟨93, _⟩ => ⟨S1x256x2x4x512, .f32⟩
  | .hbm, ⟨94, _⟩ => ⟨S1x256x4096, .f32⟩
  | .hbm, ⟨95, _⟩ => ⟨S1x8192x2048, .f32⟩
  | .hbm, ⟨96, _⟩ => ⟨S8192x2048, .f32⟩
  | .hbm, ⟨97, _⟩ => ⟨S8192x2048, .bf16⟩
  | .hbm, ⟨98, _⟩ => ⟨S256x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_13 : Ref sig .tc := ⟨.hbm, 88, rfl⟩
abbrev main_v71 : Ref sig .tc := ⟨.hbm, 89, rfl⟩
abbrev main_v72 : Ref sig .tc := ⟨.hbm, 90, rfl⟩
abbrev main_cst_14 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩

abbrev nD : Nat := 1
abbrev τ : Topo := Topo.v7x

variable {F : FTy → Type} [FloatOps F]
-- ==== Kernel3.lean ====
abbrev S8192x2048 : Shape := ⟨2, ![8192, 2048]⟩
abbrev S4x2048x1408 : Shape := ⟨3, ![4, 2048, 1408]⟩
abbrev S4x1408x2048 : Shape := ⟨3, ![4, 1408, 2048]⟩
abbrev S8192x5632 : Shape := ⟨2, ![8192, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩
abbrev S1x1408x2048 : Shape := ⟨3, ![1, 1408, 2048]⟩
abbrev S1408x2048 : Shape := ⟨2, ![1408, 2048]⟩

abbrev nBuf : Space → Nat
  | .hbm => 10
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S4x2048x1408, .bf16⟩
  | .hbm, ⟨3, _⟩ => ⟨S4x1408x2048, .bf16⟩
  | .hbm, ⟨4, _⟩ => ⟨S8192x2048, .bf16⟩
  | .hbm, ⟨5, _⟩ => ⟨S8192x5632, .bf16⟩
  | .hbm, ⟨6, _⟩ => ⟨S8192x5632, .bf16⟩
  | .hbm, ⟨7, _⟩ => ⟨S8192x5632, .bf16⟩
  | .hbm, ⟨8, _⟩ => ⟨S8192x5632, .bf16⟩
  | .hbm, ⟨9, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x2048, .bf16⟩
  | .local _ .vmem, ⟨13, _⟩ => ⟨S512x2048, .bf16⟩
  | .local _ .vmem, ⟨14, _⟩ => ⟨S1x1408x2048, .bf16⟩
  | .local _ .vmem, ⟨15, _⟩ => ⟨S1x1408x2048, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Reference3Ideal.lean ====
abbrev S8192x2048 : Shape := ⟨2, ![8192, 2048]⟩
abbrev S4x2048x1408 : Shape := ⟨3, ![4, 2048, 1408]⟩
abbrev S4x1408x2048 : Shape := ⟨3, ![4, 1408, 2048]⟩
abbrev S1x2048x1408 : Shape := ⟨3, ![1, 2048, 1408]⟩
abbrev S2048x1408 : Shape := ⟨2, ![2048, 1408]⟩
abbrev S2048x5632 : Shape := ⟨2, ![2048, 5632]⟩
abbrev S8192x5632 : Shape := ⟨2, ![8192, 5632]⟩
abbrev S_ : Shape := ⟨0, ![]⟩
abbrev S5632x2048 : Shape := ⟨2, ![5632, 2048]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S4x2048x1408, .bf16⟩
  | .hbm, ⟨3, _⟩ => ⟨S4x1408x2048, .bf16⟩
  | .hbm, ⟨4, _⟩ => ⟨S8192x2048, .bf16⟩
  | .hbm, ⟨5, _⟩ => ⟨S8192x2048, .f32⟩
  | .hbm, ⟨6, _⟩ => ⟨S1x2048x1408, .bf16⟩
  | .hbm, ⟨7, _⟩ => ⟨S2048x1408, .bf16⟩
  | .hbm, ⟨8, _⟩ => ⟨S2048x1408, .f32⟩
  | .hbm, ⟨9, _⟩ => ⟨S1x2048x1408, .bf16⟩
  | .hbm, ⟨10, _⟩ => ⟨S2048x1408, .bf16⟩
  | .hbm, ⟨11, _⟩ => ⟨S2048x1408, .f32⟩
  | .hbm, ⟨12, _⟩ => ⟨S1x2048x1408, .bf16⟩
  | .hbm, ⟨13, _⟩ => ⟨S2048x1408, .bf16⟩
  | .hbm, ⟨14, _⟩ => ⟨S2048x1408, .f32⟩
  | .hbm, ⟨15, _⟩ => ⟨S1x2048x1408, .bf16⟩
  | .hbm, ⟨16, _⟩ => ⟨S2048x1408, .bf16⟩
  | .hbm, ⟨17, _⟩ => ⟨S2048x1408, .f32⟩
  | .hbm, ⟨18, _⟩ => ⟨S2048x5632, .f32⟩
  | .hbm, ⟨19, _⟩ => ⟨S8192x5632, .f32⟩
  | .hbm, ⟨20, _⟩ => ⟨S1x2048x1408, .bf16⟩
  | .hbm, ⟨21, _⟩ => ⟨S2048x1408, .bf16⟩
  | .hbm, ⟨22, _⟩ => ⟨S2048x1408, .f32⟩
  | .hbm, ⟨23, _⟩ => ⟨S1x2048x1408, .bf16⟩
  | .hbm, ⟨24, _⟩ => ⟨S2048x1408, .bf16⟩
  | .hbm, ⟨25, _⟩ => ⟨S2048x1408, .f32⟩
  | .hbm, ⟨26, _⟩ => ⟨S1x2048x1408, .bf16⟩
  | .hbm, ⟨27, _⟩ => ⟨S2048x1408, .bf16⟩
  | .hbm, ⟨28, _⟩ => ⟨S2048x1408, .f32⟩
  | .hbm, ⟨29, _⟩ => ⟨S1x2048x1408, .bf16⟩
  | .hbm, ⟨30, _⟩ => ⟨S2048x1408, .bf16⟩
  | .hbm, ⟨31, _⟩ => ⟨S2048x1408, .f32⟩
  | .hbm, ⟨32, _⟩ => ⟨S2048x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S_, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S_, .f32⟩
  | .hbm, ⟨47, _⟩ => ⟨S8192x5632, .f32⟩
  | .hbm, ⟨48, _⟩ => ⟨S8192x5632, .f32⟩
  | .hbm, ⟨49, _⟩ => ⟨S_, .f32⟩
  | .hbm, ⟨50, _⟩ => ⟨S8192x5632, .f32⟩
  | .hbm, ⟨51, _⟩ => ⟨S8192x5632, .f32⟩
  | .hbm, ⟨52, _⟩ => ⟨S_, .f32⟩
  | .hbm, ⟨53, _⟩ => ⟨S8192x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x5632, .f32⟩
  | .hbm, ⟨58, _⟩ => ⟨S4x1408x2048, .f32⟩
  | .hbm, ⟨59, _⟩ => ⟨S5632x2048, .f32⟩
  | .hbm, ⟨60, _⟩ => ⟨S8192x2048, .f32⟩
  | .hbm, ⟨61, _⟩ => ⟨S8192x2048, .f32⟩
  | .hbm, ⟨62, _⟩ => ⟨S8192x5632, .f32⟩
  | .hbm, ⟨63, _⟩ => ⟨S8192x5632, .f32⟩
  | .hbm, ⟨64, _⟩ => ⟨S8192x5632, .f32⟩
  | .hbm, ⟨65, _⟩ => ⟨S8192x5632, .f32⟩
  | .hbm, ⟨66, _⟩ => ⟨S8192x5632, .f32⟩
  | .hbm, ⟨67, _⟩ => ⟨S8192x5632, .f32⟩
  | .hbm, ⟨68, _⟩ => ⟨S8192x5632, .f32⟩
  | .hbm, ⟨69, _⟩ => ⟨S8192x5632, .bf16⟩
  | .hbm, ⟨70, _⟩ => ⟨S8192x5632, .bf16⟩
  | .hbm, ⟨71, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v29 : Ref sig .tc := ⟨.hbm, 42, rfl⟩
abbrev main_v30 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_v31_2 : Ref sig .tc := ⟨.hbm, 51, rfl⟩
abbrev main_call1_cst_1 : Ref sig .tc := ⟨.hbm, 52, rfl⟩
abbrev main_call1_v6 : Ref sig .tc := ⟨.hbm, 53, rfl⟩
abbrev main_call1_v7 : Ref sig .tc := ⟨.hbm, 54, rfl⟩
abbrev main_v31_1 : Ref sig .tc := ⟨.hbm, 55, rfl⟩
abbrev main_v31_0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩

abbrev nD : Nat := 1
abbrev τ : Topo := Topo.v7x

variable {F : FTy → Type} [FloatOps F]
-- ==== Kernel4.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x2048 : Shape := ⟨2, ![8192, 2048]⟩
abbrev S8192x5632 : Shape := ⟨2, ![8192, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S4x2048x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .f32⟩
  | .local _ .vmem, ⟨5, _⟩ => ⟨S1x1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x5632 : Shape := ⟨2, ![8192, 5632]⟩
abbrev S_ : Shape := ⟨0, ![]⟩
abbrev S4x2048x1408 : Shape := ⟨3, ![4, 2048, 1408]⟩
abbrev S1x2048x1408 : Shape := ⟨3, ![1, 2048, 1408]⟩
abbrev S2048x1408 : Shape := ⟨2, ![2048, 1408]⟩
abbrev S2048x5632 : Shape := ⟨2, ![2048, 5632]⟩
abbrev S5632x2048 : Shape := ⟨2, ![5632, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S4x2048x1408, .f32⟩
  | .hbm, ⟨4, _⟩ => ⟨S8192x2048, .f32⟩
  | .hbm, ⟨5, _⟩ => ⟨S1x2048x1408, .f32⟩
  | .hbm, ⟨6, _⟩ => ⟨S2048x1408, .f32⟩
  | .hbm, ⟨7, _⟩ => ⟨S1x2048x1408, .f32⟩
  | .hbm, ⟨8, _⟩ => ⟨S2048x1408, .f32⟩
  | .hbm, ⟨9, _⟩ => ⟨S1x2048x1408, .f32⟩
  | .hbm, ⟨10, _⟩ => ⟨S2048x1408, .f32⟩
  | .hbm, ⟨11, _⟩ => ⟨S1x2048x1408, .f32⟩
  | .hbm, ⟨12, _⟩ => ⟨S2048x1408, .f32⟩
  | .hbm, ⟨13, _⟩ => ⟨S2048x5632, .f32⟩
  | .hbm, ⟨14, _⟩ => ⟨S8192x5632, .f32⟩
  | .hbm, ⟨15, _⟩ => ⟨S8192x5632, .f32⟩
  | .hbm, ⟨16, _⟩ => ⟨S5632x2048, .f32⟩
  | .hbm, ⟨17, _⟩ => ⟨S2048x5632, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S2048x1408, .f32⟩
  | .hbm, ⟨22, _⟩ => ⟨S1x2048x1408, .f32⟩
  | .hbm, ⟨23, _⟩ => ⟨S_, .f32⟩
  | .hbm, ⟨24, _⟩ => ⟨S4x2048x1408, .f32⟩
  | .hbm, ⟨25, _⟩ => ⟨S1x2048x1408, .f32⟩
  | .hbm, ⟨26, _⟩ => ⟨S_, .f32⟩
  | .hbm, ⟨27, _⟩ => ⟨S4x2048x1408, .f32⟩
  | .hbm, ⟨28, _⟩ => ⟨S4x2048x1408, .f32⟩
  | .hbm, ⟨29, _⟩ => ⟨S1x2048x1408, .f32⟩
  | .hbm, ⟨30, _⟩ => ⟨S_, .f32⟩
  | .hbm, ⟨31, _⟩ => ⟨S4x2048x1408, .f32⟩
  | .hbm, ⟨32, _⟩ => ⟨S4x2048x1408, .f32⟩
  | .hbm, ⟨33, _⟩ => ⟨S1x2048x1408, .f32⟩
  | .hbm, ⟨34, _⟩ => ⟨S_, .f32⟩
  | .hbm, ⟨35, _⟩ => ⟨S4x2048x1408, .f32⟩
  | .hbm, ⟨36, _⟩ => ⟨S4x2048x1408, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel6.lean ====
abbrev S8192x5632 : Shape := ⟨2, ![8192, 5632]⟩
abbrev S4x2048x1408 : Shape := ⟨3, ![4, 2048, 1408]⟩
abbrev S8192x2048 : Shape := ⟨2, ![8192, 2048]⟩
abbrev S1024x1408 : Shape := ⟨2, ![1024, 1408]⟩
abbrev S1x2048x1408 : Shape := ⟨3, ![1, 2048, 1408]⟩
abbrev S1024x2048 : Shape := ⟨2, ![1024, 2048]⟩
abbrev S512x1408 : Shape := ⟨2, ![512, 1408]⟩
abbrev S2048x1408 : Shape := ⟨2, ![2048, 1408]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S4x2048x1408, .bf16⟩
  | .hbm, ⟨3, _⟩ => ⟨S4x2048x1408, .bf16⟩
  | .hbm, ⟨4, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S1024x2048, .f32⟩
  | .local _ .vmem, ⟨9, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_10 : BitVec 32 := 0#32
  let v11 : BitVec 1 := Scalar.cmpi .ne v10 c0_i32_10
  v11

def k0_cond2 (i : grid0.Coords) : BitVec 1 :=
  let arg1 : BitVec 32 := BitVec.ofNat 32 (i 1).val
  let c0_i32_11 : BitVec 32 := 0#32
  let v12 : BitVec 1 := Scalar.cmpi .sgt arg1 c0_i32_11
  let v13 : BitVec 32 := Scalar.extui v12
  let c0_i32_12 : BitVec 32 := 0#32
  let v14 : BitVec 1 := Scalar.cmpi .ne v13 c0_i32_12
  v14

def k0_cond3 (i : grid0.Coords) : BitVec 1 :=
  let arg1 : BitVec 32 := BitVec.ofNat 32 (i 1).val
  let c0_i32_24 : BitVec 32 := 0#32
  let v24 : BitVec 1 := Scalar.cmpi .eq arg1 c0_i32_24
  let v25 : BitVec 32 := Scalar.extui v24
  let c0_i32_25 : BitVec 32 := 0#32
  let v26 : BitVec 1 := Scalar.cmpi .ne v25 c0_i32_25
  v26

def k0_cond4 (i : grid0.Coords) : BitVec 1 :=
  let arg1 : BitVec 32 := BitVec.ofNat 32 (i 1).val
  let c0_i32_26 : BitVec 32 := 0#32
  let v27 : BitVec 1 := Scalar.cmpi .sgt arg1 c0_i32_26
  let v28 : BitVec 32 := Scalar.extui v27
  let c0_i32_27 : BitVec 32 := 0#32
  let v29 : BitVec 1 := Scalar.cmpi .ne v28 c0_i32_27
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S8192x5632 : Shape := ⟨2, ![8192, 5632]⟩
abbrev S4x2048x1408 : Shape := ⟨3, ![4, 2048, 1408]⟩
abbrev S_ : Shape := ⟨0, ![]⟩
abbrev S8192x2048 : Shape := ⟨2, ![8192, 2048]⟩
abbrev S1x2048x1408 : Shape := ⟨3, ![1, 2048, 1408]⟩
abbrev S2048x1408 : Shape := ⟨2, ![2048, 1408]⟩
abbrev S2048x5632 : Shape := ⟨2, ![2048, 5632]⟩

abbrev nBuf : Space → Nat
  | .hbm => 39
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S4x2048x1408, .bf16⟩
  | .hbm, ⟨3, _⟩ => ⟨S4x2048x1408, .bf16⟩
  | .hbm, ⟨4, _⟩ => ⟨S_, .f32⟩
  | .hbm, ⟨5, _⟩ => ⟨S8192x2048, .f32⟩
  | .hbm, ⟨6, _⟩ => ⟨S1x2048x1408, .bf16⟩
  | .hbm, ⟨7, _⟩ => ⟨S2048x1408, .bf16⟩
  | .hbm, ⟨8, _⟩ => ⟨S2048x1408, .f32⟩
  | .hbm, ⟨9, _⟩ => ⟨S1x2048x1408, .bf16⟩
  | .hbm, ⟨10, _⟩ => ⟨S2048x1408, .bf16⟩
  | .hbm, ⟨11, _⟩ => ⟨S2048x1408, .f32⟩
  | .hbm, ⟨12, _⟩ => ⟨S1x2048x1408, .bf16⟩
  | .hbm, ⟨13, _⟩ => ⟨S2048x1408, .bf16⟩
  | .hbm, ⟨14, _⟩ => ⟨S2048x1408, .f32⟩
  | .hbm, ⟨15, _⟩ => ⟨S1x2048x1408, .bf16⟩
  | .hbm, ⟨16, _⟩ => ⟨S2048x1408, .bf16⟩
  | .hbm, ⟨17, _⟩ => ⟨S2048x1408, .f32⟩
  | .hbm, ⟨18, _⟩ => ⟨S2048x5632, .f32⟩
  | .hbm, ⟨19, _⟩ => ⟨S8192x5632, .f32⟩
  | .hbm, ⟨20, _⟩ => ⟨S1x2048x1408, .bf16⟩
  | .hbm, ⟨21, _⟩ => ⟨S2048x1408, .bf16⟩
  | .hbm, ⟨22, _⟩ => ⟨S2048x1408, .f32⟩
  | .hbm, ⟨23, _⟩ => ⟨S1x2048x1408, .bf16⟩
  | .hbm, ⟨24, _⟩ => ⟨S2048x1408, .bf16⟩
  | .hbm, ⟨25, _⟩ => ⟨S2048x1408, .f32⟩
  | .hbm, ⟨26, _⟩ => ⟨S1x2048x1408, .bf16⟩
  | .hbm, ⟨27, _⟩ => ⟨S2048x1408, .bf16⟩
  | .hbm, ⟨28, _⟩ => ⟨S2048x1408, .f32⟩
  | .hbm, ⟨29, _⟩ => ⟨S1x2048x1408, .bf16⟩
  | .hbm, ⟨30, _⟩ => ⟨S2048x1408, .bf16⟩
  | .hbm, ⟨31, _⟩ => ⟨S2048x1408, .f32⟩
  | .hbm, ⟨32, _⟩ => ⟨S2048x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x2048, .f32⟩
  | .hbm, ⟨37, _⟩ => ⟨S8192x2048, .f32⟩
  | .hbm, ⟨38, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== Kernel7.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32_15 : BitVec 32 := 0#32
  let v38 : BitVec 1 := Scalar.cmpi .sgt arg0 c0_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference7Ideal.lean ====
abbrev S8192x2048 : Shape := ⟨2, ![8192, 2048]⟩
abbrev S1x2048 : Shape := ⟨2, ![1, 2048]⟩
abbrev S1x8192x2048 : Shape := ⟨3, ![1, 8192, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S2048 : Shape := ⟨1, ![2048]⟩
abbrev S8192 : Shape := ⟨1, ![8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S1x8192x2048, .f32⟩
  | .hbm, ⟨5, _⟩ => ⟨S1x8192x2048, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x2048, .f32⟩
  | .hbm, ⟨21, _⟩ => ⟨S1x8192x2048, .f32⟩
  | .hbm, ⟨22, _⟩ => ⟨S1x1x2048, .f32⟩
  | .hbm, ⟨23, _⟩ => ⟨S1x8192x2048, .f32⟩
  | .hbm, ⟨24, _⟩ => ⟨S1x8192x2048, .f32⟩
  | .hbm, ⟨25, _⟩ => ⟨S1x8192x2048, .f32⟩
  | .hbm, ⟨26, _⟩ => ⟨S1x8192x2048, .f32⟩
  | .hbm, ⟨27, _⟩ => ⟨S1x8192x2048, .f32⟩
  | .hbm, ⟨28, _⟩ => ⟨S_, .f32⟩
  | .hbm, ⟨29, _⟩ => ⟨S1x2048, .f32⟩
  | .hbm, ⟨30, _⟩ => ⟨S1x1x2048, .f32⟩
  | .hbm, ⟨31, _⟩ => ⟨S1x8192x2048, .f32⟩
  | .hbm, ⟨32, _⟩ => ⟨S1x8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S1x8192x2048, .f32⟩
  | .hbm, ⟨37, _⟩ => ⟨S_, .f32⟩
  | .hbm, ⟨38, _⟩ => ⟨S1x8192, .f32⟩
  | .hbm, ⟨39, _⟩ => ⟨S1x8192x1, .f32⟩
  | .hbm, ⟨40, _⟩ => ⟨S1x8192x2048, .f32⟩
  | .hbm, ⟨41, _⟩ => ⟨S1x8192x2048, .f32⟩
  | .hbm, ⟨42, _⟩ => ⟨S1x8192x2048, .f32⟩
  | .hbm, ⟨43, _⟩ => ⟨S1x8192x1, .f32⟩
  | .hbm, ⟨44, _⟩ => ⟨S_, .f32⟩
  | .hbm, ⟨45, _⟩ => ⟨S1x8192x1, .f32⟩
  | .hbm, ⟨46, _⟩ => ⟨S1x8192x1, .f32⟩
  | .hbm, ⟨47, _⟩ => ⟨S_, .f32⟩
  | .hbm, ⟨48, _⟩ => ⟨S8192, .f32⟩
  | .hbm, ⟨49, _⟩ => ⟨S1x8192, .f32⟩
  | .hbm, ⟨50, _⟩ => ⟨S1x8192x2048, .f32⟩
  | .hbm, ⟨51, _⟩ => ⟨S1x8192x2048, .f32⟩
  | .hbm, ⟨52, _⟩ => ⟨S1x8192x2048, .f32⟩
  | .hbm, ⟨53, _⟩ => ⟨S1x8192x2048, .f32⟩
  | .hbm, ⟨54, _⟩ => ⟨S1x8192x2048, .f32⟩
  | .hbm, ⟨55, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel8.lean ====
abbrev S8192x5632 : Shape := ⟨2, ![8192, 5632]⟩
abbrev S4x1408x2048 : Shape := ⟨3, ![4, 1408, 2048]⟩
abbrev S8192x2048 : Shape := ⟨2, ![8192, 2048]⟩
abbrev S5632x2048 : Shape := ⟨2, ![5632, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S4x1408x2048, .bf16⟩
  | .hbm, ⟨2, _⟩ => ⟨S8192x2048, .f32⟩
  | .hbm, ⟨3, _⟩ => ⟨S5632x2048, .bf16⟩
  | .hbm, ⟨4, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x5632 : Shape := ⟨2, ![8192, 5632]⟩
abbrev S4x1408x2048 : Shape := ⟨3, ![4, 1408, 2048]⟩
abbrev S8192x2048 : Shape := ⟨2, ![8192, 2048]⟩
abbrev S5632x2048 : Shape := ⟨2, ![5632, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1408x2048, .bf16⟩
  | .hbm, ⟨2, _⟩ => ⟨S8192x2048, .f32⟩
  | .hbm, ⟨3, _⟩ => ⟨S8192x5632, .f32⟩
  | .hbm, ⟨4, _⟩ => ⟨S4x1408x2048, .f32⟩
  | .hbm, ⟨5, _⟩ => ⟨S5632x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel9Ideal.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel10Ideal.lean ====
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel11Ideal.lean ====
abbrev S1x512 : Shape := ⟨2, ![1, 512]⟩

abbrev nBuf : Space → Nat
  | .hbm => 8
  | .vmem => 8
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference11Ideal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S16x128 : Shape := ⟨2, ![16, 128]⟩

abbrev nBuf : Space → Nat
  | .hbm => 8
  | .vmem => 8
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel12Ideal.lean ====
abbrev S16x128 : Shape := ⟨2, ![16, 128]⟩

abbrev nBuf : Space → Nat
  | .hbm => 8
  | .vmem => 8
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference12Ideal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel13Ideal.lean ====
abbrev S256x256 : Shape := ⟨2, ![256, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S1408x2048 : Shape := ⟨2, ![1408, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel14Ideal.lean ====
abbrev S1408x2048 : Shape := ⟨2, ![1408, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2048x1408 : Shape := ⟨2, ![2048, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2048x1408 : Shape := ⟨2, ![2048, 1408]⟩
abbrev S8x128 : Shape := ⟨2, ![8, 128]⟩
abbrev S256x1408 : Shape := ⟨2, ![256, 1408]⟩

abbrev nBuf : Space → Nat
  | .hbm => 9
  | .vmem => 17
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x128, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S8x128, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel16Ideal.lean ====
abbrev S2048x1408 : Shape := ⟨2, ![2048, 1408]⟩
abbrev S8x128 : Shape := ⟨2, ![8, 128]⟩
abbrev S256x1408 : Shape := ⟨2, ![256, 1408]⟩

abbrev nBuf : Space → Nat
  | .hbm => 9
  | .vmem => 17
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x128, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S8x128, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S2048x1408 : Shape := ⟨2, ![2048, 1408]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x128, .f32⟩
  | .hbm, ⟨5, _⟩ => ⟨S_, .f32⟩
  | .hbm, ⟨6, _⟩ => ⟨S2048x1408, .f32⟩
  | .hbm, ⟨7, _⟩ => ⟨S2048x1408, .f32⟩
  | .hbm, ⟨8, _⟩ => ⟨S_, .f32⟩
  | .hbm, ⟨9, _⟩ => ⟨S2048x1408, .f32⟩
  | .hbm, ⟨10, _⟩ => ⟨S2048x1408, .f32⟩
  | .hbm, ⟨11, _⟩ => ⟨S2048x1408, .f32⟩
  | .hbm, ⟨12, _⟩ => ⟨S_, .f32⟩
  | .hbm, ⟨13, _⟩ => ⟨S2048x1408, .f32⟩
  | .hbm, ⟨14, _⟩ => ⟨S2048x1408, .f32⟩
  | .hbm, ⟨15, _⟩ => ⟨S2048x1408, .f32⟩
  | .hbm, ⟨16, _⟩ => ⟨S_, .f32⟩
  | .hbm, ⟨17, _⟩ => ⟨S2048x1408, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S_, .f32⟩
  | .hbm, ⟨24, _⟩ => ⟨S2048x1408, .f32⟩
  | .hbm, ⟨25, _⟩ => ⟨S2048x1408, .f32⟩
  | .hbm, ⟨26, _⟩ => ⟨S2048x1408, .f32⟩
  | .hbm, ⟨27, _⟩ => ⟨S_, .f32⟩
  | .hbm, ⟨28, _⟩ => ⟨S2048x1408, .f32⟩
  | .hbm, ⟨29, _⟩ => ⟨S2048x1408, .f32⟩
  | .hbm, ⟨30, _⟩ => ⟨S2048x1408, .f32⟩
  | .hbm, ⟨31, _⟩ => ⟨S_, .f32⟩
  | .hbm, ⟨32, _⟩ => ⟨S2048x1408, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel17.lean ====
abbrev S2048x1028 : Shape := ⟨2, ![2048, 1028]⟩
abbrev S8x128 : Shape := ⟨2, ![8, 128]⟩
abbrev S256x1028 : Shape := ⟨2, ![256, 1028]⟩

abbrev nBuf : Space → Nat
  | .hbm => 14
  | .vmem => 22
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S2048x1028, .f32⟩
  | .hbm, ⟨11, _⟩ => ⟨S2048x1028, .f32⟩
  | .hbm, ⟨12, _⟩ => ⟨S2048x1028, .f32⟩
  | .hbm, ⟨13, _⟩ => ⟨S2048x1028, .f32⟩
  | .local _ .vmem, ⟨0, _⟩ => ⟨S256x1028, .f32⟩
  | .local _ .vmem, ⟨1, _⟩ => ⟨S256x1028, .f32⟩
  | .local _ .vmem, ⟨2, _⟩ => ⟨S256x1028, .f32⟩
  | .local _ .vmem, ⟨3, _⟩ => ⟨S256x1028, .f32⟩
  | .local _ .vmem, ⟨4, _⟩ => ⟨S256x1028, .f32⟩
  | .local _ .vmem, ⟨5, _⟩ => ⟨S256x1028, .f32⟩
  | .local _ .vmem, ⟨6, _⟩ => ⟨S256x1028, .f32⟩
  | .local _ .vmem, ⟨7, _⟩ => ⟨S256x1028, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S256x1028, .f32⟩
  | .local _ .vmem, ⟨15, _⟩ => ⟨S256x1028, .f32⟩
  | .local _ .vmem, ⟨16, _⟩ => ⟨S256x1028, .f32⟩
  | .local _ .vmem, ⟨17, _⟩ => ⟨S256x1028, .f32⟩
  | .local _ .vmem, ⟨18, _⟩ => ⟨S256x1028, .f32⟩
  | .local _ .vmem, ⟨19, _⟩ => ⟨S256x1028, .f32⟩
  | .local _ .vmem, ⟨20, _⟩ => ⟨S256x1028, .f32⟩
  | .local _ .vmem, ⟨21, _⟩ => ⟨S256x1028, .f32⟩
  | _, _ => ⟨S2048x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1028 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1028 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1028 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1028 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1028 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference17Ideal.lean ====
abbrev S2048x1028 : Shape := ⟨2, ![2048, 1028]⟩
abbrev S8x128 : Shape := ⟨2, ![8, 128]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S2048x1028, .f32⟩
  | .hbm, ⟨1, _⟩ => ⟨S2048x1028, .f32⟩
  | .hbm, ⟨2, _⟩ => ⟨S2048x1028, .f32⟩
  | .hbm, ⟨3, _⟩ => ⟨S2048x1028, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S_, .f32⟩
  | .hbm, ⟨11, _⟩ => ⟨S2048x1028, .f32⟩
  | .hbm, ⟨12, _⟩ => ⟨S2048x1028, .f32⟩
  | .hbm, ⟨13, _⟩ => ⟨S_, .f32⟩
  | .hbm, ⟨14, _⟩ => ⟨S2048x1028, .f32⟩
  | .hbm, ⟨15, _⟩ => ⟨S2048x1028, .f32⟩
  | .hbm, ⟨16, _⟩ => ⟨S2048x1028, .f32⟩
  | .hbm, ⟨17, _⟩ => ⟨S_, .f32⟩
  | .hbm, ⟨18, _⟩ => ⟨S2048x1028, .f32⟩
  | .hbm, ⟨19, _⟩ => ⟨S2048x1028, .f32⟩
  | .hbm, ⟨20, _⟩ => ⟨S2048x1028, .f32⟩
  | .hbm, ⟨21, _⟩ => ⟨S_, .f32⟩
  | .hbm, ⟨22, _⟩ => ⟨S2048x1028, .f32⟩
  | .hbm, ⟨23, _⟩ => ⟨S2048x1028, .f32⟩
  | .hbm, ⟨24, _⟩ => ⟨S2048x1028, .f32⟩
  | .hbm, ⟨25, _⟩ => ⟨S_, .f32⟩
  | .hbm, ⟨26, _⟩ => ⟨S2048x1028, .f32⟩
  | .hbm, ⟨27, _⟩ => ⟨S2048x1028, .f32⟩
  | .hbm, ⟨28, _⟩ => ⟨S_, .f32⟩
  | .hbm, ⟨29, _⟩ => ⟨S2048x1028, .f32⟩
  | .hbm, ⟨30, _⟩ => ⟨S2048x1028, .f32⟩
  | .hbm, ⟨31, _⟩ => ⟨S2048x1028, .f32⟩
  | .hbm, ⟨32, _⟩ => ⟨S_, .f32⟩
  | .hbm, ⟨33, _⟩ => ⟨S2048x1028, .f32⟩
  | .hbm, ⟨34, _⟩ => ⟨S2048x1028, .f32⟩
  | .hbm, ⟨35, _⟩ => ⟨S2048x1028, .f32⟩
  | .hbm, ⟨36, _⟩ => ⟨S_, .f32⟩
  | .hbm, ⟨37, _⟩ => ⟨S2048x1028, .f32⟩
  | .hbm, ⟨38, _⟩ => ⟨S2048x1028, .f32⟩
  | .hbm, ⟨39, _⟩ => ⟨S2048x1028, .f32⟩
  | .hbm, ⟨40, _⟩ => ⟨S_, .f32⟩
  | .hbm, ⟨41, _⟩ => ⟨S2048x1028, .f32⟩
  | .hbm, ⟨42, _⟩ => ⟨S2048x1028, .f32⟩
  | _, _ => ⟨S2048x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel18.lean ====
abbrev S8192x2048 : Shape := ⟨2, ![8192, 2048]⟩
abbrev S2048x4224 : Shape := ⟨2, ![2048, 4224]⟩
abbrev S8192x4224 : Shape := ⟨2, ![8192, 4224]⟩
abbrev S512x2048 : Shape := ⟨2, ![512, 2048]⟩
abbrev S2048x1408 : Shape := ⟨2, ![2048, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4224, .bf16⟩
  | .hbm, ⟨2, _⟩ => ⟨S8192x4224, .f32⟩
  | .local _ .vmem, ⟨0, _⟩ => ⟨S512x2048, .bf16⟩
  | .local _ .vmem, ⟨1, _⟩ => ⟨S512x2048, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .f32⟩
  | .local _ .vmem, ⟨5, _⟩ => ⟨S512x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S2048x4224 : Shape := ⟨2, ![2048, 4224]⟩
abbrev S8192x4224 : Shape := ⟨2, ![8192, 4224]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4224, .bf16⟩
  | .hbm, ⟨2, _⟩ => ⟨S8192x2048, .f32⟩
  | .hbm, ⟨3, _⟩ => ⟨S2048x4224, .f32⟩
  | .hbm, ⟨4, _⟩ => ⟨S8192x4224, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S256x2048 : Shape := ⟨2, ![256, 2048]⟩
abbrev S4x2048x1024 : Shape := ⟨3, ![4, 2048, 1024]⟩
abbrev S256x4096 : Shape := ⟨2, ![256, 4096]⟩
abbrev S1x2048x1024 : Shape := ⟨3, ![1, 2048, 1024]⟩
abbrev S256x1024 : Shape := ⟨2, ![256, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S4x2048x1024, .bf16⟩
  | .hbm, ⟨2, _⟩ => ⟨S256x4096, .bf16⟩
  | .local _ .vmem, ⟨0, _⟩ => ⟨S256x2048, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S256x2048 : Shape := ⟨2, ![256, 2048]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S2048x4096 : Shape := ⟨2, ![2048, 4096]⟩
abbrev S256x4096 : Shape := ⟨2, ![256, 4096]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x2048x1024, .bf16⟩
  | .hbm, ⟨2, _⟩ => ⟨S256x2048, .f32⟩
  | .hbm, ⟨3, _⟩ => ⟨S1x2048x1024, .bf16⟩
  | .hbm, ⟨4, _⟩ => ⟨S2048x1024, .bf16⟩
  | .hbm, ⟨5, _⟩ => ⟨S2048x1024, .f32⟩
  | .hbm, ⟨6, _⟩ => ⟨S1x2048x1024, .bf16⟩
  | .hbm, ⟨7, _⟩ => ⟨S2048x1024, .bf16⟩
  | .hbm, ⟨8, _⟩ => ⟨S2048x1024, .f32⟩
  | .hbm, ⟨9, _⟩ => ⟨S1x2048x1024, .bf16⟩
  | .hbm, ⟨10, _⟩ => ⟨S2048x1024, .bf16⟩
  | .hbm, ⟨11, _⟩ => ⟨S2048x1024, .f32⟩
  | .hbm, ⟨12, _⟩ => ⟨S1x2048x1024, .bf16⟩
  | .hbm, ⟨13, _⟩ => ⟨S2048x1024, .bf16⟩
  | .hbm, ⟨14, _⟩ => ⟨S2048x1024, .f32⟩
  | .hbm, ⟨15, _⟩ => ⟨S2048x4096, .f32⟩
  | .hbm, ⟨16, _⟩ => ⟨S256x4096, .f32⟩
  | .hbm, ⟨17, _⟩ => ⟨S256x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel22.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S256x2048 : Shape := ⟨2, ![256, 2048]⟩
abbrev S256x4096 : Shape := ⟨2, ![256, 4096]⟩
abbrev S4x2048x1024 : Shape := ⟨3, ![4, 2048, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S4x2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024x1024, .f32⟩
  | .local _ .vmem, ⟨5, _⟩ => ⟨S1x1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S256x2048 : Shape := ⟨2, ![256, 2048]⟩
abbrev S256x4096 : Shape := ⟨2, ![256, 4096]⟩
abbrev S_ : Shape := ⟨0, ![]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S2048x4096 : Shape := ⟨2, ![2048, 4096]⟩
abbrev S4096x2048 : Shape := ⟨2, ![4096, 2048]⟩

abbrev nBuf : Space → Nat
  | .hbm => 37
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x4096, .bf16⟩
  | .hbm, ⟨2, _⟩ => ⟨S_, .f32⟩
  | .hbm, ⟨3, _⟩ => ⟨S4x2048x1024, .f32⟩
  | .hbm, ⟨4, _⟩ => ⟨S256x2048, .f32⟩
  | .hbm, ⟨5, _⟩ => ⟨S1x2048x1024, .f32⟩
  | .hbm, ⟨6, _⟩ => ⟨S2048x1024, .f32⟩
  | .hbm, ⟨7, _⟩ => ⟨S1x2048x1024, .f32⟩
  | .hbm, ⟨8, _⟩ => ⟨S2048x1024, .f32⟩
  | .hbm, ⟨9, _⟩ => ⟨S1x2048x1024, .f32⟩
  | .hbm, ⟨10, _⟩ => ⟨S2048x1024, .f32⟩
  | .hbm, ⟨11, _⟩ => ⟨S1x2048x1024, .f32⟩
  | .hbm, ⟨12, _⟩ => ⟨S2048x1024, .f32⟩
  | .hbm, ⟨13, _⟩ => ⟨S2048x4096, .f32⟩
  | .hbm, ⟨14, _⟩ => ⟨S256x4096, .f32⟩
  | .hbm, ⟨15, _⟩ => ⟨S256x4096, .f32⟩
  | .hbm, ⟨16, _⟩ => ⟨S4096x2048, .f32⟩
  | .hbm, ⟨17, _⟩ => ⟨S2048x4096, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1x2048x1024, .f32⟩
  | .hbm, ⟨23, _⟩ => ⟨S_, .f32⟩
  | .hbm, ⟨24, _⟩ => ⟨S4x2048x1024, .f32⟩
  | .hbm, ⟨25, _⟩ => ⟨S1x2048x1024, .f32⟩
  | .hbm, ⟨26, _⟩ => ⟨S_, .f32⟩
  | .hbm, ⟨27, _⟩ => ⟨S4x2048x1024, .f32⟩
  | .hbm, ⟨28, _⟩ => ⟨S4x2048x1024, .f32⟩
  | .hbm, ⟨29, _⟩ => ⟨S1x2048x1024, .f32⟩
  | .hbm, ⟨30, _⟩ => ⟨S_, .f32⟩
  | .hbm, ⟨31, _⟩ => ⟨S4x2048x1024, .f32⟩
  | .hbm, ⟨32, _⟩ => ⟨S4x2048x1024, .f32⟩
  | .hbm, ⟨33, _⟩ => ⟨S1x2048x1024, .f32⟩
  | .hbm, ⟨34, _⟩ => ⟨S_, .f32⟩
  | .hbm, ⟨35, _⟩ => ⟨S4x2048x1024, .f32⟩
  | .hbm, ⟨36, _⟩ => ⟨S4x2048x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel26.lean ====
abbrev S256x4096 : Shape := ⟨2, ![256, 4096]⟩
abbrev S4x2048x1024 : Shape := ⟨3, ![4, 2048, 1024]⟩
abbrev S256x2048 : Shape := ⟨2, ![256, 2048]⟩
abbrev S256x1024 : Shape := ⟨2, ![256, 1024]⟩
abbrev S1x2048x1024 : Shape := ⟨3, ![1, 2048, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .bf16⟩
  | .hbm, ⟨1, _⟩ => ⟨S4x2048x1024, .bf16⟩
  | .hbm, ⟨2, _⟩ => ⟨S256x2048, .f32⟩
  | .local _ .vmem, ⟨0, _⟩ => ⟨S256x1024, .bf16⟩
  | .local _ .vmem, ⟨1, _⟩ => ⟨S256x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S256x2048, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S256x4096 : Shape := ⟨2, ![256, 4096]⟩
abbrev S4x2048x1024 : Shape := ⟨3, ![4, 2048, 1024]⟩
abbrev S_ : Shape := ⟨0, ![]⟩
abbrev S256x2048 : Shape := ⟨2, ![256, 2048]⟩
abbrev S1x2048x1024 : Shape := ⟨3, ![1, 2048, 1024]⟩
abbrev S2048x1024 : Shape := ⟨2, ![2048, 1024]⟩
abbrev S2048x4096 : Shape := ⟨2, ![2048, 4096]⟩

abbrev nBuf : Space → Nat
  | .hbm => 20
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S4x2048x1024, .bf16⟩
  | .hbm, ⟨2, _⟩ => ⟨S_, .f32⟩
  | .hbm, ⟨3, _⟩ => ⟨S256x2048, .f32⟩
  | .hbm, ⟨4, _⟩ => ⟨S1x2048x1024, .bf16⟩
  | .hbm, ⟨5, _⟩ => ⟨S2048x1024, .bf16⟩
  | .hbm, ⟨6, _⟩ => ⟨S2048x1024, .f32⟩
  | .hbm, ⟨7, _⟩ => ⟨S1x2048x1024, .bf16⟩
  | .hbm, ⟨8, _⟩ => ⟨S2048x1024, .bf16⟩
  | .hbm, ⟨9, _⟩ => ⟨S2048x1024, .f32⟩
  | .hbm, ⟨10, _⟩ => ⟨S1x2048x1024, .bf16⟩
  | .hbm, ⟨11, _⟩ => ⟨S2048x1024, .bf16⟩
  | .hbm, ⟨12, _⟩ => ⟨S2048x1024, .f32⟩
  | .hbm, ⟨13, _⟩ => ⟨S1x2048x1024, .bf16⟩
  | .hbm, ⟨14, _⟩ => ⟨S2048x1024, .bf16⟩
  | .hbm, ⟨15, _⟩ => ⟨S2048x1024, .f32⟩
  | .hbm, ⟨16, _⟩ => ⟨S2048x4096, .f32⟩
  | .hbm, ⟨17, _⟩ => ⟨S256x4096, .f32⟩
  | .hbm, ⟨18, _⟩ => ⟨S256x4096, .f32⟩
  | .hbm, ⟨19, _⟩ => ⟨S256x2048, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel27.lean ====
abbrev S8192x4224 : Shape := ⟨2, ![8192, 4224]⟩
abbrev S2048x4224 : Shape := ⟨2, ![2048, 4224]⟩
abbrev S8192x2048 : Shape := ⟨2, ![8192, 2048]⟩
abbrev S512x4224 : Shape := ⟨2, ![512, 4224]⟩
abbrev S1024x4224 : Shape := ⟨2, ![1024, 4224]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4224, .bf16⟩
  | .hbm, ⟨1, _⟩ => ⟨S2048x4224, .bf16⟩
  | .hbm, ⟨2, _⟩ => ⟨S8192x2048, .f32⟩
  | .local _ .vmem, ⟨0, _⟩ => ⟨S512x4224, .bf16⟩
  | .local _ .vmem, ⟨1, _⟩ => ⟨S512x4224, .bf16⟩
  | .local _ .vmem, ⟨2, _⟩ => ⟨S1024x4224, .bf16⟩
  | .local _ .vmem, ⟨3, _⟩ => ⟨S1024x4224, .bf16⟩
  | .local _ .vmem, ⟨4, _⟩ => ⟨S512x1024, .f32⟩
  | .local _ .vmem, ⟨5, _⟩ => ⟨S512x1024, .f32⟩
  | _, _ => ⟨S8192x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x4224 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S8192x4224 : Shape := ⟨2, ![8192, 4224]⟩
abbrev S2048x4224 : Shape := ⟨2, ![2048, 4224]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x4224, .bf16⟩
  | .hbm, ⟨1, _⟩ => ⟨S2048x4224, .bf16⟩
  | .hbm, ⟨2, _⟩ => ⟨S_, .f32⟩
  | .hbm, ⟨3, _⟩ => ⟨S8192x2048, .f32⟩
  | .hbm, ⟨4, _⟩ => ⟨S2048x4224, .f32⟩
  | .hbm, ⟨5, _⟩ => ⟨S8192x4224, .f32⟩
  | .hbm, ⟨6, _⟩ => ⟨S8192x4224, .f32⟩
  | .hbm, ⟨7, _⟩ => ⟨S8192x2048, .f32⟩
  | _, _ => ⟨S8192x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel28.lean ====
abbrev S8192x2048 : Shape := ⟨2, ![8192, 2048]⟩
abbrev S8192x4224 : Shape := ⟨2, ![8192, 4224]⟩
abbrev S2048x4224 : Shape := ⟨2, ![2048, 4224]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x4224, .bf16⟩
  | .hbm, ⟨2, _⟩ => ⟨S2048x4224, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8192x2048 : Shape := ⟨2, ![8192, 2048]⟩
abbrev S8192x4224 : Shape := ⟨2, ![8192, 4224]⟩
abbrev S_ : Shape := ⟨0, ![]⟩
abbrev S2048x4224 : Shape := ⟨2, ![2048, 4224]⟩
abbrev S4224x2048 : Shape := ⟨2, ![4224, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4224, .bf16⟩
  | .hbm, ⟨2, _⟩ => ⟨S_, .f32⟩
  | .hbm, ⟨3, _⟩ => ⟨S2048x4224, .f32⟩
  | .hbm, ⟨4, _⟩ => ⟨S8192x2048, .f32⟩
  | .hbm, ⟨5, _⟩ => ⟨S8192x4224, .f32⟩
  | .hbm, ⟨6, _⟩ => ⟨S8192x4224, .f32⟩
  | .hbm, ⟨7, _⟩ => ⟨S4224x2048, .f32⟩
  | .hbm, ⟨8, _⟩ => ⟨S2048x4224, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel29.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference29Ideal.lean ====
abbrev S8192x2048 : Shape := ⟨2, ![8192, 2048]⟩
abbrev S1x2048 : Shape := ⟨2, ![1, 2048]⟩
abbrev S1x8192x2048 : Shape := ⟨3, ![1, 8192, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x8192x2048, .f32⟩
  | .hbm, ⟨3, _⟩ => ⟨S1x8192x2048, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S1x8192x1, .f32⟩
  | .hbm, ⟨14, _⟩ => ⟨S1x8192x2048, .f32⟩
  | .hbm, ⟨15, _⟩ => ⟨S1x8192x2048, .f32⟩
  | .hbm, ⟨16, _⟩ => ⟨S1x1x2048, .f32⟩
  | .hbm, ⟨17, _⟩ => ⟨S1x8192x2048, .f32⟩
  | .hbm, ⟨18, _⟩ => ⟨S1x8192x2048, .f32⟩
  | .hbm, ⟨19, _⟩ => ⟨S8192x2048, .f32⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel30.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference30Ideal.lean ====
abbrev S256x2048 : Shape := ⟨2, ![256, 2048]⟩
abbrev S1x2048 : Shape := ⟨2, ![1, 2048]⟩
abbrev S1x256x2048 : Shape := ⟨3, ![1, 256, 2048]⟩
abbrev S_ : Shape := ⟨0, ![]⟩
abbrev S1x256 : Shape := ⟨2, ![1, 256]⟩
abbrev S1x256x1 : Shape := ⟨3, ![1, 256, 1]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x256x2048, .f32⟩
  | .hbm, ⟨3, _⟩ => ⟨S1x256x2048, .f32⟩
  | .hbm, ⟨4, _⟩ => ⟨S_, .f32⟩
  | .hbm, ⟨5, _⟩ => ⟨S1x256, .f32⟩
  | .hbm, ⟨6, _⟩ => ⟨S1x256x1, .f32⟩
  | .hbm, ⟨7, _⟩ => ⟨S_, .f32⟩
  | .hbm, ⟨8, _⟩ => ⟨S1x256x1, .f32⟩
  | .hbm, ⟨9, _⟩ => ⟨S1x256x1, .f32⟩
  | .hbm, ⟨10, _⟩ => ⟨S_, .f32⟩
  | .hbm, ⟨11, _⟩ => ⟨S1x256x1, .f32⟩
  | .hbm, ⟨12, _⟩ => ⟨S1x256x1, .f32⟩
  | .hbm, ⟨13, _⟩ => ⟨S1x256x1, .f32⟩
  | .hbm, ⟨14, _⟩ => ⟨S1x256x2048, .f32⟩
  | .hbm, ⟨15, _⟩ => ⟨S1x256x2048, .f32⟩
  | .hbm, ⟨16, _⟩ => ⟨S1x1x2048, .f32⟩
  | .hbm, ⟨17, _⟩ => ⟨S1x256x2048, .f32⟩
  | .hbm, ⟨18, _⟩ => ⟨S1x256x2048, .f32⟩
  | .hbm, ⟨19, _⟩ => ⟨S256x2048, .f32⟩
  | .hbm, ⟨20, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel31.lean ====
abbrev S8192x2048 : Shape := ⟨2, ![8192, 2048]⟩
abbrev S256x4096 : Shape := ⟨2, ![256, 4096]⟩
abbrev S512x2048 : Shape := ⟨2, ![512, 2048]⟩
abbrev S256x2048 : Shape := ⟨2, ![256, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S256x2048, .bf16⟩
  | .local _ .vmem, ⟨3, _⟩ => ⟨S256x2048, .bf16⟩
  | .local _ .vmem, ⟨4, _⟩ => ⟨S512x2048, .bf16⟩
  | .local _ .vmem, ⟨5, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference31Ideal.lean ====
abbrev S8192x2048 : Shape := ⟨2, ![8192, 2048]⟩
abbrev S256x4096 : Shape := ⟨2, ![256, 4096]⟩
abbrev S1x8192x2048 : Shape := ⟨3, ![1, 8192, 2048]⟩
abbrev S1x256x4096 : Shape := ⟨3, ![1, 256, 4096]⟩
abbrev S1x8192x4x512 : Shape := ⟨4, ![1, 8192, 4, 512]⟩
abbrev S1x256x2x4x512 : Shape := ⟨5, ![1, 256, 2, 4, 512]⟩
abbrev S1x256x1x4x512 : Shape := ⟨5, ![1, 256, 1, 4, 512]⟩
abbrev S1x256x4x512 : Shape := ⟨4, ![1, 256, 4, 512]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x512x8192 : Shape := ⟨4, ![1, 4, 512, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x4096, .bf16⟩
  | .hbm, ⟨2, _⟩ => ⟨S1x8192x2048, .bf16⟩
  | .hbm, ⟨3, _⟩ => ⟨S1x8192x2048, .f32⟩
  | .hbm, ⟨4, _⟩ => ⟨S1x256x4096, .bf16⟩
  | .hbm, ⟨5, _⟩ => ⟨S1x256x4096, .f32⟩
  | .hbm, ⟨6, _⟩ => ⟨S1x8192x4x512, .f32⟩
  | .hbm, ⟨7, _⟩ => ⟨S1x256x2x4x512, .f32⟩
  | .hbm, ⟨8, _⟩ => ⟨S1x256x1x4x512, .f32⟩
  | .hbm, ⟨9, _⟩ => ⟨S1x256x4x512, .f32⟩
  | .hbm, ⟨10, _⟩ => ⟨S1x256x1x4x512, .f32⟩
  | .hbm, ⟨11, _⟩ => ⟨S1x256x4x512, .f32⟩
  | .hbm, ⟨12, _⟩ => ⟨S1x4x8192x256, .f32⟩
  | .hbm, ⟨13, _⟩ => ⟨S_, .f32⟩
  | .hbm, ⟨14, _⟩ => ⟨S1x4x8192x256, .f32⟩
  | .hbm, ⟨15, _⟩ => ⟨S1x4x8192x256, .f32⟩
  | .hbm, ⟨16, _⟩ => ⟨S_, .f32⟩
  | .hbm, ⟨17, _⟩ => ⟨S1x4x8192, .f32⟩
  | .hbm, ⟨18, _⟩ => ⟨S_, .f32⟩
  | .hbm, ⟨19, _⟩ => ⟨S1x4x8192, .f32⟩
  | .hbm, ⟨20, _⟩ => ⟨S1x4x8192, .f32⟩
  | .hbm, ⟨21, _⟩ => ⟨S1x4x8192x1, .f32⟩
  | .hbm, ⟨22, _⟩ => ⟨S1x4x8192x256, .f32⟩
  | .hbm, ⟨23, _⟩ => ⟨S1x4x8192x256, .f32⟩
  | .hbm, ⟨24, _⟩ => ⟨S1x4x8192x256, .f32⟩
  | .hbm, ⟨25, _⟩ => ⟨S_, .f32⟩
  | .hbm, ⟨26, _⟩ => ⟨S1x4x8192, .f32⟩
  | .hbm, ⟨27, _⟩ => ⟨S1x4x8192x1, .f32⟩
  | .hbm, ⟨28, _⟩ => ⟨S1x4x8192x256, .f32⟩
  | .hbm, ⟨29, _⟩ => ⟨S1x4x8192x256, .f32⟩
  | .hbm, ⟨30, _⟩ => ⟨S1x4x512x8192, .f32⟩
  | .hbm, ⟨31, _⟩ => ⟨S1x8192x4x512, .f32⟩
  | .hbm, ⟨32, _⟩ => ⟨S1x8192x2048, .f32⟩
  | .hbm, ⟨33, _⟩ => ⟨S8192x2048, .f32⟩
  | .hbm, ⟨34, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Proof.Reals.lean ====
/- Extended reals that are reals: what the stated condition on an array says of its entries, and how sums, products and quotients of real entries
   are read as real numbers. The gradients proved in the neighbouring modules regroup their sums, which only real entries allow. -/
module

public import Idealize.ShloMosaic.Lib.Pointwise
public import Idealize.ShloMosaic.Lib.IdealHost

@[expose] public section

noncomputable section

namespace Cert.Reals

open Idealize.ShloMosaic

/-- A sum of reals, taken among the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The pattern of the f32 infinity. -/
theorem inf_f32 : Ideal.ofBits .f32 0x7F800000#32 = ⊤ := by simp [Ideal.ofBits, Ideal.ieee]

/-- An entry whose absolute value is below infinity is a real. -/
theorem real_of_abs_lt {x : EReal} (h : Ideal.cmp .olt (max x (-x)) (Ideal.ofBits .f32 0x7F800000#32) = 1#1) : ∃ r : ℝ, x = (r : EReal) := by
  rw [inf_f32] at h
  induction x using EReal.rec with
  | bot => simp [Ideal.cmp] at h
  | coe r => exact ⟨r, rfl⟩
  | top => simp [Ideal.cmp] at h

theorem c2048 : Ideal.ofBits .f32 0x45000000#32 = ((2048 : ℝ) : EReal) := by
  simp [Ideal.ofBits, Ideal.ieee, -EReal.coe_mul]; norm_num

theorem cneghalf : Ideal.ofBits .f32 0xBF000000#32 = ((-(1 / 2) : ℝ) : EReal) := by
  simp [Ideal.ofBits, Ideal.ieee, -EReal.coe_mul, -EReal.coe_neg]; norm_num

/-- The norm's small constant is a positive real. -/
theorem ceps : ∃ e : ℝ, 0 < e ∧ Ideal.ofBits .f32 0x358637BD#32 = (e : EReal) := by
  refine ⟨_, ?_, by simp [Ideal.ofBits, Ideal.ieee, -EReal.coe_mul]; rfl⟩
  norm_num

/-- The quotient of two reals, the divisor not zero. -/
theorem div_real (a : ℝ) {b : ℝ} (h : b ≠ 0) : Ideal.div (a : EReal) (b : EReal) = ((a / b : ℝ) : EReal) := by
  rw [Ideal.div_coe h, ← EReal.coe_mul, mul_one_div]

/-- The reciprocal square root of a positive real. -/
theorem rsqrt_real {r : ℝ} (h : 0 < r) : Ideal.rsqrt (r : EReal) = (((Real.sqrt r)⁻¹ : ℝ) : EReal) := by
  rw [Ideal.rsqrt_coe, if_neg (not_lt.mpr h.le), if_neg h.ne']

end Cert.Reals

end
-- ==== Proof.PoolRef.lean ====
/- The gradient of the causal windowed means, as the derivative of the reference's lines computes it: each of its three results, read at an index.
   The derivative of a running sum is a sum over the later positions; over reals the sum of the differences that the reference takes there is the sum
   over the window that starts at the position. -/
module

public import proofs.«01_k».proof.Proof.Gen.ReferenceIdeal.Run
public import proofs.«01_k».proof.Proof.Reals
public import Idealize.ShloMosaic.Lib.Pipeline.ValueKit
public import Idealize.ShloMosaic.Lib.Pointwise

@[expose] public section

set_option maxRecDepth 16384

noncomputable section

namespace Cert.ReferenceIdeal.Pool

open Idealize.ShloMosaic Idealize.ShloMosaic.TcCoe Idealize.SL.Sem
open Cert.ReferenceIdeal Cert.ReferenceIdeal.Gen

/-- A running addition along a list, started at any value, adds the list's terms to that value. -/
theorem foldl_add {ι : Type} (g : ι → EReal) : ∀ (l : List ι) (v : EReal), l.foldl (fun r n => r + g n) v = v + (l.map g).sum
  | [], v => by simp
  | a :: l, v => by rw [List.foldl_cons, foldl_add g l, List.map_cons, List.sum_cons, add_assoc]

/-- The positions of a window of 8192 rows are its rows. -/
def windowRows : (⟨4, ![1, 8192, 1, 1]⟩ : Shape).Idx ≃ Fin 8192 where
  toFun w := w 1
  invFun k := ix4 (0 : Fin 1) k (0 : Fin 1) (0 : Fin 1)
  left_inv w := by
    funext a
    match a with
    | ⟨0, _⟩ => exact Fin.ext (Nat.lt_one_iff.mp (w 0).isLt).symm
    | ⟨1, _⟩ => rfl
    | ⟨2, _⟩ => exact Fin.ext (Nat.lt_one_iff.mp (w 2).isLt).symm
    | ⟨3, _⟩ => exact Fin.ext (Nat.lt_one_iff.mp (w 3).isLt).symm
  right_inv k := rfl

/-- One position of the window: an entry of the array where it falls inside. -/
theorem window_point (x : S1x8192x4x256.Idx → EReal) (j : S1x8192x4x256.Idx) (w : (⟨4, ![1, 8192, 1, 1]⟩ : Shape).Idx)
    {inst : Decidable (∀ a : Fin 4, (![0, 0, 0, 0] : Fin 4 → Nat) a ≤ (j a).val * (![1, 1, 1, 1] : Fin 4 → Nat) a + (w a).val
        ∧ (j a).val * (![1, 1, 1, 1] : Fin 4 → Nat) a + (w a).val - (![0, 0, 0, 0] : Fin 4 → Nat) a < S1x8192x4x256.size a)} :
    (@dite EReal (∀ a : Fin 4, (![0, 0, 0, 0] : Fin 4 → Nat) a ≤ (j a).val * (![1, 1, 1, 1] : Fin 4 → Nat) a + (w a).val
        ∧ (j a).val * (![1, 1, 1, 1] : Fin 4 → Nat) a + (w a).val - (![0, 0, 0, 0] : Fin 4 → Nat) a < S1x8192x4x256.size a) inst
      (fun hin => x (fun a => ⟨(j a).val * (![1, 1, 1, 1] : Fin 4 → Nat) a + (w a).val - (![0, 0, 0, 0] : Fin 4 → Nat) a, (hin a).2⟩)) fun _ => (0 : EReal))
      = if hn : (j 1).val + (windowRows w).val < 8192 then x (ix4 (0 : Fin 1) ⟨(j 1).val + (windowRows w).val, hn⟩ (j 2) (j 3)) else 0 := by
  have h0 : (j 0).val = 0 := Nat.lt_one_iff.mp (j 0).isLt
  have e0 : (w 0).val = 0 := Nat.lt_one_iff.mp (w 0).isLt
  have e2 : (w 2).val = 0 := Nat.lt_one_iff.mp (w 2).isLt
  have e3 : (w 3).val = 0 := Nat.lt_one_iff.mp (w 3).isLt
  have e1 : (windowRows w).val = (w 1).val := rfl
  have j2 : (j 2).val < 4 := (j 2).isLt
  have j3 : (j 3).val < 256 := (j 3).isLt
  by_cases hn : (j 1).val + (windowRows w).val < 8192
  · rw [dif_pos hn, dif_pos]
    · refine congrArg x (funext fun a => Fin.ext ?_)
      match a with
      | ⟨0, _⟩ => show (j 0).val * 1 + (w 0).val - 0 = 0; omega
      | ⟨1, _⟩ => show (j 1).val * 1 + (w 1).val - 0 = (j 1).val + (w 1).val; omega
      | ⟨2, _⟩ => show (j 2).val * 1 + (w 2).val - 0 = (j 2).val; omega
      | ⟨3, _⟩ => show (j 3).val * 1 + (w 3).val - 0 = (j 3).val; omega
    · intro a
      match a with
      | ⟨0, _⟩ => show 0 ≤ (j 0).val * 1 + (w 0).val ∧ (j 0).val * 1 + (w 0).val - 0 < 1; omega
      | ⟨1, _⟩ => show 0 ≤ (j 1).val * 1 + (w 1).val ∧ (j 1).val * 1 + (w 1).val - 0 < 8192; omega
      | ⟨2, _⟩ => show 0 ≤ (j 2).val * 1 + (w 2).val ∧ (j 2).val * 1 + (w 2).val - 0 < 4; omega
      | ⟨3, _⟩ => show 0 ≤ (j 3).val * 1 + (w 3).val ∧ (j 3).val * 1 + (w 3).val - 0 < 256; omega
  · rw [dif_neg hn, dif_neg]
    intro hin
    have h1 := (hin 1).2
    change (j 1).val * 1 + (w 1).val - 0 < 8192 at h1
    omega

/-- The window sum padded behind is the sum over the later positions. -/
theorem suffix_sum (x : S1x8192x4x256.Idx → EReal)
    (h : S1x8192x4x256.ReduceWindows (![1, 8192, 1, 1] : Fin 4 → Nat) ![1, 1, 1, 1] ![0, 0, 0, 0] ![0, 8191, 0, 0] S1x8192x4x256)
    (j : S1x8192x4x256.Idx) :
    Ideal.hostReduceWindowAdd (![1, 8192, 1, 1] : Fin 4 → Nat) ![1, 1, 1, 1] ![0, 0, 0, 0] ![0, 8191, 0, 0] h x 0 j
      = ∑ n : Fin 8192, if hn : (j 1).val + n.val < 8192 then x (ix4 (0 : Fin 1) ⟨(j 1).val + n.val, hn⟩ (j 2) (j 3)) else 0 := by
  unfold Ideal.hostReduceWindowAdd Host.reduceWindow
  refine (foldl_add _ _ _).trans ?_
  rw [zero_add, ← Fin.sum_univ_def]
  exact Fintype.sum_equiv ((Shape.rowMajor ⟨4, ![1, 8192, 1, 1]⟩).symm.trans windowRows) _ _ fun n =>
    window_point x j ((Shape.rowMajor ⟨4, ![1, 8192, 1, 1]⟩).symm n)

/-! ## The reference's terms -/

abbrev dyv (DM : FVec Ideal S8192x2048 .f32) : FVec Ideal S1x8192x1024 .f32 :=
  broadcastInDim S1x8192x1024 ![1, 2] bcast_S8192x1024_S1x8192x1024_1_2 (extractStridedSlice S8192x1024 ![0, 0] DM slices_S8192x2048_S8192x1024_0_0)

abbrev wv (W : FVec Ideal S4x256x256 .bf16) : FVec Ideal S4x256x256 .f32 :=
  extf .f32 W bitsLt_bf16_f32

abbrev uv (U : FVec Ideal S8192x1024 .f32) : FVec Ideal S1x8192x4x256 .f32 :=
  shapeCast _ (broadcastInDim S1x8192x1024 ![1, 2] bcast_S8192x1024_S1x8192x1024_1_2 U) shapeCasts_S1x8192x1024_S1x8192x4x256

abbrev cs (U : FVec Ideal S8192x1024 .f32) : FVec Ideal S1x8192x4x256 .f32 :=
  Host.reduceWindowAdd ![1, 8192, 1, 1] ![1, 1, 1, 1] ![0, 8191, 0, 0] ![0, 0, 0, 0] (uv U) (broadcastInDim S_ ![] bcast_S_S_ (constant S_ .f32 0x00000000#32)) reduceWindows_S1x8192x4x256_S1x8192x4x256_w1s1p0_0_w8192s1p8191_0_w1s1p0_0_w1s1p0_0 h_S_

abbrev cnt : FVec Ideal S8192 .f32 :=
  addf (broadcastInDim S8192 ![] bcast_S_S8192 (constant S_ .f32 0x3F800000#32)) (sitofp .f32 (iotaInDim S8192 32 0))

abbrev cs0 (U : FVec Ideal S8192x1024 .f32) : FVec Ideal S1x8192x256 .f32 :=
  shapeCast _ (extractStridedSlice S1x8192x1x256 ![0, 0, 0, 0] (cs U) slices_S1x8192x4x256_S1x8192x1x256_0_0_0_0) shapeCasts_S1x8192x1x256_S1x8192x256

abbrev cnt0 : FVec Ideal S1x8192x1 .f32 :=
  broadcastInDim S1x8192x1 ![1] bcast_S8192_S1x8192x1_1 (minimumf (cnt) (broadcastInDim S8192 ![] bcast_S_S8192 (constant S_ .f32 0x40000000#32)))

abbrev cs1 (U : FVec Ideal S8192x1024 .f32) : FVec Ideal S1x8192x256 .f32 :=
  shapeCast _ (extractStridedSlice S1x8192x1x256 ![0, 0, 1, 0] (cs U) slices_S1x8192x4x256_S1x8192x1x256_0_0_1_0) shapeCasts_S1x8192x1x256_S1x8192x256

abbrev cnt1 : FVec Ideal S1x8192x1 .f32 :=
  broadcastInDim S1x8192x1 ![1] bcast_S8192_S1x8192x1_1 (minimumf (cnt) (broadcastInDim S8192 ![] bcast_S_S8192 (constant S_ .f32 0x40800000#32)))

abbrev cs2 (U : FVec Ideal S8192x1024 .f32) : FVec Ideal S1x8192x256 .f32 :=
  shapeCast _ (extractStridedSlice S1x8192x1x256 ![0, 0, 2, 0] (cs U) slices_S1x8192x4x256_S1x8192x1x256_0_0_2_0) shapeCasts_S1x8192x1x256_S1x8192x256

abbrev cnt2 : FVec Ideal S1x8192x1 .f32 :=
  broadcastInDim S1x8192x1 ![1] bcast_S8192_S1x8192x1_1 (minimumf (cnt) (broadcastInDim S8192 ![] bcast_S_S8192 (constant S_ .f32 0x41000000#32)))

abbrev cs3 (U : FVec Ideal S8192x1024 .f32) : FVec Ideal S1x8192x256 .f32 :=
  shapeCast _ (extractStridedSlice S1x8192x1x256 ![0, 0, 3, 0] (cs U) slices_S1x8192x4x256_S1x8192x1x256_0_0_3_0) shapeCasts_S1x8192x1x256_S1x8192x256

abbrev cnt3 : FVec Ideal S1x8192x1 .f32 :=
  broadcastInDim S1x8192x1 ![1] bcast_S8192_S1x8192x1_1 (minimumf (cnt) (broadcastInDim S8192 ![] bcast_S_S8192 (constant S_ .f32 0x41800000#32)))

abbrev diff (U : FVec Ideal S8192x1024 .f32) : FVec Ideal S1x8192x4x256 .f32 :=
  (concatenate S1x8192x4x256 2 [⟨S1x8192x1x256, ((broadcastInDim S1x8192x1x256 ![0, 1, 3] bcast_S1x8192x256_S1x8192x1x256_0_1_3 (subf (Host.divf (subf (cs0 U) (concatenate S1x8192x256 1 [⟨S1x2x256, (broadcastInDim S1x2x256 ![] bcast_S_S1x2x256 (constant S_ .f32 0x00000000#32))⟩, ⟨S1x8190x256, (extractStridedSlice S1x8190x256 ![0, 0, 0] (cs0 U) slices_S1x8192x256_S1x8190x256_0_0_0)⟩] concatenates_S1x2x256_S1x8190x256_S1x8192x256_d1)) (broadcastInDim S1x8192x256 ![0, 1, 2] bcast_S1x8192x1_S1x8192x256_0_1_2 (cnt0))) (shapeCast _ (extractStridedSlice S1x8192x1x256 ![0, 0, 0, 0] (uv U) slices_S1x8192x4x256_S1x8192x1x256_0_0_0_0) shapeCasts_S1x8192x1x256_S1x8192x256))) : FVec Ideal S1x8192x1x256 .f32)⟩, ⟨S1x8192x1x256, ((broadcastInDim S1x8192x1x256 ![0, 1, 3] bcast_S1x8192x256_S1x8192x1x256_0_1_3 (subf (Host.divf (subf (cs1 U) (concatenate S1x8192x256 1 [⟨S1x4x256, (broadcastInDim S1x4x256 ![] bcast_S_S1x4x256 (constant S_ .f32 0x00000000#32))⟩, ⟨S1x8188x256, (extractStridedSlice S1x8188x256 ![0, 0, 0] (cs1 U) slices_S1x8192x256_S1x8188x256_0_0_0)⟩] concatenates_S1x4x256_S1x8188x256_S1x8192x256_d1)) (broadcastInDim S1x8192x256 ![0, 1, 2] bcast_S1x8192x1_S1x8192x256_0_1_2 (cnt1))) (shapeCast _ (extractStridedSlice S1x8192x1x256 ![0, 0, 1, 0] (uv U) slices_S1x8192x4x256_S1x8192x1x256_0_0_1_0) shapeCasts_S1x8192x1x256_S1x8192x256))) : FVec Ideal S1x8192x1x256 .f32)⟩, ⟨S1x8192x1x256, ((broadcastInDim S1x8192x1x256 ![0, 1, 3] bcast_S1x8192x256_S1x8192x1x256_0_1_3 (subf (Host.divf (subf (cs2 U) (concatenate S1x8192x256 1 [⟨S1x8x256, (broadcastInDim S1x8x256 ![] bcast_S_S1x8x256 (constant S_ .f32 0x00000000#32))⟩, ⟨S1x8184x256, (extractStridedSlice S1x8184x256 ![0, 0, 0] (cs2 U) slices_S1x8192x256_S1x8184x256_0_0_0)⟩] concatenates_S1x8x256_S1x8184x256_S1x8192x256_d1)) (broadcastInDim S1x8192x256 ![0, 1, 2] bcast_S1x8192x1_S1x8192x256_0_1_2 (cnt2))) (shapeCast _ (extractStridedSlice S1x8192x1x256 ![0, 0, 2, 0] (uv U) slices_S1x8192x4x256_S1x8192x1x256_0_0_2_0) shapeCasts_S1x8192x1x256_S1x8192x256))) : FVec Ideal S1x8192x1x256 .f32)⟩, ⟨S1x8192x1x256, ((broadcastInDim S1x8192x1x256 ![0, 1, 3] bcast_S1x8192x256_S1x8192x1x256_0_1_3 (subf (Host.divf (subf (cs3 U) (concatenate S1x8192x256 1 [⟨S1x16x256, (broadcastInDim S1x16x256 ![] bcast_S_S1x16x256 (constant S_ .f32 0x00000000#32))⟩, ⟨S1x8176x256, (extractStridedSlice S1x8176x256 ![0, 0, 0] (cs3 U) slices_S1x8192x256_S1x8176x256_0_0_0)⟩] concatenates_S1x16x256_S1x8176x256_S1x8192x256_d1)) (broadcastInDim S1x8192x256 ![0, 1, 2] bcast_S1x8192x1_S1x8192x256_0_1_2 (cnt3))) (shapeCast _ (extractStridedSlice S1x8192x1x256 ![0, 0, 3, 0] (uv U) slices_S1x8192x4x256_S1x8192x1x256_0_0_3_0) shapeCasts_S1x8192x1x256_S1x8192x256))) : FVec Ideal S1x8192x1x256 .f32)⟩] concatenates_S1x8192x1x256_S1x8192x1x256_S1x8192x1x256_S1x8192x1x256_S1x8192x4x256_d2 : FVec Ideal S1x8192x4x256 .f32)

abbrev yv (U : FVec Ideal S8192x1024 .f32) (W : FVec Ideal S4x256x256 .bf16) : FVec Ideal S1x8192x1024 .f32 :=
  shapeCast _ (transpose S1x8192x4x256 [2, 3, 0, 1] (Host.dotGeneral dot_S4x256x256_S1x8192x4x256_S4x256x1x8192_1_3_2_01_0_2 none (wv W) (diff U)) transposes_S4x256x1x8192_S1x8192x4x256_2_3_0_1) shapeCasts_S1x8192x4x256_S1x8192x1024

abbrev sv (S : FVec Ideal S1x1024 .f32) : FVec Ideal S1x1x1024 .f32 :=
  broadcastInDim S1x1x1024 ![1, 2] bcast_S1x1024_S1x1x1024_1_2 S

abbrev ev (DM : FVec Ideal S8192x2048 .f32) (S : FVec Ideal S1x1024 .f32) : FVec Ideal S4x256x1x8192 .f32 :=
  transpose S4x256x1x8192 [2, 3, 0, 1] (shapeCast _ (mulf (dyv DM) (broadcastInDim S1x8192x1024 ![0, 1, 2] bcast_S1x1x1024_S1x8192x1024_0_1_2 (sv S))) shapeCasts_S1x8192x1024_S1x8192x4x256) transposes_S1x8192x4x256_S4x256x1x8192_2_3_0_1

abbrev dd (DM : FVec Ideal S8192x2048 .f32) (W : FVec Ideal S4x256x256 .bf16) (S : FVec Ideal S1x1024 .f32) : FVec Ideal S1x8192x4x256 .f32 :=
  transpose S1x8192x4x256 [1, 2, 0, 3] (Host.dotGeneral dot_S4x256x1x8192_S4x256x256_S4x1x8192x256_1_2_23_1_0_0 none (ev DM S) (wv W)) transposes_S4x1x8192x256_S1x8192x4x256_1_2_0_3

abbrev dd0 (DM : FVec Ideal S8192x2048 .f32) (W : FVec Ideal S4x256x256 .bf16) (S : FVec Ideal S1x1024 .f32) : FVec Ideal S1x8192x256 .f32 :=
  shapeCast _ (extractStridedSlice S1x8192x1x256 ![0, 0, 0, 0] (dd DM W S) slices_S1x8192x4x256_S1x8192x1x256_0_0_0_0) shapeCasts_S1x8192x1x256_S1x8192x256

abbrev dd1 (DM : FVec Ideal S8192x2048 .f32) (W : FVec Ideal S4x256x256 .bf16) (S : FVec Ideal S1x1024 .f32) : FVec Ideal S1x8192x256 .f32 :=
  shapeCast _ (extractStridedSlice S1x8192x1x256 ![0, 0, 1, 0] (dd DM W S) slices_S1x8192x4x256_S1x8192x1x256_0_0_1_0) shapeCasts_S1x8192x1x256_S1x8192x256

abbrev dd2 (DM : FVec Ideal S8192x2048 .f32) (W : FVec Ideal S4x256x256 .bf16) (S : FVec Ideal S1x1024 .f32) : FVec Ideal S1x8192x256 .f32 :=
  shapeCast _ (extractStridedSlice S1x8192x1x256 ![0, 0, 2, 0] (dd DM W S) slices_S1x8192x4x256_S1x8192x1x256_0_0_2_0) shapeCasts_S1x8192x1x256_S1x8192x256

abbrev dd3 (DM : FVec Ideal S8192x2048 .f32) (W : FVec Ideal S4x256x256 .bf16) (S : FVec Ideal S1x1024 .f32) : FVec Ideal S1x8192x256 .f32 :=
  shapeCast _ (extractStridedSlice S1x8192x1x256 ![0, 0, 3, 0] (dd DM W S) slices_S1x8192x4x256_S1x8192x1x256_0_0_3_0) shapeCasts_S1x8192x1x256_S1x8192x256

abbrev q3 (DM : FVec Ideal S8192x2048 .f32) (W : FVec Ideal S4x256x256 .bf16) (S : FVec Ideal S1x1024 .f32) : FVec Ideal S1x8192x256 .f32 :=
  Host.divf (dd3 DM W S) (broadcastInDim S1x8192x256 ![0, 1, 2] bcast_S1x8192x1_S1x8192x256_0_1_2 (cnt3))

abbrev n3 (DM : FVec Ideal S8192x2048 .f32) (W : FVec Ideal S4x256x256 .bf16) (S : FVec Ideal S1x1024 .f32) : FVec Ideal S1x8192x256 .f32 :=
  Host.negf (q3 DM W S)

abbrev q2 (DM : FVec Ideal S8192x2048 .f32) (W : FVec Ideal S4x256x256 .bf16) (S : FVec Ideal S1x1024 .f32) : FVec Ideal S1x8192x256 .f32 :=
  Host.divf (dd2 DM W S) (broadcastInDim S1x8192x256 ![0, 1, 2] bcast_S1x8192x1_S1x8192x256_0_1_2 (cnt2))

abbrev n2 (DM : FVec Ideal S8192x2048 .f32) (W : FVec Ideal S4x256x256 .bf16) (S : FVec Ideal S1x1024 .f32) : FVec Ideal S1x8192x256 .f32 :=
  Host.negf (q2 DM W S)

abbrev q1 (DM : FVec Ideal S8192x2048 .f32) (W : FVec Ideal S4x256x256 .bf16) (S : FVec Ideal S1x1024 .f32) : FVec Ideal S1x8192x256 .f32 :=
  Host.divf (dd1 DM W S) (broadcastInDim S1x8192x256 ![0, 1, 2] bcast_S1x8192x1_S1x8192x256_0_1_2 (cnt1))

abbrev n1 (DM : FVec Ideal S8192x2048 .f32) (W : FVec Ideal S4x256x256 .bf16) (S : FVec Ideal S1x1024 .f32) : FVec Ideal S1x8192x256 .f32 :=
  Host.negf (q1 DM W S)

abbrev q0 (DM : FVec Ideal S8192x2048 .f32) (W : FVec Ideal S4x256x256 .bf16) (S : FVec Ideal S1x1024 .f32) : FVec Ideal S1x8192x256 .f32 :=
  Host.divf (dd0 DM W S) (broadcastInDim S1x8192x256 ![0, 1, 2] bcast_S1x8192x1_S1x8192x256_0_1_2 (cnt0))

abbrev n0 (DM : FVec Ideal S8192x2048 .f32) (W : FVec Ideal S4x256x256 .bf16) (S : FVec Ideal S1x1024 .f32) : FVec Ideal S1x8192x256 .f32 :=
  Host.negf (q0 DM W S)

/-- What the reference sums over the later positions. -/
abbrev steps (DM : FVec Ideal S8192x2048 .f32) (W : FVec Ideal S4x256x256 .bf16) (S : FVec Ideal S1x1024 .f32) : FVec Ideal S1x8192x4x256 .f32 :=
  (addf (addf (addf (pad S1x8192x4x256 ![0, 0, 3, 0] ![0, 0, 0, 0] ![0, 0, 0, 0] (broadcastInDim S1x8192x1x256 ![0, 1, 3] bcast_S1x8192x256_S1x8192x1x256_0_1_3 (addf (q3 DM W S) (pad S1x8192x256 ![0, 0, 0] ![0, 16, 0] ![0, 0, 0] (extractStridedSlice S1x8176x256 ![0, 16, 0] (n3 DM W S) slices_S1x8192x256_S1x8176x256_0_16_0) (constant S_ .f32 0x00000000#32) pads_S1x8176x256_S1x8192x256_000_0160_000 h_S_))) (constant S_ .f32 0x00000000#32) pads_S1x8192x1x256_S1x8192x4x256_000_000_300_000 h_S_) (pad S1x8192x4x256 ![0, 0, 2, 0] ![0, 0, 1, 0] ![0, 0, 0, 0] (broadcastInDim S1x8192x1x256 ![0, 1, 3] bcast_S1x8192x256_S1x8192x1x256_0_1_3 (addf (q2 DM W S) (pad S1x8192x256 ![0, 0, 0] ![0, 8, 0] ![0, 0, 0] (extractStridedSlice S1x8184x256 ![0, 8, 0] (n2 DM W S) slices_S1x8192x256_S1x8184x256_0_8_0) (constant S_ .f32 0x00000000#32) pads_S1x8184x256_S1x8192x256_000_080_000 h_S_))) (constant S_ .f32 0x00000000#32) pads_S1x8192x1x256_S1x8192x4x256_000_000_210_000 h_S_)) (pad S1x8192x4x256 ![0, 0, 1, 0] ![0, 0, 2, 0] ![0, 0, 0, 0] (broadcastInDim S1x8192x1x256 ![0, 1, 3] bcast_S1x8192x256_S1x8192x1x256_0_1_3 (addf (q1 DM W S) (pad S1x8192x256 ![0, 0, 0] ![0, 4, 0] ![0, 0, 0] (extractStridedSlice S1x8188x256 ![0, 4, 0] (n1 DM W S) slices_S1x8192x256_S1x8188x256_0_4_0) (constant S_ .f32 0x00000000#32) pads_S1x8188x256_S1x8192x256_000_040_000 h_S_))) (constant S_ .f32 0x00000000#32) pads_S1x8192x1x256_S1x8192x4x256_000_000_120_000 h_S_)) (pad S1x8192x4x256 ![0, 0, 0, 0] ![0, 0, 3, 0] ![0, 0, 0, 0] (broadcastInDim S1x8192x1x256 ![0, 1, 3] bcast_S1x8192x256_S1x8192x1x256_0_1_3 (addf (q0 DM W S) (pad S1x8192x256 ![0, 0, 0] ![0, 2, 0] ![0, 0, 0] (extractStridedSlice S1x8190x256 ![0, 2, 0] (n0 DM W S) slices_S1x8192x256_S1x8190x256_0_2_0) (constant S_ .f32 0x00000000#32) pads_S1x8190x256_S1x8192x256_000_020_000 h_S_))) (constant S_ .f32 0x00000000#32) pads_S1x8192x1x256_S1x8192x4x256_000_000_030_000 h_S_))

abbrev du (DM : FVec Ideal S8192x2048 .f32) (W : FVec Ideal S4x256x256 .bf16) (S : FVec Ideal S1x1024 .f32) : FVec Ideal S8192x1024 .bf16 :=
  truncf .bf16 (shapeCast _ (shapeCast _ (addf (addf (addf (addf (pad S1x8192x4x256 ![0, 0, 3, 0] ![0, 0, 0, 0] ![0, 0, 0, 0] (broadcastInDim S1x8192x1x256 ![0, 1, 3] bcast_S1x8192x256_S1x8192x1x256_0_1_3 (Host.negf (dd3 DM W S))) (constant S_ .f32 0x00000000#32) pads_S1x8192x1x256_S1x8192x4x256_000_000_300_000 h_S_) (pad S1x8192x4x256 ![0, 0, 2, 0] ![0, 0, 1, 0] ![0, 0, 0, 0] (broadcastInDim S1x8192x1x256 ![0, 1, 3] bcast_S1x8192x256_S1x8192x1x256_0_1_3 (Host.negf (dd2 DM W S))) (constant S_ .f32 0x00000000#32) pads_S1x8192x1x256_S1x8192x4x256_000_000_210_000 h_S_)) (pad S1x8192x4x256 ![0, 0, 1, 0] ![0, 0, 2, 0] ![0, 0, 0, 0] (broadcastInDim S1x8192x1x256 ![0, 1, 3] bcast_S1x8192x256_S1x8192x1x256_0_1_3 (Host.negf (dd1 DM W S))) (constant S_ .f32 0x00000000#32) pads_S1x8192x1x256_S1x8192x4x256_000_000_120_000 h_S_)) (pad S1x8192x4x256 ![0, 0, 0, 0] ![0, 0, 3, 0] ![0, 0, 0, 0] (broadcastInDim S1x8192x1x256 ![0, 1, 3] bcast_S1x8192x256_S1x8192x1x256_0_1_3 (Host.negf (dd0 DM W S))) (constant S_ .f32 0x00000000#32) pads_S1x8192x1x256_S1x8192x4x256_000_000_030_000 h_S_)) (Host.reduceWindowAdd ![1, 8192, 1, 1] ![1, 1, 1, 1] ![0, 0, 0, 0] ![0, 8191, 0, 0] (steps DM W S) (broadcastInDim S_ ![] bcast_S_S_ (constant S_ .f32 0x00000000#32)) reduceWindows_S1x8192x4x256_S1x8192x4x256_w1s1p0_0_w8192s1p0_8191_w1s1p0_0_w1s1p0_0 h_S_)) shapeCasts_S1x8192x4x256_S1x8192x1024) shapeCasts_S1x8192x1024_S8192x1024) bitsLt_bf16_f32

abbrev dw (U : FVec Ideal S8192x1024 .f32) (DM : FVec Ideal S8192x2048 .f32) (S : FVec Ideal S1x1024 .f32) : FVec Ideal S4x256x256 .f32 :=
  transpose S4x256x256 [0, 2, 1] (Host.dotGeneral dot_S4x256x1x8192_S1x8192x4x256_S4x256x256_23_01_1_3_0_2 none (ev DM S) (diff U)) transposes_S4x256x256_S4x256x256_0_2_1

abbrev dsc (U : FVec Ideal S8192x1024 .f32) (DM : FVec Ideal S8192x2048 .f32) (W : FVec Ideal S4x256x256 .bf16) : FVec Ideal S1x1024 .f32 :=
  broadcastInDim S1x1024 ![1] bcast_S1024_S1x1024_1 (Host.reduceAdd (shapeCast _ (Host.reduceAdd (mulf (yv U W) (dyv DM)) (constant S_ .f32 0x00000000#32) reducesTo_S1x8192x1024_S1x1024_d1 h_S_) shapeCasts_S1x1024_S1x1x1024) (constant S_ .f32 0x00000000#32) reducesTo_S1x1x1024_S1024_d0_1 h_S_)

/-- The sum over the later positions, as the reference spells it. -/
theorem suffix_host (x : FVec Ideal S1x8192x4x256 .f32) (j : S1x8192x4x256.Idx) :
    Host.reduceWindowAdd ![1, 8192, 1, 1] ![1, 1, 1, 1] ![0, 0, 0, 0] ![0, 8191, 0, 0] x (broadcastInDim S_ ![] bcast_S_S_ (constant S_ .f32 0x00000000#32)) reduceWindows_S1x8192x4x256_S1x8192x4x256_w1s1p0_0_w8192s1p0_8191_w1s1p0_0_w1s1p0_0 h_S_ j
      = (∑ n : Fin 8192, if hn : (j 1).val + n.val < 8192 then x (ix4 (0 : Fin 1) ⟨(j 1).val + n.val, hn⟩ (j 2) (j 3)) else 0 : EReal) := by
  generalize hv : (broadcastInDim S_ ![] bcast_S_S_ (constant S_ .f32 0x00000000#32) : FVec Ideal S_ .f32) = v
  have e : v (Shape.Idx.first h_S_) = (0 : EReal) := by
    rw [← hv]
    exact Ideal.ofBits_zero_f32
  unfold Host.reduceWindowAdd
  rw [Ideal.hostReduceWindowAdd_def, e]
  exact suffix_sum x _ j

theorem du_apply (DM : FVec Ideal S8192x2048 .f32) (W : FVec Ideal S4x256x256 .bf16) (S : FVec Ideal S1x1024 .f32) (T : Fin 8192) (C : Fin 1024) :
    du DM W S (ix2 T C) = (-(dd DM W S (ix4 0 T ⟨C.val / 256, by omega⟩ ⟨C.val % 256, by omega⟩)) + ∑ n : Fin 8192, if hn : T.val + n.val < 8192 then
      steps DM W S (ix4 0 ⟨T.val + n.val, hn⟩ ⟨C.val / 256, by omega⟩ ⟨C.val % 256, by omega⟩) else 0 : EReal) := by
  generalize hs : steps DM W S = x
  generalize hd : dd DM W S = y
  pointwise [du, hs, hd]
  refine Ideal.add_congr ?_ (suffix_host x _)
  have e : C.val / 256 = 0 ∨ C.val / 256 = 1 ∨ C.val / 256 = 2 ∨ C.val / 256 = 3 := by omega
  have l : C.val % 256 < 256 := by omega
  rcases e with e | e | e | e <;> simp [e, l]

theorem dd_apply (DM : FVec Ideal S8192x2048 .f32) (W : FVec Ideal S4x256x256 .bf16) (S : FVec Ideal S1x1024 .f32) (T : Fin 8192) (g : Fin 4) (c : Fin 256) :
    dd DM W S (ix4 0 T g c) = (∑ x : Fin 256, DM (ix2 T ⟨g.val * 256 + x.val, by omega⟩) * S (ix2 0 ⟨g.val * 256 + x.val, by omega⟩) * W (ix3 g c x) : EReal) := by
  pointwise [dd, ev, dyv, sv, wv]

/-- A sum over two axes of one entry each leaves the entry, the kept axis last. -/
theorem sum_unit_01 (h : S1x1x1024.ReducesTo [0, 1] S1024) (v : S1x1x1024.Idx → EReal)
    (init : EReal) (j : S1024.Idx) : Ideal.hostReduceAdd h v init j = init + v (ix3 0 0 (j 0)) := by
  refine congrArg (init + ·) ((Finset.sum_filter_eq_sum_of_fiber _ (fun _ : Unit => (ix3 0 0 (j 0) : S1x1x1024.Idx))
    (fun _ _ _ => rfl) (fun i => ⟨?_, ?_⟩) v).trans (Fintype.sum_unique _))
  · rintro rfl
    refine ⟨(), funext fun a => Fin.ext ?_⟩
    match a with
    | ⟨0, _⟩ => exact (Nat.lt_one_iff.mp (i 0).isLt).symm
    | ⟨1, _⟩ => exact (Nat.lt_one_iff.mp (i 1).isLt).symm
    | ⟨2, _⟩ => rfl
  · rintro ⟨_, rfl⟩
    funext b
    match b with
    | ⟨0, _⟩ => rfl

theorem dw_apply (U : FVec Ideal S8192x1024 .f32) (DM : FVec Ideal S8192x2048 .f32) (S : FVec Ideal S1x1024 .f32) (g : Fin 4) (a b : Fin 256) :
    dw U DM S (ix3 g a b) = (∑ l : Fin 8192, diff U (ix4 0 l g a) * (DM (ix2 l ⟨g.val * 256 + b.val, by omega⟩) * S (ix2 0 ⟨g.val * 256 + b.val, by omega⟩)) : EReal) := by
  generalize hd : diff U = d
  pointwise [dw, ev, dyv, sv, hd]
  refine (Fin.sum_univ_one _).trans (Finset.sum_congr rfl fun l _ => mul_comm _ _)

theorem dsc_apply (U : FVec Ideal S8192x1024 .f32) (DM : FVec Ideal S8192x2048 .f32) (W : FVec Ideal S4x256x256 .bf16) (j) :
    dsc U DM W j = (∑ l : Fin 8192, DM (ix2 l ⟨(j 1).val, by have := (j 1).isLt; change (j 1).val < 1024 at this; omega⟩) * (∑ x : Fin 256, diff U (ix4 0 l ⟨(j 1).val / 256, by have := (j 1).isLt; change (j 1).val < 1024 at this; omega⟩ x)
      * W (ix3 ⟨(j 1).val / 256, by have := (j 1).isLt; change (j 1).val < 1024 at this; omega⟩ x ⟨(j 1).val % 256, by omega⟩)) : EReal) := by
  generalize hd : diff U = d
  pointwise [dsc, yv, dyv, wv, hd, sum_unit_01]
  refine Finset.sum_congr rfl fun l _ => (mul_comm _ _).trans (Ideal.mul_congr rfl (Finset.sum_congr rfl fun x _ => mul_comm _ _))

/-! ## The means' gradient over reals -/

/-- An index read as a real. -/
theorem index_real {n : Nat} (h : n < 8192) : (FloatOps.sitofp .f32 (BitVec.ofNat 32 n) : Ideal .f32) = ((n : ℝ) : EReal) := by
  show (((BitVec.ofNat 32 n).toInt : ℝ) : EReal) = _
  have e : (BitVec.ofNat 32 n).toInt = (n : ℤ) := by rw [BitVec.toInt_eq_toNat_of_lt (by rw [BitVec.toNat_ofNat]; omega), BitVec.toNat_ofNat, Nat.mod_eq_of_lt (by omega)]
  rw [e, Int.cast_natCast]

theorem c2 : Ideal.ofBits .f32 1073741824#32 = ((2 : ℝ) : EReal) := by simp [Ideal.ofBits, Ideal.ieee, -EReal.coe_mul]; norm_num
theorem c4 : Ideal.ofBits .f32 1082130432#32 = ((4 : ℝ) : EReal) := by simp [Ideal.ofBits, Ideal.ieee, -EReal.coe_mul]; norm_num
theorem c8 : Ideal.ofBits .f32 1090519040#32 = ((8 : ℝ) : EReal) := by simp [Ideal.ofBits, Ideal.ieee, -EReal.coe_mul]; norm_num
theorem c16 : Ideal.ofBits .f32 1098907648#32 = ((16 : ℝ) : EReal) := by simp [Ideal.ofBits, Ideal.ieee, -EReal.coe_mul]; norm_num

/-- The number of positions that a window of `w` holds at position `T`. -/
def count (w T : ℕ) : ℝ := min ((T : ℝ) + 1) w

theorem count_pos {w T : ℕ} (h : 0 < w) : 0 < count w T := lt_min (by positivity) (by exact_mod_cast h)

/-- The smaller of two reals. -/
theorem min_real (a b : ℝ) : min (a : EReal) (b : EReal) = ((min a b : ℝ) : EReal) := (EReal.coe_strictMono.monotone.map_min).symm

/-- The count as the reference computes it. -/
theorem count_eq {T w : ℕ} {k : EReal} (hk : k = ((w : ℝ) : EReal)) (h : T < 8192) :
    min (1 + (FloatOps.sitofp .f32 (BitVec.ofNat 32 T) : Ideal .f32)) k = (count w T : EReal) := by
  rw [index_real h, hk, ← EReal.coe_one, ← EReal.coe_add, min_real, count, add_comm]

/-- A mean's gradient at a position, zero behind the last one. -/
def mean (w : ℕ) (D : ℕ → ℝ) (T : ℕ) : ℝ := if T < 8192 then D T / count w T else 0

/-- A difference that the reference sums: the mean's gradient at a position less the one a window later. -/
theorem step_real {w T : ℕ} (hw : 0 < w) (D : ℕ → ℝ) (y : EReal) (hT : T < 8192) (hy : y = (D T : EReal)) {k : EReal} (hk : k = ((w : ℝ) : EReal))
    {z : T < 8192 - w → EReal} (hz : ∀ h, z h = (D (w + T) : EReal)) :
    Ideal.div y (min (1 + (FloatOps.sitofp .f32 (BitVec.ofNat 32 T) : Ideal .f32)) k)
      + (if h : T < 8192 - w then -Ideal.div (z h) (min (1 + (FloatOps.sitofp .f32 (BitVec.ofNat 32 (w + T)) : Ideal .f32)) k) else 0)
      = ((mean w D T - mean w D (T + w) : ℝ) : EReal) := by
  rw [count_eq hk hT, hy, Reals.div_real _ (count_pos hw).ne']
  by_cases h : T < 8192 - w
  · rw [dif_pos h, count_eq hk (by omega), hz h, Reals.div_real _ (count_pos hw).ne', ← EReal.coe_neg, ← EReal.coe_add]
    rw [mean, mean, if_pos hT, if_pos (by omega), add_comm w T, sub_eq_add_neg]
  · rw [dif_neg h, add_zero, mean, mean, if_pos hT, if_neg (by omega), sub_zero]

/-- Each group's window. -/
def win (g : ℕ) : ℕ := 2 ^ (g + 1)

/-- What the reference sums, over reals. -/
theorem steps_apply (DM : FVec Ideal S8192x2048 .f32) (W : FVec Ideal S4x256x256 .bf16) (S : FVec Ideal S1x1024 .f32) (g : Fin 4) (c : Fin 256) (D : ℕ → ℝ)
    (hD : ∀ T : Fin 8192, dd DM W S (ix4 0 T g c) = (D T.val : EReal)) (T : Fin 8192) :
    steps DM W S (ix4 0 T g c) = ((mean (win g.val) D T.val - mean (win g.val) D (T.val + win g.val) : ℝ) : EReal) := by
  have hT := T.isLt
  generalize hd : dd DM W S = y at hD
  match g with
  | 0 =>
    pointwise [steps, q0, n0, dd0, hd, cnt0, cnt]
    exact step_real (w := 2) (by omega) D _ hT (hD T) (by exact_mod_cast c2) fun h => hD ⟨2 + T.val, by omega⟩
  | 1 =>
    pointwise [steps, q1, n1, dd1, hd, cnt1, cnt]
    exact step_real (w := 4) (by omega) D _ hT (hD T) (by exact_mod_cast c4) fun h => hD ⟨4 + T.val, by omega⟩
  | 2 =>
    pointwise [steps, q2, n2, dd2, hd, cnt2, cnt]
    exact step_real (w := 8) (by omega) D _ hT (hD T) (by exact_mod_cast c8) fun h => hD ⟨8 + T.val, by omega⟩
  | 3 =>
    pointwise [steps, q3, n3, dd3, hd, cnt3, cnt]
    exact step_real (w := 16) (by omega) D _ hT (hD T) (by exact_mod_cast c16) fun h => hD ⟨16 + T.val, by omega⟩

/-- The differences over the later positions add up to the window that starts at the position. -/
theorem telescope (f : ℕ → ℝ) (N w T : ℕ) (hT : T ≤ N) (hf : ∀ n, N ≤ n → f n = 0) :
    ∑ n ∈ Finset.range (N - T), (f (T + n) - f (T + n + w)) = ∑ s ∈ Finset.range w, f (T + s) := by
  have a := Finset.sum_range_add (fun n => f (T + n)) (N - T) w
  have b := Finset.sum_range_add (fun n => f (T + n)) w (N - T)
  have z : ∑ x ∈ Finset.range w, f (T + (N - T + x)) = 0 := Finset.sum_eq_zero fun x _ => hf _ (by omega)
  have e : ∑ x ∈ Finset.range (N - T), f (T + (w + x)) = ∑ x ∈ Finset.range (N - T), f (T + x + w) :=
    Finset.sum_congr rfl fun x _ => congrArg f (by omega)
  rw [Finset.sum_sub_distrib]
  rw [add_comm w] at b
  linarith [a, b]

/-- A sum over the rows that stay inside, over reals. -/
theorem inside_sum (f : ℕ → ℝ) (T : ℕ) (hT : T < 8192) {v : ∀ n : Fin 8192, T + n.val < 8192 → EReal}
    (hv : ∀ n h, v n h = (f n.val : EReal)) :
    (∑ n : Fin 8192, if hn : T + n.val < 8192 then v n hn else 0) = ((∑ n ∈ Finset.range (8192 - T), f n : ℝ) : EReal) := by
  have e : ∀ n : Fin 8192, (if hn : T + n.val < 8192 then v n hn else 0) = (((fun k : ℕ => if T + k < 8192 then f k else 0) n.val : ℝ) : EReal) := fun n => by
    dsimp only
    split
    · exact hv _ _
    · rfl
  rw [Finset.sum_congr rfl fun n _ => e n, Reals.coe_sum, Fin.sum_univ_eq_sum_range (fun k : ℕ => if T + k < 8192 then f k else 0), ← Finset.sum_filter]
  refine congrArg (fun s => ((∑ n ∈ s, f n : ℝ) : EReal)) (Finset.ext fun n => ?_)
  rw [Finset.mem_filter, Finset.mem_range, Finset.mem_range]
  omega

/-- THE MEANS' GRADIENT over reals: the window that starts at the position, less the position's own entry. -/
theorem du_real (DM : FVec Ideal S8192x2048 .f32) (W : FVec Ideal S4x256x256 .bf16) (S : FVec Ideal S1x1024 .f32) (C : Fin 1024) (D : ℕ → ℝ)
    (hD : ∀ T : Fin 8192, dd DM W S (ix4 0 T ⟨C.val / 256, by omega⟩ ⟨C.val % 256, by omega⟩) = (D T.val : EReal)) (T : Fin 8192) :
    du DM W S (ix2 T C) = ((∑ s ∈ Finset.range (win (C.val / 256)), mean (win (C.val / 256)) D (T.val + s) - D T.val : ℝ) : EReal) := by
  rw [du_apply, hD, inside_sum (fun n => mean (win (C.val / 256)) D (T.val + n) - mean (win (C.val / 256)) D (T.val + n + win (C.val / 256))) T.val T.isLt
    (fun n h => steps_apply DM W S ⟨C.val / 256, by omega⟩ ⟨C.val % 256, by omega⟩ D hD ⟨T.val + n.val, h⟩),
    telescope (mean (win (C.val / 256)) D) 8192 _ _ T.isLt.le (fun n h => if_neg (by omega)), ← EReal.coe_neg, ← EReal.coe_add, sub_eq_neg_add]

end Cert.ReferenceIdeal.Pool

end
-- ==== Proof.Pool.lean ====
/- The gradient of the causal windowed means, the group products and their scale: what the kernel leaves in its three result arrays is what the
   derivative of the reference's lines computes. The kernel adds up each window by doubling: it rolls the block of 528 rows (512 and a halo of 16) by
   1, 2, 4 and 8 rows. -/
module

public import proofs.«01_k».proof.Proof.Gen.KernelIdeal.Value
public import proofs.«01_k».proof.Proof.PoolRef
public import Idealize.ShloMosaic.Lib.Pipeline.ValueKit
public import Idealize.ShloMosaic.Lib.Pointwise

@[expose] public section

set_option maxRecDepth 16384

noncomputable section

namespace Cert.KernelIdeal.Pool

open Idealize.ShloMosaic Idealize.ShloMosaic.TcCoe Idealize.SL.Sem
open Idealize.ShloMosaic.Pipeline (Dat)
open Cert.KernelIdeal Cert.KernelIdeal.Gen
open Cert.ReferenceIdeal.Pool (mean win)

variable (m : (ℓ : Loc nD τ sig) → Buf (Elt Ideal) ℓ)

/-! ## Adding up a window by doubling -/

/-- Entry `k` of a column of 528, zero outside. -/
def col (V : FVec Ideal S528x256 .f32) (c : Fin 256) (k : ℕ) : EReal := if h : k < 528 then V (ix2 ⟨k, h⟩ c) else 0

/-- The array holds at each row the sum of `w` rows of `V`, as far as they do not wrap. -/
def Sums (w : ℕ) (V A : FVec Ideal S528x256 .f32) : Prop :=
  ∀ (c : Fin 256) (r : Fin 528), r.val + w ≤ 528 → A (ix2 r c) = ∑ s ∈ Finset.range w, col V c (r.val + s)

theorem sums_one (V : FVec Ideal S528x256 .f32) : Sums 1 V V := fun c r _ => by
  rw [Finset.sum_range_one, Nat.add_zero, col, dif_pos r.isLt]

/-- A roll by `w` rows and an addition double the window. -/
theorem sums_double {w v : ℕ} {V A : FVec Ideal S528x256 .f32} (h : Sums w V A) (n : BitVec 32) (hn : n.toNat = 528 - w) (hw : 0 < w) (hv : w + w = v) :
    Sums v V (addf A (dynamicRotate 0 n none A rotates_S528x256_d0)) := fun c r hr => by
  subst hv
  have e : dynamicRotate 0 n none A rotates_S528x256_d0 (ix2 r c) = A (ix2 ⟨r.val + w, by omega⟩ c) := by
    pointwise []
    rw [hn]
    congr 2
    refine Fin.ext ?_
    show (r.val + 528 - (528 - w) % 528) % 528 = r.val + w
    rw [Nat.mod_eq_of_lt (show 528 - w < 528 by omega), show r.val + 528 - (528 - w) = r.val + w by omega, Nat.mod_eq_of_lt (by omega)]
  refine (Ideal.add_congr (h c r (by omega)) (e.trans (h c ⟨r.val + w, by omega⟩ (by change r.val + w + w ≤ 528; omega)))).trans ?_
  rw [Finset.sum_range_add]
  simp only [Nat.add_assoc]

/-- The last lines of a group: the summed windows less the own entries, the halo cut off. -/
theorem last_apply (A D : FVec Ideal S528x256 .f32) (r : Fin 512) (c : Fin 256) :
    truncf .bf16 (subf (extractStridedSlice S512x256 ![0, 0] A slices_S528x256_o0_0_S512x256) (extractStridedSlice S512x256 ![0, 0] D slices_S528x256_o0_0_S512x256)) bitsLt_bf16_f32 (ix2 r c)
      = (A (ix2 ⟨r.val, by omega⟩ c) - D (ix2 ⟨r.val, by omega⟩ c) : EReal) := by
  pointwise []

/-- The scaled rows of a block and its halo. -/
def rowsE (i : ℕ) (x : Vec Ideal S512x256 .f32) (y : Vec Ideal S16x256 .f32) (s : Vec Ideal S1x256 .f32) (r : Fin 528) (d : Fin 256) : EReal :=
  (if h : r.val < 512 then x (ix2 ⟨r.val, h⟩ d) else if i < 15 then y (ix2 ⟨r.val - 512, by omega⟩ d) else 0) * s (ix2 0 d)

theorem guard {n : ℕ} (h : n < 16) (a b : EReal) : (Scalar.select (Scalar.cmpi CmpIPredicate.slt (BitVec.ofNat 32 n) 15#32) a b : EReal) = if n < 15 then a else b := by
  have : ∀ k : Fin 16, Scalar.cmpi CmpIPredicate.slt (BitVec.ofNat 32 k.val) 15#32 = BitVec.ofBool (decide (k.val < 15)) := by decide
  rw [this ⟨n, h⟩]
  by_cases e : n < 15 <;> simp [Scalar.select, e]

theorem pay8_apply (i : grid0.Coords) (x : Vec Ideal S512x256 .f32) (y : Vec Ideal S16x256 .f32) (s : Vec Ideal S1x256 .f32) (r : Fin 528) (d : Fin 256) :
    k0_pay8 (F := Ideal) i x y s (ix2 r d) = rowsE (i 0).val x y s r d := by
  unfold rowsE
  pointwise [k0_pay8]
  refine Ideal.mul_congr (dite_congr rfl (fun _ => rfl) fun h => ?_) rfl
  exact guard (i 0).isLt _ _

theorem pay16_apply (i : grid0.Coords) (x : Vec Ideal S512x256 .f32) (y : Vec Ideal S16x256 .f32) (s : Vec Ideal S1x256 .f32) (r : Fin 528) (d : Fin 256) :
    k0_pay16 (F := Ideal) (BitVec.ofNat 32 (i 0).val) x y s (ix2 r d) = rowsE (i 0).val x y s r d := by
  unfold rowsE
  pointwise [k0_pay16]
  refine Ideal.mul_congr (dite_congr rfl (fun _ => rfl) fun h => ?_) rfl
  exact guard (i 0).isLt _ _

theorem pay26_apply (i : grid0.Coords) (x : Vec Ideal S512x256 .f32) (y : Vec Ideal S16x256 .f32) (s : Vec Ideal S1x256 .f32) (r : Fin 528) (d : Fin 256) :
    k0_pay26 (F := Ideal) (BitVec.ofNat 32 (i 0).val) x y s (ix2 r d) = rowsE (i 0).val x y s r d := by
  unfold rowsE
  pointwise [k0_pay26]
  refine Ideal.mul_congr (dite_congr rfl (fun _ => rfl) fun h => ?_) rfl
  exact guard (i 0).isLt _ _

theorem pay35_apply (i : grid0.Coords) (x : Vec Ideal S512x256 .f32) (y : Vec Ideal S16x256 .f32) (s : Vec Ideal S1x256 .f32) (r : Fin 528) (d : Fin 256) :
    k0_pay35 (F := Ideal) (BitVec.ofNat 32 (i 0).val) x y s (ix2 r d) = rowsE (i 0).val x y s r d := by
  unfold rowsE
  pointwise [k0_pay35]
  refine Ideal.mul_congr (dite_congr rfl (fun _ => rfl) fun h => ?_) rfl
  exact guard (i 0).isLt _ _

/-- A window's count, computed in 32-bit integers. -/
theorem count_word (n k w : ℕ) (hn : n < 16) (hk : k < 528) (hw : w ≤ 16) :
    (FloatOps.sitofp FTy.f32 (IntOp.minsi (IntOp.addi (IntOp.addi (BitVec.ofNat 32 k) (Scalar.muli (BitVec.ofNat 32 n) 512#32)) 1#32) (BitVec.ofNat 32 w)) : Ideal .f32)
      = (Cert.ReferenceIdeal.Pool.count w (512 * n + k) : EReal) := by
  have e : IntOp.addi (IntOp.addi (BitVec.ofNat 32 k) (Scalar.muli (BitVec.ofNat 32 n) 512#32)) 1#32 = BitVec.ofNat 32 (512 * n + k + 1) := by
    apply BitVec.eq_of_toNat_eq
    simp [IntOp.addi, Scalar.muli, IntOp.muli]
    omega
  have i1 : (BitVec.ofNat 32 (512 * n + k + 1)).toInt = ((512 * n + k + 1 : ℕ) : ℤ) := by
    rw [BitVec.toInt_eq_toNat_of_lt (by rw [BitVec.toNat_ofNat]; omega), BitVec.toNat_ofNat, Nat.mod_eq_of_lt (by omega)]
  have i2 : (BitVec.ofNat 32 w).toInt = (w : ℤ) := by
    rw [BitVec.toInt_eq_toNat_of_lt (by rw [BitVec.toNat_ofNat]; omega), BitVec.toNat_ofNat, Nat.mod_eq_of_lt (by omega)]
  rw [e]
  show (((IntOp.minsi (BitVec.ofNat 32 (512 * n + k + 1)) (BitVec.ofNat 32 w)).toInt : ℝ) : EReal) = _
  congr 1
  unfold IntOp.minsi Cert.ReferenceIdeal.Pool.count
  by_cases h : 512 * n + k + 1 < w
  · have h' : (BitVec.ofNat 32 (512 * n + k + 1)).slt (BitVec.ofNat 32 w) = true := by rw [BitVec.slt_iff_toInt_lt, i1, i2]; exact_mod_cast h
    simp only [h', if_true]
    rw [i1, min_eq_left (by exact_mod_cast h.le)]
    push_cast
    rfl
  · have h' : ¬ (BitVec.ofNat 32 (512 * n + k + 1)).slt (BitVec.ofNat 32 w) = true := by rw [BitVec.slt_iff_toInt_lt, i1, i2]; exact_mod_cast h
    rw [if_neg h', i2, min_eq_right (by exact_mod_cast (not_lt.mp h))]
    push_cast
    rfl

/-- The gradient at a window's mean, before the division: a product of the scaled rows with the transposed weight. -/
def back (E : Fin 528 → Fin 256 → EReal) (w : Vec Ideal S1x256x256 .bf16) (r : Fin 528) (c : Fin 256) : EReal := ∑ d, E r d * w (ix3 0 c d)

/-- A block of gradients divided by the counts. -/
def quot (i : grid0.Coords) (w : ℕ) (D : FVec Ideal S528x256 .f32) : FVec Ideal S528x256 .f32 :=
  divf D (broadcastTo S528x256 (sitofp .f32 (minsi (addi (k0_pay6 i) (broadcast S528x1 1#32)) (broadcast S528x1 (BitVec.ofNat 32 w)))) broadcasts_S528x1_S528x256)

theorem quot_apply (i : grid0.Coords) (w : ℕ) (hw : w ≤ 16) (D : FVec Ideal S528x256 .f32) (r : Fin 528) (c : Fin 256) :
    quot i w D (ix2 r c) = Ideal.div (D (ix2 r c)) (Cert.ReferenceIdeal.Pool.count w (512 * (i 0).val + r.val) : EReal) := by
  rw [← count_word (i 0).val r.val w (i 0).isLt r.isLt hw]
  pointwise [quot, k0_pay6]

theorem range_real (w : ℕ) (f : ℕ → ℝ) : ∑ s ∈ Finset.range w, (f s : EReal) = ((∑ s ∈ Finset.range w, f s : ℝ) : EReal) := by
  induction w with
  | zero => simp
  | succ n ih => rw [Finset.sum_range_succ, Finset.sum_range_succ, ih, EReal.coe_add]

/-- What a group stores, over reals: `F` is the gradient at the means, by position. -/
theorem group_apply (i : grid0.Coords) (w : ℕ) (hw : w ≤ 16) (h0 : 0 < w) (D A : FVec Ideal S528x256 .f32) (hA : Sums w (quot i w D) A) (c : Fin 256)
    (F : ℕ → ℝ) (hF : ∀ k : Fin 528, D (ix2 k c) = (F (512 * (i 0).val + k.val) : EReal)) (hz : ∀ T, 8192 ≤ T → F T = 0) (r : Fin 512) :
    (A (ix2 ⟨r.val, by omega⟩ c) - D (ix2 ⟨r.val, by omega⟩ c) : EReal)
      = ((∑ s ∈ Finset.range w, mean w F (512 * (i 0).val + r.val + s) - F (512 * (i 0).val + r.val) : ℝ) : EReal) := by
  rw [hA c ⟨r.val, by omega⟩ (by change r.val + w ≤ 528; omega), hF, EReal.coe_sub]
  refine congrArg (fun x : EReal => x - _) ?_
  have : ∀ s ∈ Finset.range w, col (quot i w D) c (r.val + s) = (mean w F (512 * (i 0).val + r.val + s) : EReal) := fun s hs => by
    have hs := Finset.mem_range.mp hs
    rw [col, dif_pos (by omega : r.val + s < 528), quot_apply i w hw, hF, Reals.div_real _ (Cert.ReferenceIdeal.Pool.count_pos h0).ne', mean, Nat.add_assoc]
    split_ifs with h
    · rfl
    · rw [hz _ (not_lt.mp h), zero_div]
  rw [Finset.sum_congr rfl this, range_real]

theorem pay9_apply (i : grid0.Coords) (x : Vec Ideal S512x256 .f32) (y : Vec Ideal S16x256 .f32) (s : Vec Ideal S1x256 .f32) (w : Vec Ideal S1x256x256 .bf16) (c : Fin 256)
    (F : ℕ → ℝ) (hF : ∀ k : Fin 528, back (rowsE (i 0).val x y s) w k c = (F (512 * (i 0).val + k.val) : EReal)) (hz : ∀ T, 8192 ≤ T → F T = 0) (r : Fin 512) :
    k0_pay9 (F := Ideal) i x y s w (ix2 r c) = ((∑ s ∈ Finset.range 2, mean 2 F (512 * (i 0).val + r.val + s) - F (512 * (i 0).val + r.val) : ℝ) : EReal) := by
  refine (last_apply _ _ r c).trans (group_apply i 2 (by norm_num) (by norm_num) _ _ (sums_double (sums_one (quot i 2 _)) 527#32 rfl (by norm_num) rfl) c F (fun k => (Eq.trans ?_ (hF k))) hz r)
  unfold back
  simp only [← pay8_apply]
  pointwise []

theorem pay19_apply (i : grid0.Coords) (x : Vec Ideal S512x256 .f32) (y : Vec Ideal S16x256 .f32) (s : Vec Ideal S1x256 .f32) (w : Vec Ideal S1x256x256 .bf16) (c : Fin 256)
    (F : ℕ → ℝ) (hF : ∀ k : Fin 528, back (rowsE (i 0).val x y s) w k c = (F (512 * (i 0).val + k.val) : EReal)) (hz : ∀ T, 8192 ≤ T → F T = 0) (r : Fin 512) :
    k0_pay19 (F := Ideal) (k0_pay17 (BitVec.ofNat 32 (i 0).val) x y s w) (k0_pay18 (BitVec.ofNat 32 (i 0).val) (k0_pay6 i) x y s w) 527#32 (ix2 r c)
      = ((∑ s ∈ Finset.range 4, mean 4 F (512 * (i 0).val + r.val + s) - F (512 * (i 0).val + r.val) : ℝ) : EReal) := by
  refine (last_apply _ _ r c).trans (group_apply i 4 (by norm_num) (by norm_num) _ _
    (sums_double (sums_double (sums_one (quot i 4 _)) 527#32 rfl (by norm_num) rfl) 526#32 rfl (by norm_num) rfl) c F (fun k => (Eq.trans ?_ (hF k))) hz r)
  unfold back
  simp only [← pay16_apply]
  pointwise [k0_pay17]

theorem pay28_apply (i : grid0.Coords) (x : Vec Ideal S512x256 .f32) (y : Vec Ideal S16x256 .f32) (s : Vec Ideal S1x256 .f32) (w : Vec Ideal S1x256x256 .bf16) (c : Fin 256)
    (F : ℕ → ℝ) (hF : ∀ k : Fin 528, back (rowsE (i 0).val x y s) w k c = (F (512 * (i 0).val + k.val) : EReal)) (hz : ∀ T, 8192 ≤ T → F T = 0) (r : Fin 512) :
    k0_pay28 (F := Ideal) (k0_pay6 i) (k0_pay26 (BitVec.ofNat 32 (i 0).val) x y s) w (ix2 r c)
      = ((∑ s ∈ Finset.range 8, mean 8 F (512 * (i 0).val + r.val + s) - F (512 * (i 0).val + r.val) : ℝ) : EReal) := by
  refine (last_apply _ _ r c).trans (group_apply i 8 (by norm_num) (by norm_num) _ _
    (sums_double (sums_double (sums_double (sums_one (quot i 8 _)) 527#32 rfl (by norm_num) rfl) 526#32 rfl (by norm_num) rfl) 524#32 rfl (by norm_num) rfl)
    c F (fun k => (Eq.trans ?_ (hF k))) hz r)
  unfold back
  simp only [← pay26_apply]
  pointwise [k0_pay27]

theorem pay36_apply (i : grid0.Coords) (x : Vec Ideal S512x256 .f32) (y : Vec Ideal S16x256 .f32) (s : Vec Ideal S1x256 .f32) (w : Vec Ideal S1x256x256 .bf16) (c : Fin 256)
    (F : ℕ → ℝ) (hF : ∀ k : Fin 528, back (rowsE (i 0).val x y s) w k c = (F (512 * (i 0).val + k.val) : EReal)) (hz : ∀ T, 8192 ≤ T → F T = 0) (r : Fin 512) :
    k0_pay36 (F := Ideal) (BitVec.ofNat 32 (i 0).val) (k0_pay6 i) x y s w (ix2 r c)
      = ((∑ s ∈ Finset.range 16, mean 16 F (512 * (i 0).val + r.val + s) - F (512 * (i 0).val + r.val) : ℝ) : EReal) := by
  refine (last_apply _ _ r c).trans (group_apply i 16 (by norm_num) (by norm_num) _ _
    (sums_double (sums_double (sums_double (sums_double (sums_one (quot i 16 _)) 527#32 rfl (by norm_num) rfl) 526#32 rfl (by norm_num) rfl) 524#32 rfl (by norm_num) rfl)
      520#32 rfl (by norm_num) rfl)
    c F (fun k => (Eq.trans ?_ (hF k))) hz r)
  unfold back
  simp only [← pay35_apply]
  pointwise []

/-- Each window's block at a point. -/
theorem idx : ∀ t : Fin cfg0.N, win0_0.index t = ![t.val, 0] ∧ win0_1.index t = ![min ((t.val + 1) * 32) 511, 0] ∧ win0_2.index t = ![t.val, 0]
    ∧ win0_3.index t = ![0, 0, 0] ∧ win0_4.index t = ![0, 0] ∧ win0_5.index t = ![t.val, 0] ∧ win0_6.index t = ![0, 0, 0] ∧ win0_7.index t = ![0, 0] :=
  (by decide +kernel : ∀ t : Fin grid0.N, _)

theorem coord : ∀ t : Fin cfg0.N, (grid0.coords t 0).val = t.val := (by decide +kernel : ∀ t : Fin grid0.N, _)

/-- The entries of the incoming gradient, of the weight and of the scale are reals. -/
def Real3 (c : Dev nD) : Prop :=
  (∀ j, ∃ r : ℝ, m ((c : Thread nD τ).loc main_arg1) j = (r : EReal)) ∧ (∀ j, ∃ r : ℝ, m ((c : Thread nD τ).loc main_arg2) j = (r : EReal))
    ∧ (∀ j, ∃ r : ℝ, m ((c : Thread nD τ).loc main_arg3) j = (r : EReal))

/-- The reference's result for the rows, over the kernel's arguments. -/
abbrev REF (c : Dev nD) : FVec Ideal S8192x1024 .bf16 :=
  Cert.ReferenceIdeal.Pool.du (m ((c : Thread nD τ).loc main_arg1)) (m ((c : Thread nD τ).loc main_arg2)) (m ((c : Thread nD τ).loc main_arg3))

/-- The gradient at the means is real at every position; it is continued by zero. -/
theorem means_real (c : Dev nD) (hr : Real3 m c) (g : Fin 4) (q : Fin 256) : ∃ F : ℕ → ℝ,
    (∀ T : Fin 8192, Cert.ReferenceIdeal.Pool.dd (m ((c : Thread nD τ).loc main_arg1)) (m ((c : Thread nD τ).loc main_arg2)) (m ((c : Thread nD τ).loc main_arg3)) (ix4 0 T g q) = (F T.val : EReal))
      ∧ ∀ T, 8192 ≤ T → F T = 0 := by
  have h : ∀ T : Fin 8192, ∃ r : ℝ, Cert.ReferenceIdeal.Pool.dd (m ((c : Thread nD τ).loc main_arg1)) (m ((c : Thread nD τ).loc main_arg2)) (m ((c : Thread nD τ).loc main_arg3)) (ix4 0 T g q) = (r : EReal) := fun T => by
    obtain ⟨a, ha⟩ := Classical.axiom_of_choice hr.1
    obtain ⟨w, hw⟩ := Classical.axiom_of_choice hr.2.1
    obtain ⟨s, hs⟩ := Classical.axiom_of_choice hr.2.2
    refine ⟨∑ x : Fin 256, a (ix2 T ⟨g.val * 256 + x.val, by omega⟩) * s (ix2 0 ⟨g.val * 256 + x.val, by omega⟩) * w (ix3 g q x), ?_⟩
    rw [Cert.ReferenceIdeal.Pool.dd_apply, ← Reals.coe_sum]
    exact Finset.sum_congr rfl fun x _ => by
      rw [EReal.coe_mul, EReal.coe_mul]
      exact Ideal.mul_congr (Ideal.mul_congr (ha _) (hs _)) (hw _)
  obtain ⟨f, hf⟩ := Classical.axiom_of_choice h
  refine ⟨fun T => if h : T < 8192 then f ⟨T, h⟩ else 0, fun T => ?_, fun T hT => ?_⟩
  · rw [hf T]; simp
  · simp [not_lt.mpr hT]

/-- The blocks of one group of columns at a point hold the arguments' entries. -/
structure Blocks (c : Dev nD) (n : ℕ) (hn : n < 16) (g : Fin 4) (x : Vec Ideal S512x256 .f32) (y : Vec Ideal S16x256 .f32) (s : Vec Ideal S1x256 .f32) (w : Vec Ideal S1x256x256 .bf16) : Prop where
  rows : ∀ (r : Fin 512) (d : Fin 256), x (ix2 r d) = m ((c : Thread nD τ).loc main_arg1) (ix2 ⟨n * 512 + r.val, by omega⟩ ⟨g.val * 256 + d.val, by omega⟩)
  halo : ∀ (h : n < 15) (r : Fin 16) (d : Fin 256), y (ix2 r d) = m ((c : Thread nD τ).loc main_arg1) (ix2 ⟨(n + 1) * 512 + r.val, by omega⟩ ⟨g.val * 256 + d.val, by omega⟩)
  scale : ∀ d : Fin 256, s (ix2 0 d) = m ((c : Thread nD τ).loc main_arg3) (ix2 0 ⟨g.val * 256 + d.val, by omega⟩)
  weight : ∀ a d : Fin 256, w (ix3 0 a d) = m ((c : Thread nD τ).loc main_arg2) (ix3 g a d)

theorem back_eq (c : Dev nD) (n : ℕ) (hn : n < 16) (g : Fin 4) {x y s w} (b : Blocks m c n hn g x y s w) (q : Fin 256) (F : ℕ → ℝ)
    (hF : ∀ T : Fin 8192, Cert.ReferenceIdeal.Pool.dd (m ((c : Thread nD τ).loc main_arg1)) (m ((c : Thread nD τ).loc main_arg2)) (m ((c : Thread nD τ).loc main_arg3)) (ix4 0 T g q) = (F T.val : EReal))
    (hz : ∀ T, 8192 ≤ T → F T = 0) (k : Fin 528) : back (rowsE n x y s) w k q = (F (512 * n + k.val) : EReal) := by
  by_cases hT : 512 * n + k.val < 8192
  · rw [← hF ⟨512 * n + k.val, hT⟩, Cert.ReferenceIdeal.Pool.dd_apply]
    refine Finset.sum_congr rfl fun d _ => Ideal.mul_congr ?_ (b.weight q d)
    refine Ideal.mul_congr ?_ (b.scale d)
    split_ifs with h1 h2
    · refine (b.rows _ d).trans (congrArg _ (congrArg₂ ix2 (Fin.ext ?_) rfl))
      show n * 512 + k.val = 512 * n + k.val
      omega
    · refine (b.halo h2 _ d).trans (congrArg _ (congrArg₂ ix2 (Fin.ext ?_) rfl))
      show (n + 1) * 512 + (k.val - 512) = 512 * n + k.val
      omega
    · omega
  · rw [hz _ (not_lt.mp hT), EReal.coe_zero]
    refine Finset.sum_eq_zero fun d _ => ?_
    rw [rowsE, dif_neg (by omega), if_neg (by omega), zero_mul, zero_mul]

/-- The reference's result at a column of a group. -/
theorem ref_real (c : Dev nD) (g : Fin 4) (q : Fin 256) (F : ℕ → ℝ)
    (hF : ∀ T : Fin 8192, Cert.ReferenceIdeal.Pool.dd (m ((c : Thread nD τ).loc main_arg1)) (m ((c : Thread nD τ).loc main_arg2)) (m ((c : Thread nD τ).loc main_arg3)) (ix4 0 T g q) = (F T.val : EReal))
    (j : S8192x1024.Idx) (h1 : (j 1).val = g.val * 256 + q.val) :
    REF m c j = ((∑ s ∈ Finset.range (win g.val), mean (win g.val) F ((j 0).val + s) - F (j 0).val : ℝ) : EReal) := by
  have hj : (j 1).val < 1024 := (j 1).isLt
  have e1 : (j 1).val / 256 = g.val := by omega
  have e2 : (j 1).val % 256 = q.val := by omega
  have e : j = ix2 (j 0) (j 1) := by
    funext a
    match a with
    | ⟨0, _⟩ => rfl
    | ⟨1, _⟩ => rfl
  have h := Cert.ReferenceIdeal.Pool.du_real (m ((c : Thread nD τ).loc main_arg1)) (m ((c : Thread nD τ).loc main_arg2)) (m ((c : Thread nD τ).loc main_arg3)) (j 1) F
    (fun T => (congrArg _ (by rw [show (⟨(j 1).val / 256, by omega⟩ : Fin 4) = g from Fin.ext e1, show (⟨(j 1).val % 256, by omega⟩ : Fin 256) = q from Fin.ext e2])).trans (hF T)) (j 0)
  rw [e1] at h
  exact (congrArg (REF m c) e).trans h

theorem tile_eq (c : Dev nD) (hr : Real3 m c) (t : Fin cfg0.N) (g : Fin 4) {x y s w}
    (b : Blocks m c t.val (lt_of_lt_of_eq t.isLt N_0) g x y s w) (r : Fin 512) (q : Fin 256) (j : S8192x1024.Idx) (h0 : (j 0).val = t.val * 512 + r.val) (h1 : (j 1).val = g.val * 256 + q.val) (P : EReal)
    (hP : ∀ F : ℕ → ℝ, (∀ k : Fin 528, back (rowsE (grid0.coords t 0).val x y s) w k q = (F (512 * (grid0.coords t 0).val + k.val) : EReal)) → (∀ T, 8192 ≤ T → F T = 0)
      → P = ((∑ s ∈ Finset.range (win g.val), mean (win g.val) F (512 * (grid0.coords t 0).val + r.val + s) - F (512 * (grid0.coords t 0).val + r.val) : ℝ) : EReal)) :
    P = REF m c j := by
  obtain ⟨F, hF, hz⟩ := means_real m c hr g q
  rw [ref_real m c g q F hF j h1, hP F (fun k => by rw [coord t]; exact back_eq m c t.val _ g b q F hF hz k) hz, coord t, h0, mul_comm 512]

theorem split2 {n k : ℕ} (x : (⟨2, ![n, k]⟩ : Shape).Idx) : x = ix2 (x 0) (x 1) := by
  funext a
  match a with
  | ⟨0, _⟩ => rfl
  | ⟨1, _⟩ => rfl

theorem tile0 (c : Dev nD) (hr : Real3 m c) (t : Fin cfg0.N) (y) (x : S512x256.Idx) (h0 : (y 0).val = (x 0).val) (h1 : (y 1).val = (x 1).val) :
    k0_pay9 (F := Ideal) (grid0.coords t) (View.ld (iblk m c 0 t) (Rect.unit ![0, 0] ![512, 256] inb_S512x1024_S512x256_0_0)) (View.ld (iblk m c 1 t) (Rect.unit ![0, 0] ![16, 256] inb_S16x1024_S16x256_0_0)) (View.ld (iblk m c 4 t) (Rect.unit ![0, 0] ![1, 256] inb_S1x1024_S1x256_0_0)) (View.ld (iblk m c 3 t) (Rect.unit ![0, 0, 0] ![1, 256, 256] inb_S4x256x256_S1x256x256_0_0_0)) x = REF m c ((win0_5.blk t).view.emb y) := by
  rw [split2 x]
  have hN : t.val < 16 := lt_of_lt_of_eq t.isLt N_0
  refine tile_eq m c hr t 0 ⟨fun r d => ?_, fun h r d => ?_, fun d => ?_, fun a d => ?_⟩ (x 0) (x 1) _ ?_ ?_ _ (fun F hF hz => pay9_apply _ _ _ _ _ _ F hF hz _)
  · blk_point [iblk, V, idx t]
  · blk_point [iblk, V, idx t]
  · blk_point [iblk, V, idx t]
  · blk_point [iblk, V, idx t]
  · blk_simp
    simp [idx t, h0]
  · blk_simp
    simp [idx t, h1]

theorem tile1 (c : Dev nD) (hr : Real3 m c) (t : Fin cfg0.N) (y) (x : S512x256.Idx) (h0 : (y 0).val = (x 0).val) (h1 : (y 1).val = 256 + (x 1).val) :
    k0_pay19 (F := Ideal) (k0_pay17 (BitVec.ofNat 32 (grid0.coords t 0).val) (View.ld (iblk m c 0 t) (Rect.unit ![0, 256] ![512, 256] inb_S512x1024_S512x256_0_256)) (View.ld (iblk m c 1 t) (Rect.unit ![0, 256] ![16, 256] inb_S16x1024_S16x256_0_256)) (View.ld (iblk m c 4 t) (Rect.unit ![0, 256] ![1, 256] inb_S1x1024_S1x256_0_256)) (View.ld (iblk m c 3 t) (Rect.unit ![1, 0, 0] ![1, 256, 256] inb_S4x256x256_S1x256x256_1_0_0))) (k0_pay18 (BitVec.ofNat 32 (grid0.coords t 0).val) (k0_pay6 (grid0.coords t)) (View.ld (iblk m c 0 t) (Rect.unit ![0, 256] ![512, 256] inb_S512x1024_S512x256_0_256)) (View.ld (iblk m c 1 t) (Rect.unit ![0, 256] ![16, 256] inb_S16x1024_S16x256_0_256)) (View.ld (iblk m c 4 t) (Rect.unit ![0, 256] ![1, 256] inb_S1x1024_S1x256_0_256)) (View.ld (iblk m c 3 t) (Rect.unit ![1, 0, 0] ![1, 256, 256] inb_S4x256x256_S1x256x256_1_0_0))) 527#32 x = REF m c ((win0_5.blk t).view.emb y) := by
  rw [split2 x]
  have hN : t.val < 16 := lt_of_lt_of_eq t.isLt N_0
  refine tile_eq m c hr t 1 ⟨fun r d => ?_, fun h r d => ?_, fun d => ?_, fun a d => ?_⟩ (x 0) (x 1) _ ?_ ?_ _ (fun F hF hz => pay19_apply _ _ _ _ _ _ F hF hz _)
  · blk_point [iblk, V, idx t]
  · blk_point [iblk, V, idx t]
  · blk_point [iblk, V, idx t]
  · blk_point [iblk, V, idx t]
  · blk_simp
    simp [idx t, h0]
  · blk_simp
    simp [idx t, h1]

theorem tile2 (c : Dev nD) (hr : Real3 m c) (t : Fin cfg0.N) (y) (x : S512x256.Idx) (h0 : (y 0).val = (x 0).val) (h1 : (y 1).val = 512 + (x 1).val) :
    k0_pay28 (F := Ideal) (k0_pay6 (grid0.coords t)) (k0_pay26 (BitVec.ofNat 32 (grid0.coords t 0).val) (View.ld (iblk m c 0 t) (Rect.unit ![0, 512] ![512, 256] inb_S512x1024_S512x256_0_512)) (View.ld (iblk m c 1 t) (Rect.unit ![0, 512] ![16, 256] inb_S16x1024_S16x256_0_512)) (View.ld (iblk m c 4 t) (Rect.unit ![0, 512] ![1, 256] inb_S1x1024_S1x256_0_512))) (View.ld (iblk m c 3 t) (Rect.unit ![2, 0, 0] ![1, 256, 256] inb_S4x256x256_S1x256x256_2_0_0)) x = REF m c ((win0_5.blk t).view.emb y) := by
  rw [split2 x]
  have hN : t.val < 16 := lt_of_lt_of_eq t.isLt N_0
  refine tile_eq m c hr t 2 ⟨fun r d => ?_, fun h r d => ?_, fun d => ?_, fun a d => ?_⟩ (x 0) (x 1) _ ?_ ?_ _ (fun F hF hz => pay28_apply _ _ _ _ _ _ F hF hz _)
  · blk_point [iblk, V, idx t]
  · blk_point [iblk, V, idx t]
  · blk_point [iblk, V, idx t]
  · blk_point [iblk, V, idx t]
  · blk_simp
    simp [idx t, h0]
  · blk_simp
    simp [idx t, h1]

theorem tile3 (c : Dev nD) (hr : Real3 m c) (t : Fin cfg0.N) (y) (x : S512x256.Idx) (h0 : (y 0).val = (x 0).val) (h1 : (y 1).val = 768 + (x 1).val) :
    k0_pay36 (F := Ideal) (BitVec.ofNat 32 (grid0.coords t 0).val) (k0_pay6 (grid0.coords t)) (View.ld (iblk m c 0 t) (Rect.unit ![0, 768] ![512, 256] inb_S512x1024_S512x256_0_768)) (View.ld (iblk m c 1 t) (Rect.unit ![0, 768] ![16, 256] inb_S16x1024_S16x256_0_768)) (View.ld (iblk m c 4 t) (Rect.unit ![0, 768] ![1, 256] inb_S1x1024_S1x256_0_768)) (View.ld (iblk m c 3 t) (Rect.unit ![3, 0, 0] ![1, 256, 256] inb_S4x256x256_S1x256x256_3_0_0)) x = REF m c ((win0_5.blk t).view.emb y) := by
  rw [split2 x]
  have hN : t.val < 16 := lt_of_lt_of_eq t.isLt N_0
  refine tile_eq m c hr t 3 ⟨fun r d => ?_, fun h r d => ?_, fun d => ?_, fun a d => ?_⟩ (x 0) (x 1) _ ?_ ?_ _ (fun F hF hz => pay36_apply _ _ _ _ _ _ F hF hz _)
  · blk_point [iblk, V, idx t]
  · blk_point [iblk, V, idx t]
  · blk_point [iblk, V, idx t]
  · blk_point [iblk, V, idx t]
  · blk_simp
    simp [idx t, h0]
  · blk_simp
    simp [idx t, h1]

set_option maxHeartbeats 1600000 in
/-- THE ROWS' GRADIENT after the run is the reference's. -/
theorem final_du (c : Dev nD) (hr : Real3 m c) : (dats m 0 c).arrAt 5 (cfgs 0).N = REF m c := by
  refine (dats m 0 c).arrAt_eq_of_covers 5 _ (by decide +kernel) fun t _ y => ?_
  blk_simp
  rw [after0_5]
  have ht : t.val < 16 := lt_of_lt_of_eq t.isLt N_0
  by_cases e : t.val % 16 = 0
  · rw [outsAt0_A m c t e (by omega) e (by omega) e (by omega) e (by omega)]
    frame_out
    canon_tiles x h
    · exact tile3 m c hr t y x h0 h1
    · exact tile2 m c hr t y x h0 h1
    · exact tile1 m c hr t y x h0 h1
    · exact tile0 m c hr t y x h0 h1
  · rw [outsAt0_B m c t e (by omega) e (by omega) e (by omega) e (by omega)]
    frame_out
    canon_tiles x h
    · exact tile3 m c hr t y x h0 h1
    · exact tile2 m c hr t y x h0 h1
    · exact tile1 m c hr t y x h0 h1
    · exact tile0 m c hr t y x h0 h1

end Cert.KernelIdeal.Pool

end
-- ==== Proof.PoolD.lean ====
/- The pooled rows that the host hands to the kernel: the operations in front of the launch are read off in stretches, one for each group. -/
module

public import proofs.«01_k».proof.Proof.Gen.KernelIdeal.Value
public import proofs.«01_k».proof.Proof.PoolRef
public import Idealize.ShloMosaic.Lib.Pipeline.ValueKit
public import Idealize.ShloMosaic.Lib.Pointwise

@[expose] public section

set_option maxRecDepth 16384

noncomputable section

namespace Cert.KernelIdeal.PoolD

open Idealize.ShloMosaic Idealize.ShloMosaic.TcCoe Idealize.SL.Sem
open Idealize.ShloMosaic.StableHlo (after)
open Cert.KernelIdeal Cert.KernelIdeal.Gen

variable (m : (ℓ : Loc nD τ sig) → Buf (Elt Ideal) ℓ)

/-- One group's windowed mean less its own rows: from the rows, their running sums and the counts. -/
abbrev group0 (A Q : FVec Ideal S1x8192x4x256 .f32) (N : FVec Ideal S8192 .f32) : FVec Ideal S1x8192x256 .f32 :=
  subf (Host.divf (subf (shapeCast S1x8192x256 (extractStridedSlice S1x8192x1x256 ![0, 0, 0, 0] Q slices_S1x8192x4x256_S1x8192x1x256_0_0_0_0) shapeCasts_S1x8192x1x256_S1x8192x256 : FVec Ideal S1x8192x256 .f32)
      (concatenate S1x8192x256 1 [⟨S1x2x256, (broadcastInDim S1x2x256 ![] bcast_S_S1x2x256 (constant S_ .f32 0x00000000#32))⟩,
        ⟨S1x8190x256, (extractStridedSlice S1x8190x256 ![0, 0, 0] (shapeCast S1x8192x256 (extractStridedSlice S1x8192x1x256 ![0, 0, 0, 0] Q slices_S1x8192x4x256_S1x8192x1x256_0_0_0_0) shapeCasts_S1x8192x1x256_S1x8192x256 : FVec Ideal S1x8192x256 .f32) slices_S1x8192x256_S1x8190x256_0_0_0)⟩] concatenates_S1x2x256_S1x8190x256_S1x8192x256_d1))
      (broadcastInDim S1x8192x256 ![0, 1, 2] bcast_S1x8192x1_S1x8192x256_0_1_2 (broadcastInDim S1x8192x1 ![1] bcast_S8192_S1x8192x1_1
        (minimumf N (broadcastInDim S8192 ![] bcast_S_S8192 (constant S_ .f32 0x40000000#32))))))
    (shapeCast S1x8192x256 (extractStridedSlice S1x8192x1x256 ![0, 0, 0, 0] A slices_S1x8192x4x256_S1x8192x1x256_0_0_0_0) shapeCasts_S1x8192x1x256_S1x8192x256 : FVec Ideal S1x8192x256 .f32)

/-- One group's windowed mean less its own rows: from the rows, their running sums and the counts. -/
abbrev group1 (A Q : FVec Ideal S1x8192x4x256 .f32) (N : FVec Ideal S8192 .f32) : FVec Ideal S1x8192x256 .f32 :=
  subf (Host.divf (subf (shapeCast S1x8192x256 (extractStridedSlice S1x8192x1x256 ![0, 0, 1, 0] Q slices_S1x8192x4x256_S1x8192x1x256_0_0_1_0) shapeCasts_S1x8192x1x256_S1x8192x256 : FVec Ideal S1x8192x256 .f32)
      (concatenate S1x8192x256 1 [⟨S1x4x256, (broadcastInDim S1x4x256 ![] bcast_S_S1x4x256 (constant S_ .f32 0x00000000#32))⟩,
        ⟨S1x8188x256, (extractStridedSlice S1x8188x256 ![0, 0, 0] (shapeCast S1x8192x256 (extractStridedSlice S1x8192x1x256 ![0, 0, 1, 0] Q slices_S1x8192x4x256_S1x8192x1x256_0_0_1_0) shapeCasts_S1x8192x1x256_S1x8192x256 : FVec Ideal S1x8192x256 .f32) slices_S1x8192x256_S1x8188x256_0_0_0)⟩] concatenates_S1x4x256_S1x8188x256_S1x8192x256_d1))
      (broadcastInDim S1x8192x256 ![0, 1, 2] bcast_S1x8192x1_S1x8192x256_0_1_2 (broadcastInDim S1x8192x1 ![1] bcast_S8192_S1x8192x1_1
        (minimumf N (broadcastInDim S8192 ![] bcast_S_S8192 (constant S_ .f32 0x40800000#32))))))
    (shapeCast S1x8192x256 (extractStridedSlice S1x8192x1x256 ![0, 0, 1, 0] A slices_S1x8192x4x256_S1x8192x1x256_0_0_1_0) shapeCasts_S1x8192x1x256_S1x8192x256 : FVec Ideal S1x8192x256 .f32)

/-- One group's windowed mean less its own rows: from the rows, their running sums and the counts. -/
abbrev group2 (A Q : FVec Ideal S1x8192x4x256 .f32) (N : FVec Ideal S8192 .f32) : FVec Ideal S1x8192x256 .f32 :=
  subf (Host.divf (subf (shapeCast S1x8192x256 (extractStridedSlice S1x8192x1x256 ![0, 0, 2, 0] Q slices_S1x8192x4x256_S1x8192x1x256_0_0_2_0) shapeCasts_S1x8192x1x256_S1x8192x256 : FVec Ideal S1x8192x256 .f32)
      (concatenate S1x8192x256 1 [⟨S1x8x256, (broadcastInDim S1x8x256 ![] bcast_S_S1x8x256 (constant S_ .f32 0x00000000#32))⟩,
        ⟨S1x8184x256, (extractStridedSlice S1x8184x256 ![0, 0, 0] (shapeCast S1x8192x256 (extractStridedSlice S1x8192x1x256 ![0, 0, 2, 0] Q slices_S1x8192x4x256_S1x8192x1x256_0_0_2_0) shapeCasts_S1x8192x1x256_S1x8192x256 : FVec Ideal S1x8192x256 .f32) slices_S1x8192x256_S1x8184x256_0_0_0)⟩] concatenates_S1x8x256_S1x8184x256_S1x8192x256_d1))
      (broadcastInDim S1x8192x256 ![0, 1, 2] bcast_S1x8192x1_S1x8192x256_0_1_2 (broadcastInDim S1x8192x1 ![1] bcast_S8192_S1x8192x1_1
        (minimumf N (broadcastInDim S8192 ![] bcast_S_S8192 (constant S_ .f32 0x41000000#32))))))
    (shapeCast S1x8192x256 (extractStridedSlice S1x8192x1x256 ![0, 0, 2, 0] A slices_S1x8192x4x256_S1x8192x1x256_0_0_2_0) shapeCasts_S1x8192x1x256_S1x8192x256 : FVec Ideal S1x8192x256 .f32)

/-- One group's windowed mean less its own rows: from the rows, their running sums and the counts. -/
abbrev group3 (A Q : FVec Ideal S1x8192x4x256 .f32) (N : FVec Ideal S8192 .f32) : FVec Ideal S1x8192x256 .f32 :=
  subf (Host.divf (subf (shapeCast S1x8192x256 (extractStridedSlice S1x8192x1x256 ![0, 0, 3, 0] Q slices_S1x8192x4x256_S1x8192x1x256_0_0_3_0) shapeCasts_S1x8192x1x256_S1x8192x256 : FVec Ideal S1x8192x256 .f32)
      (concatenate S1x8192x256 1 [⟨S1x16x256, (broadcastInDim S1x16x256 ![] bcast_S_S1x16x256 (constant S_ .f32 0x00000000#32))⟩,
        ⟨S1x8176x256, (extractStridedSlice S1x8176x256 ![0, 0, 0] (shapeCast S1x8192x256 (extractStridedSlice S1x8192x1x256 ![0, 0, 3, 0] Q slices_S1x8192x4x256_S1x8192x1x256_0_0_3_0) shapeCasts_S1x8192x1x256_S1x8192x256 : FVec Ideal S1x8192x256 .f32) slices_S1x8192x256_S1x8176x256_0_0_0)⟩] concatenates_S1x16x256_S1x8176x256_S1x8192x256_d1))
      (broadcastInDim S1x8192x256 ![0, 1, 2] bcast_S1x8192x1_S1x8192x256_0_1_2 (broadcastInDim S1x8192x1 ![1] bcast_S8192_S1x8192x1_1
        (minimumf N (broadcastInDim S8192 ![] bcast_S_S8192 (constant S_ .f32 0x41800000#32))))))
    (shapeCast S1x8192x256 (extractStridedSlice S1x8192x1x256 ![0, 0, 3, 0] A slices_S1x8192x4x256_S1x8192x1x256_0_0_3_0) shapeCasts_S1x8192x1x256_S1x8192x256 : FVec Ideal S1x8192x256 .f32)

/-- The groups side by side, as the kernel takes them. -/
abbrev joined (a b c d : FVec Ideal S1x8192x256 .f32) : FVec Ideal S8192x1024 .bf16 :=
  truncf .bf16 (shapeCast S8192x1024 (shapeCast S8192x4x256 (concatenate S1x8192x4x256 2 [⟨S1x8192x1x256, (broadcastInDim S1x8192x1x256 ![0, 1, 3] bcast_S1x8192x256_S1x8192x1x256_0_1_3 a : FVec Ideal S1x8192x1x256 .f32)⟩,
    ⟨S1x8192x1x256, (broadcastInDim S1x8192x1x256 ![0, 1, 3] bcast_S1x8192x256_S1x8192x1x256_0_1_3 b : FVec Ideal S1x8192x1x256 .f32)⟩,
    ⟨S1x8192x1x256, (broadcastInDim S1x8192x1x256 ![0, 1, 3] bcast_S1x8192x256_S1x8192x1x256_0_1_3 c : FVec Ideal S1x8192x1x256 .f32)⟩,
    ⟨S1x8192x1x256, (broadcastInDim S1x8192x1x256 ![0, 1, 3] bcast_S1x8192x256_S1x8192x1x256_0_1_3 d : FVec Ideal S1x8192x1x256 .f32)⟩]
    concatenates_S1x8192x1x256_S1x8192x1x256_S1x8192x1x256_S1x8192x1x256_S1x8192x4x256_d2 : FVec Ideal S1x8192x4x256 .f32) shapeCasts_S1x8192x4x256_S8192x4x256) shapeCasts_S8192x4x256_S8192x1024) bitsLt_bf16_f32

/-- The stretches of the host's operations. -/
abbrev ops0 : List (HloOp τ sig (Elt Ideal)) := hostOps0_2.take 20
abbrev ops1 : List (HloOp τ sig (Elt Ideal)) := (hostOps0_2.drop 20).take 16
abbrev ops2 : List (HloOp τ sig (Elt Ideal)) := (hostOps0_2.drop 36).take 16
abbrev ops3 : List (HloOp τ sig (Elt Ideal)) := (hostOps0_2.drop 52).take 16
abbrev ops4 : List (HloOp τ sig (Elt Ideal)) := hostOps0_2.drop 68

theorem ops_split : (hostOps0_2 : List (HloOp τ sig (Elt Ideal))) = ops0 ++ (ops1 ++ (ops2 ++ (ops3 ++ ops4))) := rfl

/-- The positions counted from one. -/
abbrev ranks : FVec Ideal S8192 .f32 := addf (broadcastInDim S8192 ![] bcast_S_S8192 (constant S_ .f32 0x3F800000#32)) (sitofp .f32 (iotaInDim S8192 32 0))

set_option maxHeartbeats 2000000 in
theorem read0 (X : Valuation τ sig (Elt Ideal)) : after ops0 X (Proc.devRef .tc main_v19) = group0 (X (Proc.devRef .tc main_v1)) (X (Proc.devRef .tc main_v2)) ranks := by
  rw [show ops0 = [_, _, _, _, _, _, _, _, _, _, _, _, _, _, _, _, _, _, _, _] from rfl]
  after_results_simp
  try rfl

set_option maxHeartbeats 2000000 in
theorem read0_c (X : Valuation τ sig (Elt Ideal)) : after ops0 X (Proc.devRef .tc main_v5) = ranks := by
  rw [show ops0 = [_, _, _, _, _, _, _, _, _, _, _, _, _, _, _, _, _, _, _, _] from rfl]
  after_results_simp
  try rfl

set_option maxHeartbeats 2000000 in
theorem keep0_v1 (X : Valuation τ sig (Elt Ideal)) : after ops0 X (Proc.devRef .tc main_v1) = X (Proc.devRef .tc main_v1) := by
  rw [show ops0 = [_, _, _, _, _, _, _, _, _, _, _, _, _, _, _, _, _, _, _, _] from rfl]
  after_results_simp
  try rfl

set_option maxHeartbeats 2000000 in
theorem keep0_v2 (X : Valuation τ sig (Elt Ideal)) : after ops0 X (Proc.devRef .tc main_v2) = X (Proc.devRef .tc main_v2) := by
  rw [show ops0 = [_, _, _, _, _, _, _, _, _, _, _, _, _, _, _, _, _, _, _, _] from rfl]
  after_results_simp
  try rfl

set_option maxHeartbeats 2000000 in
theorem read1 (X : Valuation τ sig (Elt Ideal)) : after ops1 X (Proc.devRef .tc main_v33) = group1 (X (Proc.devRef .tc main_v1)) (X (Proc.devRef .tc main_v2)) (X (Proc.devRef .tc main_v5)) := by
  rw [show ops1 = [_, _, _, _, _, _, _, _, _, _, _, _, _, _, _, _] from rfl]
  after_results_simp
  try rfl

set_option maxHeartbeats 2000000 in
theorem keep1_v1 (X : Valuation τ sig (Elt Ideal)) : after ops1 X (Proc.devRef .tc main_v1) = X (Proc.devRef .tc main_v1) := by
  rw [show ops1 = [_, _, _, _, _, _, _, _, _, _, _, _, _, _, _, _] from rfl]
  after_results_simp
  try rfl

set_option maxHeartbeats 2000000 in
theorem keep1_v2 (X : Valuation τ sig (Elt Ideal)) : after ops1 X (Proc.devRef .tc main_v2) = X (Proc.devRef .tc main_v2) := by
  rw [show ops1 = [_, _, _, _, _, _, _, _, _, _, _, _, _, _, _, _] from rfl]
  after_results_simp
  try rfl

set_option maxHeartbeats 2000000 in
theorem keep1_v5 (X : Valuation τ sig (Elt Ideal)) : after ops1 X (Proc.devRef .tc main_v5) = X (Proc.devRef .tc main_v5) := by
  rw [show ops1 = [_, _, _, _, _, _, _, _, _, _, _, _, _, _, _, _] from rfl]
  after_results_simp
  try rfl

set_option maxHeartbeats 2000000 in
theorem keep1_v19 (X : Valuation τ sig (Elt Ideal)) : after ops1 X (Proc.devRef .tc main_v19) = X (Proc.devRef .tc main_v19) := by
  rw [show ops1 = [_, _, _, _, _, _, _, _, _, _, _, _, _, _, _, _] from rfl]
  after_results_simp
  try rfl

set_option maxHeartbeats 2000000 in
theorem read2 (X : Valuation τ sig (Elt Ideal)) : after ops2 X (Proc.devRef .tc main_v47) = group2 (X (Proc.devRef .tc main_v1)) (X (Proc.devRef .tc main_v2)) (X (Proc.devRef .tc main_v5)) := by
  rw [show ops2 = [_, _, _, _, _, _, _, _, _, _, _, _, _, _, _, _] from rfl]
  after_results_simp
  try rfl

set_option maxHeartbeats 2000000 in
theorem keep2_v1 (X : Valuation τ sig (Elt Ideal)) : after ops2 X (Proc.devRef .tc main_v1) = X (Proc.devRef .tc main_v1) := by
  rw [show ops2 = [_, _, _, _, _, _, _, _, _, _, _, _, _, _, _, _] from rfl]
  after_results_simp
  try rfl

set_option maxHeartbeats 2000000 in
theorem keep2_v2 (X : Valuation τ sig (Elt Ideal)) : after ops2 X (Proc.devRef .tc main_v2) = X (Proc.devRef .tc main_v2) := by
  rw [show ops2 = [_, _, _, _, _, _, _, _, _, _, _, _, _, _, _, _] from rfl]
  after_results_simp
  try rfl

set_option maxHeartbeats 2000000 in
theorem keep2_v5 (X : Valuation τ sig (Elt Ideal)) : after ops2 X (Proc.devRef .tc main_v5) = X (Proc.devRef .tc main_v5) := by
  rw [show ops2 = [_, _, _, _, _, _, _, _, _, _, _, _, _, _, _, _] from rfl]
  after_results_simp
  try rfl

set_option maxHeartbeats 2000000 in
theorem keep2_v19 (X : Valuation τ sig (Elt Ideal)) : after ops2 X (Proc.devRef .tc main_v19) = X (Proc.devRef .tc main_v19) := by
  rw [show ops2 = [_, _, _, _, _, _, _, _, _, _, _, _, _, _, _, _] from rfl]
  after_results_simp
  try rfl

set_option maxHeartbeats 2000000 in
theorem keep2_v33 (X : Valuation τ sig (Elt Ideal)) : after ops2 X (Proc.devRef .tc main_v33) = X (Proc.devRef .tc main_v33) := by
  rw [show ops2 = [_, _, _, _, _, _, _, _, _, _, _, _, _, _, _, _] from rfl]
  after_results_simp
  try rfl

set_option maxHeartbeats 2000000 in
theorem read3 (X : Valuation τ sig (Elt Ideal)) : after ops3 X (Proc.devRef .tc main_v61) = group3 (X (Proc.devRef .tc main_v1)) (X (Proc.devRef .tc main_v2)) (X (Proc.devRef .tc main_v5)) := by
  rw [show ops3 = [_, _, _, _, _, _, _, _, _, _, _, _, _, _, _, _] from rfl]
  after_results_simp
  try rfl

set_option maxHeartbeats 2000000 in
theorem keep3_v19 (X : Valuation τ sig (Elt Ideal)) : after ops3 X (Proc.devRef .tc main_v19) = X (Proc.devRef .tc main_v19) := by
  rw [show ops3 = [_, _, _, _, _, _, _, _, _, _, _, _, _, _, _, _] from rfl]
  after_results_simp
  try rfl

set_option maxHeartbeats 2000000 in
theorem keep3_v33 (X : Valuation τ sig (Elt Ideal)) : after ops3 X (Proc.devRef .tc main_v33) = X (Proc.devRef .tc main_v33) := by
  rw [show ops3 = [_, _, _, _, _, _, _, _, _, _, _, _, _, _, _, _] from rfl]
  after_results_simp
  try rfl

set_option maxHeartbeats 2000000 in
theorem keep3_v47 (X : Valuation τ sig (Elt Ideal)) : after ops3 X (Proc.devRef .tc main_v47) = X (Proc.devRef .tc main_v47) := by
  rw [show ops3 = [_, _, _, _, _, _, _, _, _, _, _, _, _, _, _, _] from rfl]
  after_results_simp
  try rfl

set_option maxHeartbeats 2000000 in
theorem read4 (X : Valuation τ sig (Elt Ideal)) : after ops4 X (Proc.devRef .tc main_v69) = joined (X (Proc.devRef .tc main_v19)) (X (Proc.devRef .tc main_v33)) (X (Proc.devRef .tc main_v47)) (X (Proc.devRef .tc main_v61)) := by
  rw [show ops4 = [_, _, _, _, _, _, _, _] from rfl]
  after_results_simp
  try rfl

/-- The rows split into groups, and their running sums. -/
abbrev rowsOf (U : FVec Ideal S8192x1024 .f32) : FVec Ideal S1x8192x4x256 .f32 :=
  shapeCast _ (broadcastInDim S1x8192x1024 ![1, 2] bcast_S8192x1024_S1x8192x1024_1_2 U) shapeCasts_S1x8192x1024_S1x8192x4x256
abbrev sumsOf (A : FVec Ideal S1x8192x4x256 .f32) : FVec Ideal S1x8192x4x256 .f32 :=
  Host.reduceWindowAdd ![1, 8192, 1, 1] ![1, 1, 1, 1] ![0, 8191, 0, 0] ![0, 0, 0, 0] A (broadcastInDim S_ ![] bcast_S_S_ (constant S_ .f32 0x00000000#32)) reduceWindows_S1x8192x4x256_S1x8192x4x256_w1s1p0_0_w8192s1p8191_0_w1s1p0_0_w1s1p0_0 h_S_

theorem first_v1 (X : Valuation τ sig (Elt Ideal)) : after hostOps0 X (Proc.devRef .tc main_v1) = rowsOf (X (Proc.devRef .tc main_arg0)) := by
  unfold hostOps0
  after_results_simp
  try rfl

theorem sums_v1 (X : Valuation τ sig (Elt Ideal)) : after hostOps0_1 X (Proc.devRef .tc main_v1) = X (Proc.devRef .tc main_v1) := by
  simp only [hostOps0_1, StableHlo.TRef.binary, StableHlo.TRef.nullary, StableHlo.TRef.unary, StableHlo.TRef.toBuf, StableHlo.TRef.ofBuf, cast_eq]
  after_results_simp
  try rfl

theorem sums_v2 (X : Valuation τ sig (Elt Ideal)) : after hostOps0_1 X (Proc.devRef .tc main_v2) = sumsOf (X (Proc.devRef .tc main_v1)) := by
  simp only [hostOps0_1, StableHlo.TRef.binary, StableHlo.TRef.nullary, StableHlo.TRef.unary, StableHlo.TRef.toBuf, StableHlo.TRef.ofBuf, cast_eq]
  after_results_simp
  try rfl

/-- What the kernel finds in its third operand. -/
theorem entry (c : Dev nD) : V m c main_v69 = joined
    (group0 (rowsOf (m ((c : Thread nD τ).loc main_arg0))) (sumsOf (rowsOf (m ((c : Thread nD τ).loc main_arg0)))) ranks)
    (group1 (rowsOf (m ((c : Thread nD τ).loc main_arg0))) (sumsOf (rowsOf (m ((c : Thread nD τ).loc main_arg0)))) ranks)
    (group2 (rowsOf (m ((c : Thread nD τ).loc main_arg0))) (sumsOf (rowsOf (m ((c : Thread nD τ).loc main_arg0)))) ranks)
    (group3 (rowsOf (m ((c : Thread nD τ).loc main_arg0))) (sumsOf (rowsOf (m ((c : Thread nD τ).loc main_arg0)))) ranks) := by
  have e : V m c main_v69 = after ops4 (after ops3 (after ops2 (after ops1 (after ops0 (after hostOps0_1 (after hostOps0 (fun b => m (c, b)))))))) (Proc.devRef .tc main_v69) := by
    show after ([hostOps0, hostOps0_1, hostOps0_2].flatten) _ _ = _
    rw [List.flatten_cons, List.flatten_cons, List.flatten_cons, List.flatten_nil, List.append_nil, StableHlo.after_append, StableHlo.after_append, ops_split,
      StableHlo.after_append, StableHlo.after_append, StableHlo.after_append, StableHlo.after_append]
  rw [e, read4, keep3_v19, keep3_v33, keep3_v47, read3, keep2_v19, keep2_v33, read2, keep2_v1, keep2_v2, keep2_v5, keep1_v19, read1, keep1_v1, keep1_v2, keep1_v5,
    read0, read0_c, keep0_v1, keep0_v2, sums_v1, sums_v2, first_v1]

/-- The same, by entries of the reference's pooled rows. -/
theorem entry_apply (c : Dev nD) (T : Fin 8192) (C : Fin 1024) :
    V m c main_v69 (ix2 T C) = Cert.ReferenceIdeal.Pool.diff (m ((c : Thread nD τ).loc main_arg0)) (ix4 0 T ⟨C.val / 256, by omega⟩ ⟨C.val % 256, by omega⟩) := by
  rw [entry]
  have e : ∀ D : FVec Ideal S1x8192x4x256 .f32, (truncf .bf16 (shapeCast S8192x1024 (shapeCast S8192x4x256 D shapeCasts_S1x8192x4x256_S8192x4x256) shapeCasts_S8192x4x256_S8192x1024) bitsLt_bf16_f32 : FVec Ideal S8192x1024 .bf16) (ix2 T C)
      = D (ix4 0 T ⟨C.val / 256, by omega⟩ ⟨C.val % 256, by omega⟩) := fun D => by
    pointwise []
  exact e _

end Cert.KernelIdeal.PoolD

end
-- ==== Proof.PoolW.lean ====
/- The gradients of the group weights and of their scale: both are added up over the sixteen grid points, a store per group. -/
module

public import proofs.«01_k».proof.Proof.Gen.KernelIdeal.Value
public import proofs.«01_k».proof.Proof.Pool
public import proofs.«01_k».proof.Proof.PoolD
public import Idealize.ShloMosaic.Lib.Pipeline.ValueKit
public import Idealize.ShloMosaic.Lib.Pointwise

@[expose] public section

set_option maxRecDepth 16384

noncomputable section

namespace Cert.KernelIdeal.PoolW

open Idealize.ShloMosaic Idealize.ShloMosaic.TcCoe Idealize.SL.Sem
open Idealize.ShloMosaic.Pipeline (Dat)
open Cert.KernelIdeal Cert.KernelIdeal.Gen
open Cert.KernelIdeal.Pool (idx split2)

variable (m : (ℓ : Loc nD τ sig) → Buf (Elt Ideal) ℓ)

/-- The pooled rows of a block times the scaled incoming gradient, for one group. -/
def partW (A : Vec Ideal S512x1024 .f32) (B : Vec Ideal S512x1024 .bf16) (S : Vec Ideal S1x1024 .f32) (j : S4x256x256.Idx) : EReal :=
  ∑ r : Fin 512, B (ix2 r ⟨(j 0).val * 256 + (j 1).val, by have := (j 0).isLt; have := (j 1).isLt; simp at *; omega⟩)
    * (A (ix2 r ⟨(j 0).val * 256 + (j 2).val, by have := (j 0).isLt; have := (j 2).isLt; simp at *; omega⟩)
      * S (ix2 0 ⟨(j 0).val * 256 + (j 2).val, by have := (j 0).isLt; have := (j 2).isLt; simp at *; omega⟩))

/-- The incoming gradient times the group products, for one column. -/
def partS (A : Vec Ideal S512x1024 .f32) (B : Vec Ideal S512x1024 .bf16) (W : Vec Ideal S4x256x256 .bf16) (j : S1x1024.Idx) : EReal :=
  ∑ r : Fin 512, A (ix2 r (j 1)) * ∑ x : Fin 256, B (ix2 r ⟨(j 1).val / 256 * 256 + x.val, by have := (j 1).isLt; simp at *; omega⟩)
    * W (ix3 ⟨(j 1).val / 256, by have := (j 1).isLt; simp at *; omega⟩ x ⟨(j 1).val % 256, by omega⟩)

theorem dw_at (U : FVec Ideal S8192x1024 .f32) (D : FVec Ideal S8192x2048 .f32) (S : FVec Ideal S1x1024 .f32) (j : S4x256x256.Idx) : Cert.ReferenceIdeal.Pool.dw U D S j
    = (∑ l : Fin 8192, Cert.ReferenceIdeal.Pool.diff U (ix4 0 l (j 0) (j 1)) * (D (ix2 l ⟨(j 0).val * 256 + (j 2).val, by have := (j 0).isLt; have := (j 2).isLt; simp at *; omega⟩)
      * S (ix2 0 ⟨(j 0).val * 256 + (j 2).val, by have := (j 0).isLt; have := (j 2).isLt; simp at *; omega⟩)) : EReal) :=
  (congrArg _ (eq_ix3 j)).trans (Cert.ReferenceIdeal.Pool.dw_apply U D S (j 0) (j 1) (j 2))

/-- The third operand's block at a point, by the reference's pooled rows. -/
theorem pooled_block (c : Dev nD) (t : Fin cfg0.N) (n : ℕ) (hn : n < 16) (e : t.val = n) (k : Fin 512) (C : Fin 1024) (hl : n * 512 + k.val < 8192) (g : Fin 4) (q : Fin 256) (h : C.val = g.val * 256 + q.val) :
    iblk m c 2 t (ix2 k C) = Cert.ReferenceIdeal.Pool.diff (m ((c : Thread nD τ).loc main_arg0)) (ix4 0 ⟨n * 512 + k.val, hl⟩ g q) := by
  subst e
  have hg : (⟨C.val / 256, by omega⟩ : Fin 4) = g := Fin.ext (by show C.val / 256 = g.val; omega)
  have hq : (⟨C.val % 256, by omega⟩ : Fin 256) = q := Fin.ext (by show C.val % 256 = q.val; omega)
  have e := PoolD.entry_apply m c ⟨t.val * 512 + k.val, hl⟩ C
  rw [hg, hq] at e
  rw [← e]
  show V m c main_v69 ((win0_2.blk t).view.emb (ix2 k C)) = _
  congr 1
  funext a
  refine Fin.ext ?_
  match a with
  | ⟨0, _⟩ =>
    blk_simp
    simp [idx t]
  | ⟨1, _⟩ =>
    blk_simp
    simp [idx t]

set_option maxHeartbeats 3200000 in
/-- THE WEIGHTS' GRADIENT after the run is the reference's. -/
theorem final_dw (c : Dev nD) : (dats m 0 c).arrAt 6 (cfgs 0).N
    = Cert.ReferenceIdeal.Pool.dw (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.1) 16 (fun _ => 0)
      (fun t j => partW (iblk m c 0 t) (iblk m c 2 t) (iblk m c 4 t) j)
      (fun t e j => by
        have ht : t.val < 16 := lt_of_lt_of_eq t.isLt N_0
        rw [outsAt0_A m c t e (by omega) e (by omega) e (by omega) e (by omega)]
        frame_out
        refine Eq.trans ?_ (zero_add _).symm
        canon_tiles x h
        all_goals (open_payloads; pointwise [partW])
        all_goals blk_point [])
      (fun t e j => by
        rw [outsAt0_B m c t e (by omega) e (by omega) e (by omega) e (by omega)]
        frame_out
        canon_tiles x h
        all_goals (open_payloads; pointwise [partW])
        all_goals blk_point [])
      t ((flush0_6 t).mp hf) _, zero_add, dw_at]
  unfold partW
  refine Fin.sum_mul_add_congr fun s k hl => ?_
  refine congrArg₂ (· * ·) ?_ ?_
  · refine pooled_block m c _ s.val (by omega) (by have : t.val < 16 := lt_of_lt_of_eq t.isLt N_0; show 16 * (t.val / 16) + s.val = s.val; omega) k _ hl _ _ ?_
    blk_simp
    simp [idx t]
  · blk_point [iblk, V, idx t, idx ⟨_, Pipeline.run_point_lt_of_flush t ((flush0_6 t).mp hf) s⟩]

set_option maxHeartbeats 3200000 in
/-- THE SCALE'S GRADIENT after the run is the reference's. -/
theorem final_dsc (c : Dev nD) : (dats m 0 c).arrAt 7 (cfgs 0).N
    = Cert.ReferenceIdeal.Pool.dsc (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7, Pipeline.eq_sum_fin_of_reset_step_apply_of_flush (fun n h => (outsAt0 m c n h).2.2) 16 (fun _ => 0)
      (fun t j => partS (iblk m c 0 t) (iblk m c 2 t) (iblk m c 3 t) j)
      (fun t e j => by
        have ht : t.val < 16 := lt_of_lt_of_eq t.isLt N_0
        rw [outsAt0_A m c t e (by omega) e (by omega) e (by omega) e (by omega)]
        frame_out
        refine Eq.trans ?_ (zero_add _).symm
        canon_tiles x h
        all_goals (open_payloads; pointwise [partS])
        all_goals blk_point [])
      (fun t e j => by
        rw [outsAt0_B m c t e (by omega) e (by omega) e (by omega) e (by omega)]
        frame_out
        canon_tiles x h
        all_goals (open_payloads; pointwise [partS])
        all_goals blk_point [])
      t ((flush0_7 t).mp hf) _, zero_add, Cert.ReferenceIdeal.Pool.dsc_apply]
  unfold partS
  refine Fin.sum_mul_add_congr fun s k hl => ?_
  refine congrArg₂ (· * ·) ?_ (Finset.sum_congr rfl fun x _ => congrArg₂ (· * ·) ?_ ?_)
  · blk_point [iblk, V, idx t, idx ⟨_, Pipeline.run_point_lt_of_flush t ((flush0_7 t).mp hf) s⟩]
  · refine pooled_block m c _ s.val (by omega) (by have : t.val < 16 := lt_of_lt_of_eq t.isLt N_0; show 16 * (t.val / 16) + s.val = s.val; omega) k _ hl _ _ ?_
    blk_simp
    simp [idx t]
  · blk_point [iblk, V, idx t, idx ⟨_, Pipeline.run_point_lt_of_flush t ((flush0_7 t).mp hf) s⟩]

end Cert.KernelIdeal.PoolW

end
-- ==== Proof.Claims.lean ====
/- The claims about the pool gradient: the runs of the kernel, of its idealized form and of the reference, and the equality of their results. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite
public import proofs.«01_k».proof.Proof.PoolW
public import proofs.«01_k».proof.Proof.Pool
public import Idealize.ShloMosaic.Lib.Claim
public import Idealize.ShloMosaic.Lib.Quiescent

@[expose] public section

set_option maxRecDepth 16384

noncomputable section

namespace Cert.Claims

open Idealize.ShloMosaic Idealize.SL.Sem

theorem kernel : Cert.quiescent_Kernel := fun m ρ _ => Cert.Kernel.Gen.frame m ρ

theorem ideal : Cert.quiescent_KernelIdeal := fun m ρ _ => Cert.KernelIdeal.Gen.frame m ρ

theorem reference : Cert.quiescent_ReferenceIdeal := fun m g _ =>
  θ_run_mono (Cert.ReferenceIdeal.Value.run m g) fun r h => ⟨fun c => (h c).2.2.2, sem_eq_zero_of_no_sems rfl r.2⟩

theorem ideal_pre : Cert.quiescent_KernelIdeal_pre_finite := fun m ρ _ => Cert.KernelIdeal.Gen.frame m ρ

theorem reference_pre : Cert.quiescent_ReferenceIdeal_pre_finite := fun m g _ => reference m g trivial

set_option maxHeartbeats 1600000 in
theorem algebraic : Cert.algebraic_KernelIdeal_ReferenceIdeal_pre_finite := by
  pair_intro
  · run_from Cert.KernelIdeal.Value.run_blocks m g
  · run_from Cert.ReferenceIdeal.Value.run m' g'
    · have hr : Cert.KernelIdeal.Pool.Real3 m c := by
        obtain ⟨h0, h1, h2⟩ := hpre c
        exact ⟨fun j => Cert.Reals.real_of_abs_lt (congrFun h0 j), fun j => Cert.Reals.real_of_abs_lt (congrFun h1 j), fun j => Cert.Reals.real_of_abs_lt (congrFun h2 j)⟩
      refine Eq.trans ?_ (Cert.KernelIdeal.Pool.final_du m c hr).symm
      change Cert.ReferenceIdeal.Pool.du (m' (c.tc.loc ReferenceIdeal.main_arg1)) (m' (c.tc.loc ReferenceIdeal.main_arg2)) (m' (c.tc.loc ReferenceIdeal.main_arg3)) = _
      rw [(hagree c).2.1, (hagree c).2.2.1, (hagree c).2.2.2]
    · refine Eq.trans ?_ (Cert.KernelIdeal.PoolW.final_dw m c).symm
      change Cert.ReferenceIdeal.Pool.dw (m' (c.tc.loc ReferenceIdeal.main_arg0)) (m' (c.tc.loc ReferenceIdeal.main_arg1)) (m' (c.tc.loc ReferenceIdeal.main_arg3)) = _
      rw [(hagree c).1, (hagree c).2.1, (hagree c).2.2.2]
    · refine Eq.trans ?_ (Cert.KernelIdeal.PoolW.final_dsc m c).symm
      change Cert.ReferenceIdeal.Pool.dsc (m' (c.tc.loc ReferenceIdeal.main_arg0)) (m' (c.tc.loc ReferenceIdeal.main_arg1)) (m' (c.tc.loc ReferenceIdeal.main_arg2)) = _
      rw [(hagree c).1, (hagree c).2.1, (hagree c).2.2.1]

end Cert.Claims

end
-- ==== Proof.XattnRef.lean ====
/- The gradient of the attention over the memory, as the derivative of the reference's lines computes it: the scores, the row maxima, the weights and the
   weights' derivative, each read at an index, and the gradients of the queries, the keys and the values as sums of them. -/
module

public import proofs.«01_k».proof.Proof.Gen.Reference2Ideal.Run
public import proofs.«01_k».proof.Proof.Reals
public import Idealize.ShloMosaic.Lib.Pipeline.ValueKit
public import Idealize.ShloMosaic.Lib.Pointwise

@[expose] public section

set_option maxRecDepth 16384

noncomputable section

namespace Cert.Reference2Ideal.Xattn

open Idealize.ShloMosaic Idealize.ShloMosaic.TcCoe Idealize.SL.Sem
open Cert.Reference2Ideal Cert.Reference2Ideal.Gen

/-! ## The reference's terms -/

abbrev qv (Q : FVec Ideal S8192x2048 .bf16) : FVec Ideal S1x8192x4x512 .f32 :=
  shapeCast _ (extf .f32 (broadcastInDim S1x8192x2048 ![1, 2] bcast_S8192x2048_S1x8192x2048_1_2 Q) bitsLt_bf16_f32) shapeCasts_S1x8192x2048_S1x8192x4x512

abbrev dov (DO : FVec Ideal S8192x2048 .bf16) : FVec Ideal S1x8192x4x512 .f32 :=
  shapeCast _ (extf .f32 (broadcastInDim S1x8192x2048 ![1, 2] bcast_S8192x2048_S1x8192x2048_1_2 DO) bitsLt_bf16_f32) shapeCasts_S1x8192x2048_S1x8192x4x512

abbrev kvv (KV : FVec Ideal S256x4096 .bf16) : FVec Ideal S1x256x2x4x512 .f32 :=
  shapeCast _ (extf .f32 (broadcastInDim S1x256x4096 ![1, 2] bcast_S256x4096_S1x256x4096_1_2 KV) bitsLt_bf16_f32) shapeCasts_S1x256x4096_S1x256x2x4x512

abbrev kk (KV : FVec Ideal S256x4096 .bf16) : FVec Ideal S1x256x4x512 .f32 :=
  shapeCast _ (extractStridedSlice S1x256x1x4x512 ![0, 0, 0, 0, 0] (kvv KV) slices_S1x256x2x4x512_S1x256x1x4x512_0_0_0_0_0) shapeCasts_S1x256x1x4x512_S1x256x4x512

abbrev vv (KV : FVec Ideal S256x4096 .bf16) : FVec Ideal S1x256x4x512 .f32 :=
  shapeCast _ (extractStridedSlice S1x256x1x4x512 ![0, 0, 1, 0, 0] (kvv KV) slices_S1x256x2x4x512_S1x256x1x4x512_0_0_1_0_0) shapeCasts_S1x256x1x4x512_S1x256x4x512

abbrev scores (Q : FVec Ideal S8192x2048 .bf16) (KV : FVec Ideal S256x4096 .bf16) : FVec Ideal S1x4x8192x256 .f32 :=
  mulf (Host.dotGeneral dot_S1x8192x4x512_S1x256x4x512_S1x4x8192x256_3_3_1_1_02_02 none (qv Q) (kk KV)) (broadcastInDim S1x4x8192x256 ![] bcast_S_S1x4x8192x256 (constant S_ .f32 0x3D3504F3#32))

abbrev tops (Q : FVec Ideal S8192x2048 .bf16) (KV : FVec Ideal S256x4096 .bf16) : FVec Ideal S1x4x8192 .f32 :=
  maximumf (broadcastInDim S1x4x8192 ![] bcast_S_S1x4x8192 (constant S_ .f32 0xFF800000#32)) (Host.reduce FloatOps.maximumf (scores Q KV) (constant S_ .f32 0xFF800000#32) reducesTo_S1x4x8192x256_S1x4x8192_d3 h_S_)

abbrev exps (Q : FVec Ideal S8192x2048 .bf16) (KV : FVec Ideal S256x4096 .bf16) : FVec Ideal S1x4x8192x256 .f32 :=
  Host.exp (subf (scores Q KV) (broadcastInDim S1x4x8192x256 ![0, 1, 2, 3] bcast_S1x4x8192x1_S1x4x8192x256_0_1_2_3 (broadcastInDim S1x4x8192x1 ![0, 1, 2] bcast_S1x4x8192_S1x4x8192x1_0_1_2 (tops Q KV))))

abbrev sums (Q : FVec Ideal S8192x2048 .bf16) (KV : FVec Ideal S256x4096 .bf16) : FVec Ideal S1x4x8192x1 .f32 :=
  broadcastInDim S1x4x8192x1 ![0, 1, 2] bcast_S1x4x8192_S1x4x8192x1_0_1_2 (Host.reduceAdd (exps Q KV) (constant S_ .f32 0x00000000#32) reducesTo_S1x4x8192x256_S1x4x8192_d3 h_S_)

abbrev probs (Q : FVec Ideal S8192x2048 .bf16) (KV : FVec Ideal S256x4096 .bf16) : FVec Ideal S1x4x8192x256 .f32 :=
  Host.divf (exps Q KV) (broadcastInDim S1x4x8192x256 ![0, 1, 2, 3] bcast_S1x4x8192x1_S1x4x8192x256_0_1_2_3 (sums Q KV))

abbrev dps (KV : FVec Ideal S256x4096 .bf16) (DO : FVec Ideal S8192x2048 .bf16) : FVec Ideal S1x4x8192x256 .f32 :=
  Host.dotGeneral dot_S1x4x512x8192_S1x256x4x512_S1x4x8192x256_2_3_3_1_01_02 none (transpose S1x4x512x8192 [0, 2, 3, 1] (dov DO) transposes_S1x8192x4x512_S1x4x512x8192_0_2_3_1) (vv KV)

abbrev corr (Q : FVec Ideal S8192x2048 .bf16) (KV : FVec Ideal S256x4096 .bf16) (DO : FVec Ideal S8192x2048 .bf16) : FVec Ideal S1x4x8192 .f32 :=
  Host.reduceAdd (mulf (mulf (dps KV DO) (broadcastInDim S1x4x8192x256 ![0, 1, 2, 3] bcast_S1x4x8192x1_S1x4x8192x256_0_1_2_3 (Host.divf (broadcastInDim S1x4x8192x1 ![] bcast_S_S1x4x8192x1 (constant S_ .f32 0x3F800000#32)) (mulf (sums Q KV) (sums Q KV))))) (exps Q KV)) (constant S_ .f32 0x00000000#32) reducesTo_S1x4x8192x256_S1x4x8192_d3 h_S_

abbrev corr1 (Q : FVec Ideal S8192x2048 .bf16) (KV : FVec Ideal S256x4096 .bf16) (DO : FVec Ideal S8192x2048 .bf16) : FVec Ideal S4x8192 .f32 :=
  Host.reduceAdd (Host.negf (shapeCast _ (corr Q KV DO) shapeCasts_S1x4x8192_S1x4x8192x1)) (constant S_ .f32 0x00000000#32) reducesTo_S1x4x8192x1_S4x8192_d0_3 h_S_

abbrev dss (Q : FVec Ideal S8192x2048 .bf16) (KV : FVec Ideal S256x4096 .bf16) (DO : FVec Ideal S8192x2048 .bf16) : FVec Ideal S1x4x8192x256 .f32 :=
  mulf (mulf (addf (Host.divf (dps KV DO) (broadcastInDim S1x4x8192x256 ![0, 1, 2, 3] bcast_S1x4x8192x1_S1x4x8192x256_0_1_2_3 (sums Q KV))) (broadcastInDim S1x4x8192x256 ![0, 1, 2] bcast_S1x4x8192_S1x4x8192x256_0_1_2 (broadcastInDim S1x4x8192 ![1, 2] bcast_S4x8192_S1x4x8192_1_2 (corr1 Q KV DO)))) (exps Q KV)) (broadcastInDim S1x4x8192x256 ![] bcast_S_S1x4x8192x256 (constant S_ .f32 0x3D3504F3#32))

/-- The gradient of the queries. -/
abbrev dq (Q : FVec Ideal S8192x2048 .bf16) (KV : FVec Ideal S256x4096 .bf16) (DO : FVec Ideal S8192x2048 .bf16) : FVec Ideal S8192x2048 .bf16 :=
  truncf .bf16 (shapeCast _ (shapeCast _ (transpose S1x8192x4x512 [0, 2, 1, 3] (Host.dotGeneral dot_S1x4x8192x256_S1x256x4x512_S1x4x8192x512_3_1_2_3_01_02 none (dss Q KV DO) (kk KV)) transposes_S1x4x8192x512_S1x8192x4x512_0_2_1_3) shapeCasts_S1x8192x4x512_S1x8192x2048) shapeCasts_S1x8192x2048_S8192x2048) bitsLt_bf16_f32

/-- The gradient of the keys and of the values, side by side. -/
abbrev dkv (Q : FVec Ideal S8192x2048 .bf16) (KV : FVec Ideal S256x4096 .bf16) (DO : FVec Ideal S8192x2048 .bf16) : FVec Ideal S256x4096 .f32 :=
  shapeCast _ (shapeCast _ (addf (pad S1x256x2x4x512 ![0, 0, 1, 0, 0] ![0, 0, 0, 0, 0] ![0, 0, 0, 0, 0] (broadcastInDim S1x256x1x4x512 ![0, 1, 3, 4] bcast_S1x256x4x512_S1x256x1x4x512_0_1_3_4 (transpose S1x256x4x512 [0, 3, 1, 2] (Host.dotGeneral dot_S1x4x512x8192_S1x4x8192x256_S1x4x512x256_3_2_2_3_01_01 none (transpose S1x4x512x8192 [0, 2, 3, 1] (dov DO) transposes_S1x8192x4x512_S1x4x512x8192_0_2_3_1) (probs Q KV)) transposes_S1x4x512x256_S1x256x4x512_0_3_1_2)) (constant S_ .f32 0x00000000#32) pads_S1x256x1x4x512_S1x256x2x4x512_000_000_100_000_000 h_S_) (pad S1x256x2x4x512 ![0, 0, 0, 0, 0] ![0, 0, 1, 0, 0] ![0, 0, 0, 0, 0] (broadcastInDim S1x256x1x4x512 ![0, 1, 3, 4] bcast_S1x256x4x512_S1x256x1x4x512_0_1_3_4 (transpose S1x256x4x512 [0, 2, 1, 3] (Host.dotGeneral dot_S1x4x8192x256_S1x8192x4x512_S1x4x256x512_2_1_3_3_01_02 none (dss Q KV DO) (qv Q)) transposes_S1x4x256x512_S1x256x4x512_0_2_1_3)) (constant S_ .f32 0x00000000#32) pads_S1x256x1x4x512_S1x256x2x4x512_000_000_010_000_000 h_S_)) shapeCasts_S1x256x2x4x512_S1x256x4096) shapeCasts_S1x256x4096_S256x4096

/-! ## One row of 256 scores -/

/-- The largest score of a row. -/
def top (s : Fin 256 → EReal) : EReal := Finset.univ.fold max (Ideal.ofBits .f32 0xFF800000#32) s

/-- The exponential of a score, less the largest. -/
def ex (s : Fin 256 → EReal) (k : Fin 256) : EReal := Ideal.exp (s k - top s)

/-- The row's sum of exponentials. -/
def den (s : Fin 256 → EReal) : EReal := ∑ k, ex s k

/-- The weight of a position. -/
def soft (s : Fin 256 → EReal) (k : Fin 256) : EReal := Ideal.div (ex s k) (den s)

/-- The scores' derivative, as the kernel writes it: the weight times what the weight's derivative exceeds its mean by. -/
def dsK (s d : Fin 256 → EReal) (k : Fin 256) : EReal := soft s k * (d k - ∑ j, d j * soft s j) * Ideal.ofBits .f32 0x3D3504F3#32

/-- The scores' derivative, as the reference's quotient rule writes it. -/
def dsR (s d : Fin 256 → EReal) (k : Fin 256) : EReal :=
  (Ideal.div (d k) (den s) + -∑ j, d j * Ideal.div (Ideal.ofBits .f32 0x3F800000#32) (den s * den s) * ex s j) * ex s k * Ideal.ofBits .f32 0x3D3504F3#32

theorem bottom : Ideal.ofBits .f32 0xFF800000#32 = ⊥ := by simp [Ideal.ofBits, Ideal.ieee]

theorem max_bottom (x : EReal) : max (Ideal.ofBits .f32 0xFF800000#32) x = x := by rw [bottom]; exact max_eq_right bot_le

/-- The largest of real scores is real. -/
theorem top_real (s : Fin 256 → EReal) (h : ∀ k, ∃ r : ℝ, s k = r) : ∃ r : ℝ, top s = r := by
  have e : top s = Finset.univ.sup s := by unfold top; rw [bottom]; rfl
  obtain ⟨k, -, hk⟩ := Finset.exists_mem_eq_sup Finset.univ ⟨0, Finset.mem_univ _⟩ s
  rw [e, hk]
  exact h k

/-- Over real rows the two forms agree. -/
theorem dsR_eq (s d : Fin 256 → EReal) (hs : ∀ k, ∃ r : ℝ, s k = r) (hd : ∀ k, ∃ r : ℝ, d k = r) (k : Fin 256) : dsR s d k = dsK s d k := by
  obtain ⟨M, hM⟩ := top_real s hs
  obtain ⟨x, hx⟩ := Classical.axiom_of_choice hs
  obtain ⟨y, hy⟩ := Classical.axiom_of_choice hd
  have he : ∀ j, ex s j = ((Real.exp (x j - M) : ℝ) : EReal) := fun j => by
    unfold ex
    rw [hM, hx j, ← EReal.coe_sub, Ideal.exp_coe]
  have hL : den s = ((∑ j, Real.exp (x j - M) : ℝ) : EReal) := by
    unfold den
    rw [← Reals.coe_sum]
    exact Finset.sum_congr rfl fun j _ => he j
  have pos : 0 < ∑ j, Real.exp (x j - M) := Finset.sum_pos (fun j _ => Real.exp_pos _) ⟨0, Finset.mem_univ _⟩
  generalize (∑ j, Real.exp (x j - M)) = L at hL pos
  have hsoft : ∀ j, soft s j = ((Real.exp (x j - M) / L : ℝ) : EReal) := fun j => by
    unfold soft
    rw [he j, hL, Reals.div_real _ pos.ne']
  unfold dsR dsK
  congr 1
  have one : Ideal.div (Ideal.ofBits .f32 0x3F800000#32) ((L * L : ℝ) : EReal) = ((1 / (L * L) : ℝ) : EReal) := by
    rw [Ideal.ofBits_one_f32]
    exact Reals.div_real 1 (mul_ne_zero pos.ne' pos.ne')
  simp only [one, he, hsoft, hx, hy, hL, Reals.div_real _ pos.ne', ← EReal.coe_mul, Reals.coe_sum, ← EReal.coe_neg, ← EReal.coe_add, ← EReal.coe_sub]
  rw [EReal.coe_eq_coe_iff]
  have e1 : ∑ j, y j * (1 / (L * L)) * Real.exp (x j - M) = (∑ j, y j * (Real.exp (x j - M) / L)) / L := by
    rw [Finset.sum_div]
    refine Finset.sum_congr rfl fun j _ => ?_
    have := pos.ne'
    field_simp
  rw [e1]
  have := pos.ne'
  field_simp
  ring

/-! ## The reference's terms at an index -/

variable (Q DO : FVec Ideal S8192x2048 .bf16) (KV : FVec Ideal S256x4096 .bf16)

/-- A row of scores of one head. -/
def sc (h : Fin 4) (r : Fin 8192) (m : Fin 256) : EReal :=
  (∑ d : Fin 512, Q (ix2 r (⟨h.val * 512 + d.val, by omega⟩ : Fin 2048)) * KV (ix2 m (⟨h.val * 512 + d.val, by omega⟩ : Fin 4096)) : EReal) * Ideal.ofBits .f32 0x3D3504F3#32

/-- A row of the weights' derivatives of one head. -/
def dp (h : Fin 4) (r : Fin 8192) (m : Fin 256) : EReal :=
  (∑ d : Fin 512, DO (ix2 r (⟨h.val * 512 + d.val, by omega⟩ : Fin 2048)) * KV (ix2 m (⟨2048 + (h.val * 512 + d.val), by omega⟩ : Fin 4096)) : EReal)

theorem scores_apply (h : Fin 4) (r : Fin 8192) (m : Fin 256) : scores Q KV (ix4 0 h r m) = sc Q KV h r m := by
  pointwise [sc]

theorem dps_apply (h : Fin 4) (r : Fin 8192) (m : Fin 256) : dps KV DO (ix4 0 h r m) = dp DO KV h r m := by
  pointwise [dp]
  blk_point []

theorem host_top (S : FVec Ideal S1x4x8192x256 .f32) (h : Fin 4) (r : Fin 8192) :
    Host.reduce FloatOps.maximumf S (constant S_ .f32 0xFF800000#32) reducesTo_S1x4x8192x256_S1x4x8192_d3 h_S_ (ix3 0 h r)
      = (Finset.univ.fold max (Ideal.ofBits .f32 0xFF800000#32) fun m : Fin 256 => S (ix4 0 h r m) : EReal) := by
  pointwise []

theorem with_bottom (R : FVec Ideal S1x4x8192 .f32) (j : S1x4x8192.Idx) :
    maximumf (broadcastInDim S1x4x8192 ![] bcast_S_S1x4x8192 (constant S_ .f32 0xFF800000#32)) R j = (R j : EReal) :=
  max_bottom (R j)

theorem tops_apply (h : Fin 4) (r : Fin 8192) : tops Q KV (ix3 0 h r) = top (sc Q KV h r) := by
  refine (with_bottom _ _).trans ((host_top _ h r).trans ?_)
  unfold top
  exact congrArg (fun f => Finset.univ.fold max (Ideal.ofBits .f32 0xFF800000#32) f) (funext fun m => scores_apply Q KV h r m)

theorem exps_apply (h : Fin 4) (r : Fin 8192) (m : Fin 256) : exps Q KV (ix4 0 h r m) = ex (sc Q KV h r) m := by
  unfold ex
  rw [← scores_apply, ← tops_apply]
  unfold exps
  generalize tops Q KV = T
  generalize scores Q KV = S
  pointwise []

theorem sums_apply (h : Fin 4) (r : Fin 8192) : sums Q KV (ix4 0 h r 0) = den (sc Q KV h r) := by
  have e : (fun m => exps Q KV (ix4 0 h r m)) = ex (sc Q KV h r) := funext fun m => exps_apply Q KV h r m
  unfold den
  rw [← e]
  unfold sums
  generalize exps Q KV = E
  pointwise []

theorem probs_apply (h : Fin 4) (r : Fin 8192) (m : Fin 256) : probs Q KV (ix4 0 h r m) = soft (sc Q KV h r) m := by
  unfold soft
  rw [← exps_apply, ← sums_apply]
  unfold probs
  generalize exps Q KV = E
  generalize sums Q KV = L
  pointwise []

theorem corr_apply (h : Fin 4) (r : Fin 8192) : corr Q KV DO (ix3 0 h r)
    = ∑ j, dp DO KV h r j * Ideal.div (Ideal.ofBits .f32 0x3F800000#32) (den (sc Q KV h r) * den (sc Q KV h r)) * ex (sc Q KV h r) j := by
  simp only [← exps_apply, ← sums_apply, ← dps_apply]
  unfold corr
  generalize exps Q KV = E
  generalize sums Q KV = L
  generalize dps KV DO = P
  pointwise []

/-- A sum over two axes of one entry each leaves the entry, the kept axes between them. -/
theorem sum_unit_03 (h : S1x4x8192x1.ReducesTo [0, 3] S4x8192) (v : S1x4x8192x1.Idx → EReal)
    (init : EReal) (j : S4x8192.Idx) : Ideal.hostReduceAdd h v init j = init + v (ix4 0 (j 0) (j 1) 0) := by
  refine congrArg (init + ·) ((Finset.sum_filter_eq_sum_of_fiber _ (fun _ : Unit => (ix4 0 (j 0) (j 1) 0 : S1x4x8192x1.Idx))
    (fun _ _ _ => rfl) (fun i => ⟨?_, ?_⟩) v).trans (Fintype.sum_unique _))
  · rintro rfl
    refine ⟨(), funext fun a => Fin.ext ?_⟩
    match a with
    | ⟨0, _⟩ => exact (Nat.lt_one_iff.mp (i 0).isLt).symm
    | ⟨1, _⟩ => rfl
    | ⟨2, _⟩ => rfl
    | ⟨3, _⟩ => exact (Nat.lt_one_iff.mp (i 3).isLt).symm
  · rintro ⟨_, rfl⟩
    funext b
    match b with
    | ⟨0, _⟩ => rfl
    | ⟨1, _⟩ => rfl

theorem corr1_apply (h : Fin 4) (r : Fin 8192) : corr1 Q KV DO (ix2 h r) = -corr Q KV DO (ix3 0 h r) := by
  unfold corr1
  generalize corr Q KV DO = C
  pointwise []
  refine (sum_unit_03 _ _ 0 (ix2 h r)).trans ((zero_add _).trans ?_)
  pointwise []

theorem dss_apply (h : Fin 4) (r : Fin 8192) (m : Fin 256) : dss Q KV DO (ix4 0 h r m) = dsR (sc Q KV h r) (dp DO KV h r) m := by
  unfold dsR
  rw [← corr_apply, ← exps_apply, ← sums_apply, ← dps_apply, ← corr1_apply]
  unfold dss
  generalize exps Q KV = E
  generalize sums Q KV = L
  generalize dps KV DO = P
  generalize corr1 Q KV DO = C
  pointwise []

theorem dq_apply (r : Fin 8192) (h : Fin 4) (d : Fin 512) : dq Q KV DO (ix2 r (⟨h.val * 512 + d.val, by omega⟩ : Fin 2048))
    = ∑ m : Fin 256, dsR (sc Q KV h r) (dp DO KV h r) m * KV (ix2 m (⟨h.val * 512 + d.val, by omega⟩ : Fin 4096)) := by
  simp only [← dss_apply]
  unfold dq
  generalize dss Q KV DO = D
  pointwise []

end Cert.Reference2Ideal.Xattn

end
-- ==== Proof.XattnRef2.lean ====
/- The gradients of the keys and of the values, as the derivative of the reference's lines computes them: the two halves of one array. -/
module

public import proofs.«01_k».proof.Proof.XattnRef
public import Idealize.ShloMosaic.Lib.Pipeline.ValueKit
public import Idealize.ShloMosaic.Lib.Pointwise

@[expose] public section

set_option maxRecDepth 16384

noncomputable section

namespace Cert.Reference2Ideal.Xattn

open Idealize.ShloMosaic Idealize.ShloMosaic.TcCoe Idealize.SL.Sem
open Cert.Reference2Ideal Cert.Reference2Ideal.Gen

variable (Q DO : FVec Ideal S8192x2048 .bf16) (KV : FVec Ideal S256x4096 .bf16)

theorem dk_apply (m : Fin 256) (h : Fin 4) (d : Fin 512) : dkv Q KV DO (ix2 m (⟨h.val * 512 + d.val, by omega⟩ : Fin 4096))
    = ∑ r : Fin 8192, dsR (sc Q KV h r) (dp DO KV h r) m * Q (ix2 r (⟨h.val * 512 + d.val, by omega⟩ : Fin 2048)) := by
  simp only [← dss_apply]
  unfold dkv
  generalize dss Q KV DO = D
  generalize probs Q KV = P
  pointwise []
  have := h.isLt
  have := d.isLt
  rw [dif_neg (by omega), dif_pos (by omega), zero_add]

theorem dv_apply (m : Fin 256) (h : Fin 4) (d : Fin 512) : dkv Q KV DO (ix2 m (⟨2048 + (h.val * 512 + d.val), by omega⟩ : Fin 4096))
    = ∑ r : Fin 8192, soft (sc Q KV h r) m * DO (ix2 r (⟨h.val * 512 + d.val, by omega⟩ : Fin 2048)) := by
  simp only [← probs_apply]
  unfold dkv
  generalize dss Q KV DO = D
  generalize probs Q KV = P
  pointwise []
  have := h.isLt
  have := d.isLt
  rw [dif_pos (by omega), dif_neg (by omega), add_zero]
  exact Finset.sum_congr rfl fun _ _ => mul_comm _ _

/-- One row's part of an entry of that array. -/
def term (r : Fin 8192) (j : S256x4096.Idx) : EReal :=
  have b : (j 1).val < 4096 := (j 1).isLt
  if h : (j 1).val < 2048 then
    dsR (sc Q KV ⟨(j 1).val / 512, by omega⟩ r) (dp DO KV ⟨(j 1).val / 512, by omega⟩ r) (j 0) * Q (ix2 r (⟨(j 1).val, by omega⟩ : Fin 2048))
  else soft (sc Q KV ⟨((j 1).val - 2048) / 512, by omega⟩ r) (j 0) * DO (ix2 r (⟨(j 1).val - 2048, by omega⟩ : Fin 2048))

theorem term_dk (r : Fin 8192) (j : S256x4096.Idx) (n : Fin 256) (h : Fin 4) (d : Fin 512) (h0 : (j 0).val = n.val) (h1 : (j 1).val = h.val * 512 + d.val) :
    term Q DO KV r j = dsR (sc Q KV h r) (dp DO KV h r) n * Q (ix2 r (⟨h.val * 512 + d.val, by omega⟩ : Fin 2048)) := by
  have hn : j 0 = n := Fin.ext h0
  have hh : (h.val * 512 + d.val) / 512 = h.val := by omega
  have l : h.val * 512 + d.val < 2048 := by omega
  unfold term
  simp only [h1, dif_pos l, hn, hh]

theorem term_dv (r : Fin 8192) (j : S256x4096.Idx) (n : Fin 256) (h : Fin 4) (d : Fin 512) (h0 : (j 0).val = n.val) (h1 : (j 1).val = 2048 + (h.val * 512 + d.val)) :
    term Q DO KV r j = soft (sc Q KV h r) n * DO (ix2 r (⟨h.val * 512 + d.val, by omega⟩ : Fin 2048)) := by
  have hn : j 0 = n := Fin.ext h0
  have hh : (j 1).val - 2048 = h.val * 512 + d.val := by omega
  have hd : (h.val * 512 + d.val) / 512 = h.val := by omega
  have l : ¬(j 1).val < 2048 := by omega
  unfold term
  simp only [dif_neg l, hn, hh, hd]

/-- An entry of the array is the sum of its rows' parts. -/
theorem dkv_at (j : S256x4096.Idx) : dkv Q KV DO j = ∑ r : Fin 8192, term Q DO KV r j := by
  have b : (j 1).val < 4096 := (j 1).isLt
  have b0 : (j 0).val < 256 := (j 0).isLt
  by_cases l : (j 1).val < 2048
  · have e : j = ix2 (⟨(j 0).val, b0⟩ : Fin 256) (⟨(⟨(j 1).val / 512, by omega⟩ : Fin 4).val * 512 + (⟨(j 1).val % 512, by omega⟩ : Fin 512).val, by show (j 1).val / 512 * 512 + (j 1).val % 512 < 4096; omega⟩ : Fin 4096) := by
      refine (eq_ix2 j).trans (congrArg₂ ix2 rfl (Fin.ext ?_))
      show (j 1).val = (j 1).val / 512 * 512 + (j 1).val % 512
      omega
    refine (congrArg (dkv Q KV DO) e).trans ((dk_apply Q DO KV _ _ _).trans ?_)
    refine Finset.sum_congr rfl fun r _ => (term_dk Q DO KV r j _ _ _ rfl ?_).symm
    show (j 1).val = (j 1).val / 512 * 512 + (j 1).val % 512
    omega
  · have e : j = ix2 (⟨(j 0).val, b0⟩ : Fin 256) (⟨2048 + ((⟨((j 1).val - 2048) / 512, by omega⟩ : Fin 4).val * 512 + (⟨((j 1).val - 2048) % 512, by omega⟩ : Fin 512).val), by show 2048 + (((j 1).val - 2048) / 512 * 512 + ((j 1).val - 2048) % 512) < 4096; omega⟩ : Fin 4096) := by
      refine (eq_ix2 j).trans (congrArg₂ ix2 rfl (Fin.ext ?_))
      show (j 1).val = 2048 + (((j 1).val - 2048) / 512 * 512 + ((j 1).val - 2048) % 512)
      omega
    refine (congrArg (dkv Q KV DO) e).trans ((dv_apply Q DO KV _ _ _).trans ?_)
    refine Finset.sum_congr rfl fun r _ => (term_dv Q DO KV r j _ _ _ rfl ?_).symm
    show (j 1).val = 2048 + (((j 1).val - 2048) / 512 * 512 + ((j 1).val - 2048) % 512)
    omega

/-! ## Real entries -/

theorem scale_real : ∃ e : ℝ, Ideal.ofBits .f32 0x3D3504F3#32 = (e : EReal) :=
  ⟨_, by simp [Ideal.ofBits, Ideal.ieee, -EReal.coe_mul]; rfl⟩

/-- A sum of products of reals is real. -/
theorem dot_real {n : Nat} (a b : Fin n → EReal) (ha : ∀ i, ∃ r : ℝ, a i = r) (hb : ∀ i, ∃ r : ℝ, b i = r) : ∃ r : ℝ, (∑ i, a i * b i : EReal) = r := by
  obtain ⟨x, hx⟩ := Classical.axiom_of_choice ha
  obtain ⟨y, hy⟩ := Classical.axiom_of_choice hb
  exact ⟨∑ i, x i * y i, by simp only [hx, hy, ← EReal.coe_mul, Reals.coe_sum]⟩

/-- Over real arrays the reference's derivative of the scores is the kernel's. -/
theorem ds_eq (hQ : ∀ j, ∃ r : ℝ, Q j = (r : EReal)) (hK : ∀ j, ∃ r : ℝ, KV j = (r : EReal)) (hD : ∀ j, ∃ r : ℝ, DO j = (r : EReal)) (h : Fin 4) (r : Fin 8192) (n : Fin 256) :
    dsR (sc Q KV h r) (dp DO KV h r) n = dsK (sc Q KV h r) (dp DO KV h r) n := by
  refine dsR_eq _ _ (fun k => ?_) (fun k => dot_real _ _ (fun _ => hD _) fun _ => hK _) n
  obtain ⟨a, ha⟩ := dot_real (fun d : Fin 512 => Q (ix2 r (⟨h.val * 512 + d.val, by omega⟩ : Fin 2048))) (fun d => KV (ix2 k (⟨h.val * 512 + d.val, by omega⟩ : Fin 4096))) (fun _ => hQ _) fun _ => hK _
  obtain ⟨e, he⟩ := scale_real
  exact ⟨a * e, by unfold sc; rw [he, EReal.coe_mul]; exact congrArg (· * (e : EReal)) ha⟩

end Cert.Reference2Ideal.Xattn

end
-- ==== Proof.Xattn.lean ====
/- The gradient of the attention over the memory: what one block of 512 rows computes for a head, and the array of the queries' gradient after the run. -/
module

public import proofs.«01_k».proof.Proof.Gen.Kernel2Ideal.Value
public import proofs.«01_k».proof.Proof.XattnRef2
public import Idealize.ShloMosaic.Lib.Pipeline.ValueKit
public import Idealize.ShloMosaic.Lib.Pointwise

@[expose] public section

set_option maxRecDepth 16384

noncomputable section

namespace Cert.Kernel2Ideal.Xattn

open Idealize.ShloMosaic Idealize.ShloMosaic.TcCoe Idealize.SL.Sem
open Idealize.ShloMosaic.Pipeline (Dat)
open Cert.Kernel2Ideal Cert.Kernel2Ideal.Gen
open Cert.Reference2Ideal.Xattn (top ex den soft dsK dsR sc dp)

variable (m : (ℓ : Loc nD τ sig) → Buf (Elt Ideal) ℓ)

/-! ## One head of a block: each payload at an index -/

theorem pay11_apply (q : Vec Ideal S512x512 .bf16) (k : Vec Ideal S256x512 .bf16) (i : Fin 512) (n : Fin 256) :
    k0_pay11 (F := Ideal) q k (ix2 i n) = (∑ d : Fin 512, q (ix2 i d) * k (ix2 n d) : EReal) * Ideal.ofBits .f32 0x3D3504F3#32 := by
  pointwise [k0_pay11]

theorem pay15_apply (q : Vec Ideal S512x512 .bf16) (k : Vec Ideal S256x512 .bf16) (i : Fin 512) (n : Fin 256) :
    k0_pay15 (F := Ideal) q k (ix2 i n) = (∑ d : Fin 512, q (ix2 i d) * k (ix2 n d) : EReal) := by
  pointwise [k0_pay15]

theorem pay19_apply (s : Vec Ideal S512x256 .f32) (i : Fin 512) (n : Fin 256) :
    k0_pay19 (F := Ideal) s (ix2 i n) = soft (fun n => s (ix2 i n)) n := by
  unfold soft den ex top
  pointwise [k0_pay19]

theorem pay29_apply (d p : Vec Ideal S512x256 .f32) (i : Fin 512) (n : Fin 256) :
    k0_pay29 (F := Ideal) d p (ix2 i n) = (p (ix2 i n) * (d (ix2 i n) - ∑ j : Fin 256, d (ix2 i j) * p (ix2 i j)) * Ideal.ofBits .f32 0x3D3504F3#32 : EReal) := by
  pointwise [k0_pay29]

theorem pay39_apply (s : Vec Ideal S512x256 .bf16) (k : Vec Ideal S256x512 .bf16) (i : Fin 512) (d : Fin 512) :
    k0_pay39 (F := Ideal) s k (ix2 i d) = (∑ n : Fin 256, s (ix2 i n) * k (ix2 n d) : EReal) := by
  pointwise [k0_pay39]

theorem pay35_apply (s : Vec Ideal S512x256 .bf16) (q : Vec Ideal S512x512 .bf16) (n : Fin 256) (d : Fin 512) :
    k0_pay35 (F := Ideal) s q (ix2 n d) = (∑ i : Fin 512, s (ix2 i n) * q (ix2 i d) : EReal) := by
  pointwise [k0_pay35]

theorem pay25_apply (p : Vec Ideal S512x256 .f32) (o : Vec Ideal S512x512 .bf16) (n : Fin 256) (d : Fin 512) :
    k0_pay25 (F := Ideal) p o (ix2 n d) = (∑ i : Fin 512, p (ix2 i n) * o (ix2 i d) : EReal) := by
  pointwise [k0_pay25]

/-! ## The three results of a head of a block -/

/-- The weights of a head of a block. -/
abbrev P (q : Vec Ideal S512x512 .bf16) (k : Vec Ideal S256x512 .bf16) : Vec Ideal S512x256 .f32 := k0_pay19 (F := Ideal) (k0_pay11 (F := Ideal) q k)

/-- The scores' derivative of a head of a block. -/
abbrev DS (q o : Vec Ideal S512x512 .bf16) (k v : Vec Ideal S256x512 .bf16) : Vec Ideal S512x256 .bf16 := k0_pay29 (F := Ideal) (k0_pay15 (F := Ideal) o v) (P q k)

theorem P_apply (q : Vec Ideal S512x512 .bf16) (k : Vec Ideal S256x512 .bf16) (i : Fin 512) (s : Fin 256 → EReal)
    (hs : ∀ n, (∑ d : Fin 512, q (ix2 i d) * k (ix2 n d) : EReal) * Ideal.ofBits .f32 0x3D3504F3#32 = s n) (n : Fin 256) :
    P q k (ix2 i n) = soft s n := by
  refine (pay19_apply _ i n).trans (congrArg (soft · n) (funext fun j => ?_))
  exact (pay11_apply q k i j).trans (hs j)

theorem DS_apply (q o : Vec Ideal S512x512 .bf16) (k v : Vec Ideal S256x512 .bf16) (i : Fin 512) (s e : Fin 256 → EReal)
    (hs : ∀ n, (∑ d : Fin 512, q (ix2 i d) * k (ix2 n d) : EReal) * Ideal.ofBits .f32 0x3D3504F3#32 = s n)
    (he : ∀ n, (∑ d : Fin 512, o (ix2 i d) * v (ix2 n d) : EReal) = e n) (n : Fin 256) :
    DS q o k v (ix2 i n) = dsK s e n := by
  refine (pay29_apply _ _ i n).trans ?_
  unfold dsK
  have hP : ∀ n, P q k (ix2 i n) = soft s n := P_apply q k i s hs
  have hD : ∀ n, k0_pay15 (F := Ideal) o v (ix2 i n) = e n := fun n => (pay15_apply o v i n).trans (he n)
  rw [hP, hD]
  simp only [hP, hD]

/-! The heads' payloads are the same terms under names of their own. -/

theorem same12 (q : Vec Ideal S512x512 .bf16) (k : Vec Ideal S256x512 .bf16) : k0_pay12 (F := Ideal) q k = k0_pay11 (F := Ideal) q k := rfl
theorem same13 (q : Vec Ideal S512x512 .bf16) (k : Vec Ideal S256x512 .bf16) : k0_pay13 (F := Ideal) q k = k0_pay11 (F := Ideal) q k := rfl
theorem same14 (q : Vec Ideal S512x512 .bf16) (k : Vec Ideal S256x512 .bf16) : k0_pay14 (F := Ideal) q k = k0_pay11 (F := Ideal) q k := rfl
theorem same16 (q : Vec Ideal S512x512 .bf16) (k : Vec Ideal S256x512 .bf16) : k0_pay16 (F := Ideal) q k = k0_pay15 (F := Ideal) q k := rfl
theorem same17 (q : Vec Ideal S512x512 .bf16) (k : Vec Ideal S256x512 .bf16) : k0_pay17 (F := Ideal) q k = k0_pay15 (F := Ideal) q k := rfl
theorem same18 (q : Vec Ideal S512x512 .bf16) (k : Vec Ideal S256x512 .bf16) : k0_pay18 (F := Ideal) q k = k0_pay15 (F := Ideal) q k := rfl
theorem same20 (s : Vec Ideal S512x256 .f32) : k0_pay20 (F := Ideal) s = k0_pay19 (F := Ideal) s := rfl
theorem same21 (s : Vec Ideal S512x256 .f32) : k0_pay21 (F := Ideal) s = k0_pay19 (F := Ideal) s := rfl
theorem same24 (s : Vec Ideal S512x256 .f32) : k0_pay24 (F := Ideal) (k0_pay22 (F := Ideal) s) (k0_pay23 (F := Ideal) s) = k0_pay19 (F := Ideal) s := rfl
theorem same30 (d p : Vec Ideal S512x256 .f32) : k0_pay30 (F := Ideal) d p = k0_pay29 (F := Ideal) d p := rfl
theorem same31 (d p : Vec Ideal S512x256 .f32) : k0_pay31 (F := Ideal) d p = k0_pay29 (F := Ideal) d p := rfl
theorem same32 (d p : Vec Ideal S512x256 .f32) : k0_pay32 (F := Ideal) d p = k0_pay29 (F := Ideal) d p := rfl
theorem same40 (s : Vec Ideal S512x256 .bf16) (k : Vec Ideal S256x512 .bf16) : k0_pay40 (F := Ideal) s k = k0_pay39 (F := Ideal) s k := rfl
theorem same33 (s : Vec Ideal S512x256 .bf16) (k : Vec Ideal S256x512 .bf16) : k0_pay1 (F := Ideal) (k0_pay33 (F := Ideal) s k) = k0_pay39 (F := Ideal) s k := rfl
theorem same34 (d p : Vec Ideal S512x256 .f32) (k : Vec Ideal S256x512 .bf16) : k0_pay2 (F := Ideal) (k0_pay34 (F := Ideal) d p k) = k0_pay39 (F := Ideal) (k0_pay29 (F := Ideal) d p) k := rfl
theorem same36 (s : Vec Ideal S512x256 .bf16) (q : Vec Ideal S512x512 .bf16) : k0_pay36 (F := Ideal) s q = k0_pay35 (F := Ideal) s q := rfl
theorem same37 (s : Vec Ideal S512x256 .bf16) (q : Vec Ideal S512x512 .bf16) : k0_pay37 (F := Ideal) s q = k0_pay35 (F := Ideal) s q := rfl
theorem same38 (d p : Vec Ideal S512x256 .f32) (q : Vec Ideal S512x512 .bf16) : k0_pay38 (F := Ideal) d p q = k0_pay35 (F := Ideal) (k0_pay29 (F := Ideal) d p) q := rfl
theorem same26 (s : Vec Ideal S512x256 .f32) (o : Vec Ideal S512x512 .bf16) : k0_pay26 (F := Ideal) s o = k0_pay25 (F := Ideal) s o := rfl
theorem same27 (s : Vec Ideal S512x256 .f32) (o : Vec Ideal S512x512 .bf16) : k0_pay27 (F := Ideal) s o = k0_pay25 (F := Ideal) s o := rfl
theorem same28 (s : Vec Ideal S512x256 .f32) (o : Vec Ideal S512x512 .bf16) : k0_pay28 (F := Ideal) (k0_pay22 (F := Ideal) s) (k0_pay23 (F := Ideal) s) o = k0_pay25 (F := Ideal) (k0_pay19 (F := Ideal) s) o := rfl

/-- The operands of head `h` at grid point `T` are the arrays' parts. -/
structure Head (Q DO : FVec Ideal S8192x2048 .bf16) (KV : FVec Ideal S256x4096 .bf16) (T : Fin 16) (h : Fin 4)
    (q o : Vec Ideal S512x512 .bf16) (k v : Vec Ideal S256x512 .bf16) : Prop where
  hq : ∀ (i d : Fin 512), q (ix2 i d) = Q (ix2 (⟨T.val * 512 + i.val, by omega⟩ : Fin 8192) (⟨h.val * 512 + d.val, by omega⟩ : Fin 2048))
  ho : ∀ (i d : Fin 512), o (ix2 i d) = DO (ix2 (⟨T.val * 512 + i.val, by omega⟩ : Fin 8192) (⟨h.val * 512 + d.val, by omega⟩ : Fin 2048))
  hk : ∀ (n : Fin 256) (d : Fin 512), k (ix2 n d) = KV (ix2 n (⟨h.val * 512 + d.val, by omega⟩ : Fin 4096))
  hv : ∀ (n : Fin 256) (d : Fin 512), v (ix2 n d) = KV (ix2 n (⟨2048 + (h.val * 512 + d.val), by omega⟩ : Fin 4096))

/-- Arrays with real entries. -/
structure Reals3 (Q DO : FVec Ideal S8192x2048 .bf16) (KV : FVec Ideal S256x4096 .bf16) : Prop where
  hq : ∀ j, ∃ r : ℝ, Q j = (r : EReal)
  hk : ∀ j, ∃ r : ℝ, KV j = (r : EReal)
  hd : ∀ j, ∃ r : ℝ, DO j = (r : EReal)

section
variable {Q DO : FVec Ideal S8192x2048 .bf16} {KV : FVec Ideal S256x4096 .bf16} {T : Fin 16} {h : Fin 4}
  {q o : Vec Ideal S512x512 .bf16} {k v : Vec Ideal S256x512 .bf16}

theorem Head.weights (H : Head Q DO KV T h q o k v) (i : Fin 512) (n : Fin 256) : P q k (ix2 i n) = soft (sc Q KV h ⟨T.val * 512 + i.val, by omega⟩) n :=
  P_apply q k i _ (fun n => by unfold sc; simp only [H.hq, H.hk]) n

theorem Head.deriv (H : Head Q DO KV T h q o k v) (R : Reals3 Q DO KV) (i : Fin 512) (n : Fin 256) :
    DS q o k v (ix2 i n) = dsR (sc Q KV h ⟨T.val * 512 + i.val, by omega⟩) (dp DO KV h ⟨T.val * 512 + i.val, by omega⟩) n :=
  (DS_apply q o k v i _ _ (fun n => by unfold sc; simp only [H.hq, H.hk]) (fun n => by unfold dp; simp only [H.ho, H.hv]) n).trans
    (Cert.Reference2Ideal.Xattn.ds_eq Q DO KV R.hq R.hk R.hd h _ n).symm

/-- A head's rows of the queries' gradient. -/
theorem Head.dq (H : Head Q DO KV T h q o k v) (R : Reals3 Q DO KV) (x : S512x512.Idx) (j : S8192x2048.Idx)
    (h0 : (j 0).val = T.val * 512 + (x 0).val) (h1 : (j 1).val = h.val * 512 + (x 1).val) :
    k0_pay39 (F := Ideal) (DS q o k v) k x = Cert.Reference2Ideal.Xattn.dq Q KV DO j := by
  have b0 : (x 0).val < 512 := (x 0).isLt
  have b1 : (x 1).val < 512 := (x 1).isLt
  have e : j = ix2 (⟨T.val * 512 + (x 0).val, by omega⟩ : Fin 8192) (⟨h.val * 512 + (x 1).val, by omega⟩ : Fin 2048) :=
    (eq_ix2 j).trans (congrArg₂ ix2 (Fin.ext h0) (Fin.ext h1))
  rw [e]
  refine ((congrArg _ (eq_ix2 x)).trans (pay39_apply _ _ (x 0) (x 1))).trans ((Cert.Reference2Ideal.Xattn.dq_apply Q DO KV _ h (x 1)).trans ?_).symm
  exact Finset.sum_congr rfl fun n _ => congrArg₂ (· * ·) (H.deriv R (x 0) n).symm (H.hk n (x 1)).symm

/-- A grid point's part of the keys' and values' gradient. -/
def part (Q DO : FVec Ideal S8192x2048 .bf16) (KV : FVec Ideal S256x4096 .bf16) (T : Fin 16) (j : S256x4096.Idx) : EReal :=
  ∑ i : Fin 512, Cert.Reference2Ideal.Xattn.term Q DO KV ⟨T.val * 512 + i.val, by omega⟩ j

theorem Head.dk (H : Head Q DO KV T h q o k v) (R : Reals3 Q DO KV) (x : S256x512.Idx) (j : S256x4096.Idx)
    (h0 : (j 0).val = (x 0).val) (h1 : (j 1).val = h.val * 512 + (x 1).val) :
    k0_pay35 (F := Ideal) (DS q o k v) q x = part Q DO KV T j := by
  refine ((congrArg _ (eq_ix2 x)).trans (pay35_apply _ _ (x 0) (x 1))).trans ?_
  refine Finset.sum_congr rfl fun i _ => ?_
  rw [Cert.Reference2Ideal.Xattn.term_dk Q DO KV _ j (x 0) h (x 1) h0 h1]
  exact congrArg₂ (· * ·) (H.deriv R i (x 0)) (H.hq i (x 1))

theorem Head.dv (H : Head Q DO KV T h q o k v) (x : S256x512.Idx) (j : S256x4096.Idx)
    (h0 : (j 0).val = (x 0).val) (h1 : (j 1).val = 2048 + (h.val * 512 + (x 1).val)) :
    k0_pay25 (F := Ideal) (P q k) o x = part Q DO KV T j := by
  refine ((congrArg _ (eq_ix2 x)).trans (pay25_apply _ _ (x 0) (x 1))).trans ?_
  refine Finset.sum_congr rfl fun i _ => ?_
  rw [Cert.Reference2Ideal.Xattn.term_dv Q DO KV _ j (x 0) h (x 1) h0 h1]
  exact congrArg₂ (· * ·) (H.weights i (x 0)) (H.ho i (x 1))

end

/-! ## The blocks -/

theorem idx : ∀ t : Fin cfg0.N, win0_0.index t = ![t.val, 0] ∧ win0_1.index t = ![0, 0] ∧ win0_2.index t = ![0, 1] ∧ win0_3.index t = ![t.val, 0]
    ∧ win0_4.index t = ![t.val, 0] ∧ win0_5.index t = ![0, 0] :=
  (by decide +kernel : ∀ t : Fin grid0.N, _)

/-- The launch's arrays. -/
abbrev Qm (c : Dev nD) : FVec Ideal S8192x2048 .bf16 := m ((c : Thread nD τ).loc main_arg0)
abbrev Km (c : Dev nD) : FVec Ideal S256x4096 .bf16 := m ((c : Thread nD τ).loc main_arg1)
abbrev Dm (c : Dev nD) : FVec Ideal S8192x2048 .bf16 := m ((c : Thread nD τ).loc main_arg2)

theorem head0 (c : Dev nD) (t : Fin cfg0.N) : Head (Qm m c) (Dm m c) (Km m c) ⟨t.val, lt_of_lt_of_eq t.isLt N_0⟩ 0
    (View.ld (iblk m c 0 t) (Rect.unit ![0, 0] ![512, 512] inb_S512x2048_S512x512_0_0)) (View.ld (iblk m c 3 t) (Rect.unit ![0, 0] ![512, 512] inb_S512x2048_S512x512_0_0))
    (View.ld (iblk m c 1 t) (Rect.unit ![0, 0] ![256, 512] inb_S256x2048_S256x512_0_0)) (View.ld (iblk m c 2 t) (Rect.unit ![0, 0] ![256, 512] inb_S256x2048_S256x512_0_0)) := by
  have ht : t.val < 16 := lt_of_lt_of_eq t.isLt N_0
  refine ⟨fun i d => ?_, fun i d => ?_, fun n d => ?_, fun n d => ?_⟩ <;> blk_point [iblk, V, idx t]

theorem head1 (c : Dev nD) (t : Fin cfg0.N) : Head (Qm m c) (Dm m c) (Km m c) ⟨t.val, lt_of_lt_of_eq t.isLt N_0⟩ 1
    (View.ld (iblk m c 0 t) (Rect.unit ![0, 512] ![512, 512] inb_S512x2048_S512x512_0_512)) (View.ld (iblk m c 3 t) (Rect.unit ![0, 512] ![512, 512] inb_S512x2048_S512x512_0_512))
    (View.ld (iblk m c 1 t) (Rect.unit ![0, 512] ![256, 512] inb_S256x2048_S256x512_0_512)) (View.ld (iblk m c 2 t) (Rect.unit ![0, 512] ![256, 512] inb_S256x2048_S256x512_0_512)) := by
  have ht : t.val < 16 := lt_of_lt_of_eq t.isLt N_0
  refine ⟨fun i d => ?_, fun i d => ?_, fun n d => ?_, fun n d => ?_⟩ <;> blk_point [iblk, V, idx t]

theorem head2 (c : Dev nD) (t : Fin cfg0.N) : Head (Qm m c) (Dm m c) (Km m c) ⟨t.val, lt_of_lt_of_eq t.isLt N_0⟩ 2
    (View.ld (iblk m c 0 t) (Rect.unit ![0, 1024] ![512, 512] inb_S512x2048_S512x512_0_1024)) (View.ld (iblk m c 3 t) (Rect.unit ![0, 1024] ![512, 512] inb_S512x2048_S512x512_0_1024))
    (View.ld (iblk m c 1 t) (Rect.unit ![0, 1024] ![256, 512] inb_S256x2048_S256x512_0_1024)) (View.ld (iblk m c 2 t) (Rect.unit ![0, 1024] ![256, 512] inb_S256x2048_S256x512_0_1024)) := by
  have ht : t.val < 16 := lt_of_lt_of_eq t.isLt N_0
  refine ⟨fun i d => ?_, fun i d => ?_, fun n d => ?_, fun n d => ?_⟩ <;> blk_point [iblk, V, idx t]

theorem head3 (c : Dev nD) (t : Fin cfg0.N) : Head (Qm m c) (Dm m c) (Km m c) ⟨t.val, lt_of_lt_of_eq t.isLt N_0⟩ 3
    (View.ld (iblk m c 0 t) (Rect.unit ![0, 1536] ![512, 512] inb_S512x2048_S512x512_0_1536)) (View.ld (iblk m c 3 t) (Rect.unit ![0, 1536] ![512, 512] inb_S512x2048_S512x512_0_1536))
    (View.ld (iblk m c 1 t) (Rect.unit ![0, 1536] ![256, 512] inb_S256x2048_S256x512_0_1536)) (View.ld (iblk m c 2 t) (Rect.unit ![0, 1536] ![256, 512] inb_S256x2048_S256x512_0_1536)) := by
  have ht : t.val < 16 := lt_of_lt_of_eq t.isLt N_0
  refine ⟨fun i d => ?_, fun i d => ?_, fun n d => ?_, fun n d => ?_⟩ <;> blk_point [iblk, V, idx t]

set_option maxHeartbeats 1600000 in
/-- THE QUERIES' GRADIENT after the run is the reference's. -/
theorem final_dq (c : Dev nD) (R : Reals3 (Qm m c) (Dm m c) (Km m c)) : (dats m 0 c).arrAt 4 (cfgs 0).N = Cert.Reference2Ideal.Xattn.dq (Qm m c) (Km m c) (Dm m c) := by
  refine (dats m 0 c).arrAt_eq_of_covers 4 _ (by decide +kernel) fun t _ y => ?_
  blk_simp
  rw [after0_4]
  have ht : t.val < 16 := lt_of_lt_of_eq t.isLt N_0
  by_cases e : t.val % 16 = 0
  · rw [outsAt0_A m c t e (by omega)]
    frame_out
    canon_tiles x h
    all_goals try simp only [same12, same13, same14, same16, same17, same18, same20, same21, same24, same30, same31, same32, same40, same33, same34, same36, same37, same38, same26, same27, same28]
    · exact (head3 m c t).dq R x _ (by blk_simp; simp [idx t, h0]) (by blk_simp; simp [idx t, h1])
    · exact (head2 m c t).dq R x _ (by blk_simp; simp [idx t, h0]) (by blk_simp; simp [idx t, h1])
    · exact (head1 m c t).dq R x _ (by blk_simp; simp [idx t, h0]) (by blk_simp; simp [idx t, h1])
    · exact (head0 m c t).dq R x _ (by blk_simp; simp [idx t, h0]) (by blk_simp; simp [idx t, h1])
  · rw [outsAt0_B m c t e (by omega)]
    frame_out
    canon_tiles x h
    all_goals try simp only [same12, same13, same14, same16, same17, same18, same20, same21, same24, same30, same31, same32, same40, same33, same34, same36, same37, same38, same26, same27, same28]
    · exact (head3 m c t).dq R x _ (by blk_simp; simp [idx t, h0]) (by blk_simp; simp [idx t, h1])
    · exact (head2 m c t).dq R x _ (by blk_simp; simp [idx t, h0]) (by blk_simp; simp [idx t, h1])
    · exact (head1 m c t).dq R x _ (by blk_simp; simp [idx t, h0]) (by blk_simp; simp [idx t, h1])
    · exact (head0 m c t).dq R x _ (by blk_simp; simp [idx t, h0]) (by blk_simp; simp [idx t, h1])

end Cert.Kernel2Ideal.Xattn

end
-- ==== Proof.XattnKV.lean ====
/- The gradients of the keys and of the values: both are added up over the sixteen grid points, a store per head of each. -/
module

public import proofs.«01_k».proof.Proof.Gen.Kernel2Ideal.Value
public import proofs.«01_k».proof.Proof.Xattn
public import Idealize.ShloMosaic.Lib.Pipeline.ValueKit
public import Idealize.ShloMosaic.Lib.Pointwise

@[expose] public section

set_option maxRecDepth 16384

noncomputable section

namespace Cert.Kernel2Ideal.XattnKV

open Idealize.ShloMosaic Idealize.ShloMosaic.TcCoe Idealize.SL.Sem
open Idealize.ShloMosaic.Pipeline (Dat)
open Cert.Kernel2Ideal Cert.Kernel2Ideal.Gen Cert.Kernel2Ideal.Xattn

variable (m : (ℓ : Loc nD τ sig) → Buf (Elt Ideal) ℓ)

theorem same4 (a b : Vec Ideal S256x512 .f32) : k0_pay4 (F := Ideal) a b = k0_pay3 (F := Ideal) a b := rfl
theorem same5 (a b : Vec Ideal S256x512 .f32) : k0_pay5 (F := Ideal) a b = k0_pay3 (F := Ideal) a b := rfl
theorem same6 (a b : Vec Ideal S256x512 .f32) : k0_pay6 (F := Ideal) a b = k0_pay3 (F := Ideal) a b := rfl
theorem same7 (a b : Vec Ideal S256x512 .f32) : k0_pay7 (F := Ideal) a b = k0_pay3 (F := Ideal) a b := rfl
theorem same8 (a b : Vec Ideal S256x512 .f32) : k0_pay8 (F := Ideal) a b = k0_pay3 (F := Ideal) a b := rfl
theorem same9 (a b : Vec Ideal S256x512 .f32) : k0_pay9 (F := Ideal) a b = k0_pay3 (F := Ideal) a b := rfl
theorem same10 (a b : Vec Ideal S256x512 .f32) : k0_pay10 (F := Ideal) a b = k0_pay3 (F := Ideal) a b := rfl

/-- A block's store adds to what was there. -/
theorem add_block (a b : Vec Ideal S256x512 .f32) (x : S256x512.Idx) : k0_pay3 (F := Ideal) a b x = (b x + a x : EReal) := by
  pointwise [k0_pay3]

/-- A block of the array at an index. -/
theorem ld_at (X : Vec Ideal S256x4096 .f32) (o : Nat) (hb) (x : S256x512.Idx) (j : S256x4096.Idx) (h0 : (j 0).val = (x 0).val) (h1 : (j 1).val = o + (x 1).val) :
    View.ld X (Rect.unit ![0, o] ![256, 512] hb) x = X j := by
  refine congrArg X (funext fun a => Fin.ext ?_)
  match a with
  | ⟨0, _⟩ => exact (show 0 + 1 * (x 0).val = (j 0).val by omega)
  | ⟨1, _⟩ => exact (show o + 1 * (x 1).val = (j 1).val by omega)

/-- A block's store adds its part to the array's entry. -/
theorem acc_at (a : Vec Ideal S256x512 .f32) (X : Vec Ideal S256x4096 .f32) (o : Nat) (hb) (x : S256x512.Idx) (j : S256x4096.Idx) (p : EReal)
    (h0 : (j 0).val = (x 0).val) (h1 : (j 1).val = o + (x 1).val) (ha : a x = p) :
    k0_pay3 (F := Ideal) a (View.ld X (Rect.unit ![0, o] ![256, 512] hb)) x = (X j + p : EReal) :=
  (add_block _ _ x).trans (Ideal.add_congr (ld_at X o hb x j h0 h1) ha)

set_option maxHeartbeats 3200000 in
/-- THE KEYS' AND VALUES' GRADIENT after the run is the reference's. -/
theorem final_dkv (c : Dev nD) (R : Reals3 (Qm m c) (Dm m c) (Km m c)) : (dats m 0 c).arrAt 5 (cfgs 0).N = Cert.Reference2Ideal.Xattn.dkv (Qm m c) (Km m c) (Dm m c) := by
  refine (dats m 0 c).arrAt_eq_of_covers 5 _ (by decide +kernel) fun t hf y => ?_
  blk_simp
  rw [after0_5, Pipeline.eq_sum_fin_of_reset_step_apply_of_flush (fun n h => (outsAt0 m c n h).2) 16 (fun _ => 0)
      (fun t j => part (Qm m c) (Dm m c) (Km m c) ⟨t.val, lt_of_lt_of_eq t.isLt N_0⟩ j)
      (fun t e j => by
        have ht : t.val < 16 := lt_of_lt_of_eq t.isLt N_0
        rw [outsAt0_A m c t e (by omega)]
        frame_out
        refine Eq.trans ?_ (zero_add _).symm
        canon_tiles x h
        all_goals try simp only [same12, same13, same14, same16, same17, same18, same20, same21, same24, same30, same31, same32, same40, same33, same34, same36, same37, same38, same26, same27, same28, same4, same5, same6, same7, same8, same9, same10]
        · exact (head3 m c t).dv x j h0 (by show (j 1).val = 2048 + (3 * 512 + (x 1).val); omega)
        · exact (head3 m c t).dk R x j h0 (by show (j 1).val = 3 * 512 + (x 1).val; omega)
        · exact (head2 m c t).dv x j h0 (by show (j 1).val = 2048 + (2 * 512 + (x 1).val); omega)
        · exact (head2 m c t).dk R x j h0 (by show (j 1).val = 2 * 512 + (x 1).val; omega)
        · exact (head1 m c t).dv x j h0 (by show (j 1).val = 2048 + (1 * 512 + (x 1).val); omega)
        · exact (head1 m c t).dk R x j h0 (by show (j 1).val = 1 * 512 + (x 1).val; omega)
        · exact (head0 m c t).dv x j h0 (by show (j 1).val = 2048 + (0 * 512 + (x 1).val); omega)
        · exact (head0 m c t).dk R x j h0 (by show (j 1).val = 0 * 512 + (x 1).val; omega))
      (fun t e j => by
        rw [outsAt0_B m c t e (by omega)]
        frame_out
        canon_tiles x h
        all_goals try simp only [same12, same13, same14, same16, same17, same18, same20, same21, same24, same30, same31, same32, same40, same33, same34, same36, same37, same38, same26, same27, same28, same4, same5, same6, same7, same8, same9, same10]
        · exact acc_at _ _ 3584 _ x j _ h0 (by omega) ((head3 m c t).dv x j h0 (by show (j 1).val = 2048 + (3 * 512 + (x 1).val); omega))
        · exact acc_at _ _ 1536 _ x j _ h0 (by omega) ((head3 m c t).dk R x j h0 (by show (j 1).val = 3 * 512 + (x 1).val; omega))
        · exact acc_at _ _ 3072 _ x j _ h0 (by omega) ((head2 m c t).dv x j h0 (by show (j 1).val = 2048 + (2 * 512 + (x 1).val); omega))
        · exact acc_at _ _ 1024 _ x j _ h0 (by omega) ((head2 m c t).dk R x j h0 (by show (j 1).val = 2 * 512 + (x 1).val; omega))
        · exact acc_at _ _ 2560 _ x j _ h0 (by omega) ((head1 m c t).dv x j h0 (by show (j 1).val = 2048 + (1 * 512 + (x 1).val); omega))
        · exact acc_at _ _ 512 _ x j _ h0 (by omega) ((head1 m c t).dk R x j h0 (by show (j 1).val = 1 * 512 + (x 1).val; omega))
        · exact acc_at _ _ 2048 _ x j _ h0 (by omega) ((head0 m c t).dv x j h0 (by show (j 1).val = 2048 + (0 * 512 + (x 1).val); omega))
        · exact acc_at _ _ 0 _ x j _ h0 (by omega) ((head0 m c t).dk R x j h0 (by show (j 1).val = 0 * 512 + (x 1).val; omega)))
      t ((flush0_5 t).mp hf) _, zero_add, Cert.Reference2Ideal.Xattn.dkv_at]
  unfold part
  refine Fin.sum_mul_add_congr fun s k hl => ?_
  have hs : (⟨(⟨16 * (t.val / 16) + s.val, Pipeline.run_point_lt_of_flush t ((flush0_5 t).mp hf) s⟩ : Fin cfg0.N).val, lt_of_lt_of_eq (Fin.isLt _) N_0⟩ : Fin 16) = s :=
    Fin.ext (by have : t.val < 16 := lt_of_lt_of_eq t.isLt N_0; show 16 * (t.val / 16) + s.val = s.val; omega)
  refine congrArg₂ (Cert.Reference2Ideal.Xattn.term _ _ _) (Fin.ext ?_) ?_
  · exact congrArg (fun z : Fin 16 => z.val * 512 + k.val) hs
  · funext a
    refine Fin.ext ?_
    match a with
    | ⟨0, _⟩ =>
      blk_simp
      simp [idx t]
    | ⟨1, _⟩ =>
      blk_simp
      simp [idx t]

end Cert.Kernel2Ideal.XattnKV

end
-- ==== Proof.Claims2.lean ====
/- The claims about the cross-attention gradient: the runs of the kernel, of its idealized form and of the reference, and the equality of their results. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Pre_finite2
public import proofs.«01_k».proof.Proof.XattnKV
public import proofs.«01_k».proof.Proof.Xattn
public import Idealize.ShloMosaic.Lib.Claim
public import Idealize.ShloMosaic.Lib.Quiescent

@[expose] public section

set_option maxRecDepth 16384

noncomputable section

namespace Cert.Claims2

open Idealize.ShloMosaic Idealize.SL.Sem

theorem kernel : Cert.quiescent_Kernel2 := fun m ρ _ => Cert.Kernel2.Gen.frame m ρ

theorem ideal : Cert.quiescent_Kernel2Ideal := fun m ρ _ => Cert.Kernel2Ideal.Gen.frame m ρ

theorem reference : Cert.quiescent_Reference2Ideal := fun m g _ =>
  θ_run_mono (Cert.Reference2Ideal.Value.run m g) fun r h => ⟨fun c => (h c).2.2, sem_eq_zero_of_no_sems rfl r.2⟩

theorem ideal_pre : Cert.quiescent_Kernel2Ideal_pre_finite2 := fun m ρ _ => Cert.Kernel2Ideal.Gen.frame m ρ

theorem reference_pre : Cert.quiescent_Reference2Ideal_pre_finite2 := fun m g _ => reference m g trivial

set_option maxHeartbeats 1600000 in
theorem algebraic : Cert.algebraic_Kernel2Ideal_Reference2Ideal_pre_finite2 := by
  pair_intro
  · run_from Cert.Kernel2Ideal.Value.run_blocks m g
  · run_from Cert.Reference2Ideal.Value.run m' g'
    · have hr : Cert.Kernel2Ideal.Xattn.Reals3 (Cert.Kernel2Ideal.Xattn.Qm m c) (Cert.Kernel2Ideal.Xattn.Dm m c) (Cert.Kernel2Ideal.Xattn.Km m c) := by
        obtain ⟨h0, h1, h2⟩ := hpre c
        exact ⟨fun j => Cert.Reals.real_of_abs_lt (congrFun h0 j), fun j => Cert.Reals.real_of_abs_lt (congrFun h1 j), fun j => Cert.Reals.real_of_abs_lt (congrFun h2 j)⟩
      refine Eq.trans ?_ (Cert.Kernel2Ideal.Xattn.final_dq m c hr).symm
      change Cert.Reference2Ideal.Xattn.dq (m' (c.tc.loc Reference2Ideal.main_arg0)) (m' (c.tc.loc Reference2Ideal.main_arg1)) (m' (c.tc.loc Reference2Ideal.main_arg2)) = _
      rw [(hagree c).1, (hagree c).2.1, (hagree c).2.2]
    · have hr : Cert.Kernel2Ideal.Xattn.Reals3 (Cert.Kernel2Ideal.Xattn.Qm m c) (Cert.Kernel2Ideal.Xattn.Dm m c) (Cert.Kernel2Ideal.Xattn.Km m c) := by
        obtain ⟨h0, h1, h2⟩ := hpre c
        exact ⟨fun j => Cert.Reals.real_of_abs_lt (congrFun h0 j), fun j => Cert.Reals.real_of_abs_lt (congrFun h1 j), fun j => Cert.Reals.real_of_abs_lt (congrFun h2 j)⟩
      refine Eq.trans ?_ (Cert.Kernel2Ideal.XattnKV.final_dkv m c hr).symm
      change Cert.Reference2Ideal.Xattn.dkv (m' (c.tc.loc Reference2Ideal.main_arg0)) (m' (c.tc.loc Reference2Ideal.main_arg1)) (m' (c.tc.loc Reference2Ideal.main_arg2)) = _
      rw [(hagree c).1, (hagree c).2.1, (hagree c).2.2]

end Cert.Claims2

end
-- ==== Proof.Half.lean ====
/- The feed-forward block's first half and its gradient: the hidden rows the forward call leaves, and the gradients at the two pre-activations
   the backward call makes of them. Both calls write every block once; the second call reads two arrays of slopes the first one left. -/
module

public import proofs.«01_k».proof.Proof.Gen.Kernel3Ideal.Frame
public import proofs.«01_k».proof.Proof.Gen.Reference3Ideal.Run
public import proofs.«01_k».proof.Proof.Reals
public import Idealize.ShloMosaic.Lib.Pipeline.ValueKit
public import Idealize.ShloMosaic.Lib.Pointwise

@[expose] public section

set_option maxRecDepth 16384

noncomputable section

namespace Cert.Kernel3Ideal.Half

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat cellOf)
open Cert.Kernel3Ideal Cert.Kernel3Ideal.Gen

variable (m : (ℓ : Loc nD τ sig) → Buf (Elt Ideal) ℓ) (ρ : Dev nD → PrngReg)

/-! ## The run -/

set_option backward.isDefEq.respectTransparency.types false in
/-- The run of the two calls, each result array named by what its call's write-backs leave. -/
theorem run : θ_run defs (onTc (τ := τ) (main (F := Ideal))) ⟨m, fun _ => 0, ρ⟩ (fun r => ∀ c : Dev nD,
      r.2.mem ((c : Thread nD τ).loc main_v0_2) = (dat0 (V0 m ρ) c).arrAt 5 cfg0.N
      ∧ r.2.mem ((c : Thread nD τ).loc main_v1_0) = (dat1 (V1 m ρ) c).arrAt 4 cfg1.N
      ∧ r.2.mem ((c : Thread nD τ).loc main_v1_1) = (dat1 (V1 m ρ) c).arrAt 5 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) := by
  refine Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := Pipeline.initEach L lv fun c => ?_)
    (QY := fun c s => ∀ b ∈ Pipeline.ucRefs τ sig, s.mem (((c : Thread nD τ)).1, b) = W2 m ρ c b)
    (hfin := fun c s => ?_)
    (hQ := fun s h _ c => ?_)
  · iintro Hu
    imodintro
    isplitl [Hu]
    · iapply (show (ownU (initOf (Pipeline.cells cfgs cellOf_inj) (Pipeline.launchToks cfgs cellOf_inj)) : sProp (MT nD τ sig Unit (Elt Ideal) ℕ (UR sig nD τ) ℕ))
          ⊢ BI.own (emb₁ (initOf (Pipeline.cells cfgs cellOf_inj) (Pipeline.launchToks cfgs cellOf_inj))) from .rfl)
      iexact Hu
    · iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro
  · rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hb, -, HO, -, Hp, -⟩, -⟩
    imodintro
    isplitl [Hb]
    · iexact Hb
    isplitl [Hp]
    · iexists _
      iexact Hp
    iexists ∅
    iexact HO
  · iintro ⟨⟨Hb, -⟩, HS⟩
    unfold StableHlo.held
    imodintro
    iapply (pointsTo_read_all (Pipeline.ucRefs τ sig) (fun b => (((c : Thread nD τ)).1, b)) (W2 m ρ c) s)
    isplitl [Hb] <;> iassumption
  · exact ⟨(h c _ (mem_uc main_v0_2 (by decide))).trans ((W2_of_ne m ρ c main_v0_2 (by decide)).trans (W1_arr m ρ c 5)),
      (h c _ (mem_uc main_v1_0 (by decide))).trans (W2_arr m ρ c 4),
      (h c _ (mem_uc main_v1_1 (by decide))).trans (W2_arr m ρ c 5),
      (h c _ (mem_uc main_arg0 (by decide))).trans (W2_main_arg0 m ρ c),
      (h c _ (mem_uc main_arg1 (by decide))).trans (W2_main_arg1 m ρ c),
      (h c _ (mem_uc main_arg2 (by decide))).trans (W2_main_arg2 m ρ c),
      (h c _ (mem_uc main_arg3 (by decide))).trans (W2_main_arg3 m ρ c),
      (h c _ (mem_uc main_arg4 (by decide))).trans (W2_main_arg4 m ρ c)⟩

/-! ## The entries -/

/-- An entry of a product of rows with a weight held as four groups of columns. -/
def pre (H : FVec Ideal S8192x2048 .bf16) (W : FVec Ideal S4x2048x1408 .bf16) (j : S8192x5632.Idx) : EReal :=
  ∑ k : Fin 2048, H (ix2 (j 0) k) * W (ix3 ⟨(j 1).val / 1408, by have := (j 1).isLt; simp at this; omega⟩ k ⟨(j 1).val % 1408, by omega⟩)

/-- An entry of a product of rows with the transpose of a weight held as four groups of rows. -/
def back (D : FVec Ideal S8192x2048 .bf16) (W : FVec Ideal S4x1408x2048 .bf16) (j : S8192x5632.Idx) : EReal :=
  ∑ l : Fin 2048, D (ix2 (j 0) l) * W (ix3 ⟨(j 1).val / 1408, by have := (j 1).isLt; simp at this; omega⟩ ⟨(j 1).val % 1408, by omega⟩ l)

/-- The logistic function. -/
def sig1 (a : EReal) : EReal := Ideal.div (Ideal.ofBits .f32 0x3F800000#32) (Ideal.ofBits .f32 0x3F800000#32 + Ideal.exp (-a))

/-- The first slope the forward call leaves. -/
def slope (a b : EReal) : EReal := b * (sig1 a * (Ideal.ofBits .f32 0x3F800000#32 + a * (Ideal.ofBits .f32 0x3F800000#32 - sig1 a)))

/-- The reference's gradient at the gate's pre-activation. -/
def gateGrad (a b d : EReal) : EReal := (d * b) * sig1 a + (a * (d * b)) * (sig1 a * (Ideal.ofBits .f32 0x3F800000#32 - sig1 a))

/-- At reals the product with the slope is the reference's gradient. -/
theorem slope_eq (a b d : ℝ) : (d : EReal) * slope a b = gateGrad a b d := by
  have hp : (0 : ℝ) < 1 + Real.exp (-a) := by positivity
  have hs : sig1 (a : EReal) = ((1 / (1 + Real.exp (-a)) : ℝ) : EReal) := by
    unfold sig1
    rw [Ideal.ofBits_one_f32, ← EReal.coe_neg, Ideal.exp_coe, ← EReal.coe_one, ← EReal.coe_add, Reals.div_real _ hp.ne']
  unfold slope gateGrad
  rw [hs, Ideal.ofBits_one_f32, ← EReal.coe_one]
  simp only [← EReal.coe_mul, ← EReal.coe_sub, ← EReal.coe_add]
  congr 1
  ring

/-- A sum of products of reals is a real. -/
theorem sum_real {n : ℕ} (f g : Fin n → EReal) (hf : ∀ k, ∃ r : ℝ, f k = r) (hg : ∀ k, ∃ r : ℝ, g k = r) : ∃ r : ℝ, ∑ k, f k * g k = r := by
  choose f' hf using hf
  choose g' hg using hg
  refine ⟨∑ k, f' k * g' k, ?_⟩
  rw [← Reals.coe_sum]
  exact Finset.sum_congr rfl fun k _ => by rw [hf, hg, EReal.coe_mul]

/-! ## The reference's lines -/

/-- A weight held as four groups of columns, laid out as one matrix. -/
def columns (W : FVec Ideal S4x2048x1408 .bf16) : FVec Ideal Cert.Reference3Ideal.S2048x5632 .f32 :=
  concatenate Cert.Reference3Ideal.S2048x5632 1 [⟨Cert.Reference3Ideal.S2048x1408, (extf .f32 (shapeCast _ (extractStridedSlice Cert.Reference3Ideal.S1x2048x1408 ![0, 0, 0] W Cert.Reference3Ideal.Gen.slices_S4x2048x1408_S1x2048x1408_0_0_0) Cert.Reference3Ideal.Gen.shapeCasts_S1x2048x1408_S2048x1408) Cert.Reference3Ideal.Gen.bitsLt_bf16_f32 : FVec Ideal Cert.Reference3Ideal.S2048x1408 .f32)⟩,
    ⟨Cert.Reference3Ideal.S2048x1408, (extf .f32 (shapeCast _ (extractStridedSlice Cert.Reference3Ideal.S1x2048x1408 ![1, 0, 0] W Cert.Reference3Ideal.Gen.slices_S4x2048x1408_S1x2048x1408_1_0_0) Cert.Reference3Ideal.Gen.shapeCasts_S1x2048x1408_S2048x1408) Cert.Reference3Ideal.Gen.bitsLt_bf16_f32 : FVec Ideal Cert.Reference3Ideal.S2048x1408 .f32)⟩,
    ⟨Cert.Reference3Ideal.S2048x1408, (extf .f32 (shapeCast _ (extractStridedSlice Cert.Reference3Ideal.S1x2048x1408 ![2, 0, 0] W Cert.Reference3Ideal.Gen.slices_S4x2048x1408_S1x2048x1408_2_0_0) Cert.Reference3Ideal.Gen.shapeCasts_S1x2048x1408_S2048x1408) Cert.Reference3Ideal.Gen.bitsLt_bf16_f32 : FVec Ideal Cert.Reference3Ideal.S2048x1408 .f32)⟩,
    ⟨Cert.Reference3Ideal.S2048x1408, (extf .f32 (shapeCast _ (extractStridedSlice Cert.Reference3Ideal.S1x2048x1408 ![3, 0, 0] W Cert.Reference3Ideal.Gen.slices_S4x2048x1408_S1x2048x1408_3_0_0) Cert.Reference3Ideal.Gen.shapeCasts_S1x2048x1408_S2048x1408) Cert.Reference3Ideal.Gen.bitsLt_bf16_f32 : FVec Ideal Cert.Reference3Ideal.S2048x1408 .f32)⟩]
    Cert.Reference3Ideal.Gen.concatenates_S2048x1408_S2048x1408_S2048x1408_S2048x1408_S2048x5632_d1

theorem columns_apply (W : FVec Ideal S4x2048x1408 .bf16) (a : Fin 2048) (l : Fin 5632) :
    columns W (ix2 a l) = W (ix3 ⟨l.val / 1408, by omega⟩ a ⟨l.val % 1408, by omega⟩) := by
  pointwise [columns]
  blk_point []

/-- A pre-activation, the reference's product. -/
def preR (H : FVec Ideal S8192x2048 .bf16) (W : FVec Ideal S4x2048x1408 .bf16) : FVec Ideal S8192x5632 .f32 :=
  Host.dotGeneral Cert.Reference3Ideal.dot_S8192x2048_S2048x5632_S8192x5632_1_0_0_1_n_n none (extf .f32 H Cert.Reference3Ideal.Gen.bitsLt_bf16_f32) (columns W)

theorem preR_apply (H : FVec Ideal S8192x2048 .bf16) (W : FVec Ideal S4x2048x1408 .bf16) (j) : preR H W j = pre H W j := by
  have e : preR H W j = ∑ k : Fin 2048, H (ix2 (j 0) k) * columns W (ix2 k (j 1)) := by pointwise [preR]
  rw [e]
  unfold pre
  exact Finset.sum_congr rfl fun k _ => congrArg (fun x : EReal => H (ix2 (j 0) k) * x) (columns_apply W k (j 1))

/-- The gradient at the hidden rows, the reference's product. -/
def backR (D : FVec Ideal S8192x2048 .bf16) (W : FVec Ideal S4x1408x2048 .bf16) : FVec Ideal S8192x5632 .f32 :=
  Host.dotGeneral Cert.Reference3Ideal.dot_S8192x2048_S5632x2048_S8192x5632_1_1_0_0_n_n none (extf .f32 D Cert.Reference3Ideal.Gen.bitsLt_bf16_f32)
    (shapeCast _ (extf .f32 W Cert.Reference3Ideal.Gen.bitsLt_bf16_f32) Cert.Reference3Ideal.Gen.shapeCasts_S4x1408x2048_S5632x2048)

theorem backR_apply (D : FVec Ideal S8192x2048 .bf16) (W : FVec Ideal S4x1408x2048 .bf16) (j) : backR D W j = back D W j := by
  pointwise [backR, back]

/-- The logistic function of a pre-activation, the reference's lines. -/
def sigR (A : FVec Ideal S8192x5632 .f32) : FVec Ideal S8192x5632 .f32 :=
  Host.divf (broadcastInDim Cert.Reference3Ideal.S8192x5632 ![] Cert.Reference3Ideal.Gen.bcast_S_S8192x5632 (constant Cert.Reference3Ideal.S_ .f32 0x3F800000#32))
    (addf (broadcastInDim Cert.Reference3Ideal.S8192x5632 ![] Cert.Reference3Ideal.Gen.bcast_S_S8192x5632 (constant Cert.Reference3Ideal.S_ .f32 0x3F800000#32)) (Host.exp (Host.negf A)))

theorem sigR_apply (A : FVec Ideal S8192x5632 .f32) (j) : sigR A j = sig1 (A j) := by
  pointwise [sigR, sig1]

/-- The reference's hidden rows. -/
def hidR (H : FVec Ideal S8192x2048 .bf16) (WG WU : FVec Ideal S4x2048x1408 .bf16) : FVec Ideal S8192x5632 .bf16 :=
  truncf .bf16 (mulf (mulf (preR H WG) (sigR (preR H WG))) (preR H WU)) Cert.Reference3Ideal.Gen.bitsLt_bf16_f32

theorem hidR_apply (H : FVec Ideal S8192x2048 .bf16) (WG WU : FVec Ideal S4x2048x1408 .bf16) (j) :
    hidR H WG WU j = (pre H WG j * sig1 (pre H WG j)) * pre H WU j := by
  rw [← preR_apply, ← preR_apply, ← sigR_apply]
  rfl

/-- The reference's gradient at the gate's pre-activation. -/
def daR (H : FVec Ideal S8192x2048 .bf16) (WG WU : FVec Ideal S4x2048x1408 .bf16) (WD : FVec Ideal S4x1408x2048 .bf16) (D : FVec Ideal S8192x2048 .bf16) :
    FVec Ideal S8192x5632 .bf16 :=
  truncf .bf16 (addf (mulf (mulf (backR D WD) (preR H WU)) (sigR (preR H WG)))
    (mulf (mulf (preR H WG) (mulf (backR D WD) (preR H WU)))
      (mulf (sigR (preR H WG)) (subf (broadcastInDim Cert.Reference3Ideal.S8192x5632 ![] Cert.Reference3Ideal.Gen.bcast_S_S8192x5632 (constant Cert.Reference3Ideal.S_ .f32 0x3F800000#32)) (sigR (preR H WG))))))
    Cert.Reference3Ideal.Gen.bitsLt_bf16_f32

theorem daR_apply (H : FVec Ideal S8192x2048 .bf16) (WG WU : FVec Ideal S4x2048x1408 .bf16) (WD : FVec Ideal S4x1408x2048 .bf16) (D : FVec Ideal S8192x2048 .bf16) (j) :
    daR H WG WU WD D j = gateGrad (pre H WG j) (pre H WU j) (back D WD j) := by
  unfold gateGrad
  rw [← preR_apply, ← preR_apply, ← sigR_apply, ← backR_apply]
  rfl

/-- The reference's gradient at the other pre-activation. -/
def dbR (H : FVec Ideal S8192x2048 .bf16) (WG : FVec Ideal S4x2048x1408 .bf16) (WD : FVec Ideal S4x1408x2048 .bf16) (D : FVec Ideal S8192x2048 .bf16) :
    FVec Ideal S8192x5632 .bf16 :=
  truncf .bf16 (mulf (mulf (preR H WG) (sigR (preR H WG))) (backR D WD)) Cert.Reference3Ideal.Gen.bitsLt_bf16_f32

theorem dbR_apply (H : FVec Ideal S8192x2048 .bf16) (WG : FVec Ideal S4x2048x1408 .bf16) (WD : FVec Ideal S4x1408x2048 .bf16) (D : FVec Ideal S8192x2048 .bf16) (j) :
    dbR H WG WD D j = (pre H WG j * sig1 (pre H WG j)) * back D WD j := by
  rw [← preR_apply, ← sigR_apply, ← backR_apply]
  rfl

/-! ## The forward call's three arrays -/

theorem idx0 : ∀ t : Fin cfg0.N, win0_0.index t = ![t.val % 16, 0] ∧ win0_1.index t = ![t.val / 16, 0, 0] ∧ win0_2.index t = ![t.val / 16, 0, 0]
    ∧ win0_3.index t = ![t.val % 16, t.val / 16] ∧ win0_4.index t = ![t.val % 16, t.val / 16] ∧ win0_5.index t = ![t.val % 16, t.val / 16] :=
  (by decide +kernel : ∀ t : Fin grid0.N, _)

theorem idx1 : ∀ t : Fin cfg1.N, win1_0.index t = ![t.val % 16, 0] ∧ win1_1.index t = ![t.val / 16, 0, 0] ∧ win1_2.index t = ![t.val % 16, t.val / 16]
    ∧ win1_3.index t = ![t.val % 16, t.val / 16] ∧ win1_4.index t = ![t.val % 16, t.val / 16] ∧ win1_5.index t = ![t.val % 16, t.val / 16] :=
  (by decide +kernel : ∀ t : Fin grid1.N, _)

theorem pay1_apply (x : Vec Ideal S512x2048 .bf16) (w : Vec Ideal S1x2048x1408 .bf16) (y) :
    k0_pay1 (F := Ideal) x w y = (∑ k : Fin 2048, x (ix2 (y 0) k) * w (ix3 0 k (y 1)) : EReal) := by
  pointwise [k0_pay1]

theorem pay2_apply (x : Vec Ideal S512x2048 .bf16) (w : Vec Ideal S1x2048x1408 .bf16) (y) :
    k0_pay2 (F := Ideal) x w y = (∑ k : Fin 2048, x (ix2 (y 0) k) * w (ix3 0 k (y 1)) : EReal) := by
  pointwise [k0_pay2]

theorem pay3_apply (x : Vec Ideal S512x2048 .bf16) (w : Vec Ideal S1x2048x1408 .bf16) (y) :
    k0_pay3 (F := Ideal) x w y = sig1 (k0_pay1 (F := Ideal) x w y) := by
  have e : k0_pay3 (F := Ideal) x w y = Ideal.div (Ideal.ofBits .f32 0x3F800000#32)
      (Ideal.ofBits .f32 0x3F800000#32 + Ideal.exp (Ideal.ofBits .f32 0x00000000#32 - k0_pay1 (F := Ideal) x w y)) := rfl
  rw [e, Ideal.ofBits_zero_f32, zero_sub]
  rfl

/-- What the forward call stores of the first slope. -/
theorem pay5_apply (x : Vec Ideal S512x2048 .bf16) (w v : Vec Ideal S1x2048x1408 .bf16) (y) :
    k0_pay5 (F := Ideal) x w v y = slope (k0_pay1 (F := Ideal) x w y) (k0_pay2 (F := Ideal) x v y) := by
  unfold slope
  rw [← pay3_apply]
  rfl

/-- What the forward call stores of the second slope. -/
theorem pay6_apply (x : Vec Ideal S512x2048 .bf16) (w : Vec Ideal S1x2048x1408 .bf16) (y) :
    k0_pay6 (F := Ideal) x w y = (k0_pay1 (F := Ideal) x w y * sig1 (k0_pay1 (F := Ideal) x w y) : EReal) := by
  rw [← pay3_apply]
  rfl

/-- What the forward call stores of the hidden rows. -/
theorem pay7_apply (x : Vec Ideal S512x2048 .bf16) (w v : Vec Ideal S1x2048x1408 .bf16) (y) :
    k0_pay7 (F := Ideal) x w v y = ((k0_pay1 (F := Ideal) x w y * sig1 (k0_pay1 (F := Ideal) x w y)) * k0_pay2 (F := Ideal) x v y : EReal) := by
  rw [← pay3_apply]
  rfl

/-- The gate's pre-activation at a grid point is the whole one's entry. -/
theorem gate_point (c : Dev nD) (t : Fin cfg0.N) (y) :
    k0_pay1 (F := Ideal) (iblk0 (V0 m ρ) c 0 t) (iblk0 (V0 m ρ) c 1 t) y
      = pre (m ((c : Thread nD τ).loc main_arg0)) (m ((c : Thread nD τ).loc main_arg1)) ((win0_5.blk t).view.emb y) := by
  rw [pay1_apply]
  unfold pre
  blk_point [iblk0, V0, idx0 t]

/-- The other pre-activation at a grid point is the whole one's entry. -/
theorem up_point (c : Dev nD) (t : Fin cfg0.N) (y) :
    k0_pay2 (F := Ideal) (iblk0 (V0 m ρ) c 0 t) (iblk0 (V0 m ρ) c 2 t) y
      = pre (m ((c : Thread nD τ).loc main_arg0)) (m ((c : Thread nD τ).loc main_arg2)) ((win0_5.blk t).view.emb y) := by
  rw [pay2_apply]
  unfold pre
  blk_point [iblk0, V0, idx0 t]

/-- The first array of slopes after the forward call. -/
theorem slopes (c : Dev nD) : (dat0 (V0 m ρ) c).arrAt 3 cfg0.N = fun j =>
    slope (pre (m ((c : Thread nD τ).loc main_arg0)) (m ((c : Thread nD τ).loc main_arg1)) j)
      (pre (m ((c : Thread nD τ).loc main_arg0)) (m ((c : Thread nD τ).loc main_arg2)) j) := by
  refine (dat0 (V0 m ρ) c).arrAt_eq_of_covers 3 _ (by decide +kernel) fun t _ y => ?_
  blk_simp
  rw [after0_3]
  frame_out
  exact (pay5_apply _ _ _ y).trans (congrArg₂ slope (gate_point m ρ c t y) (up_point m ρ c t y))

/-- The second array of slopes after the forward call. -/
theorem gated (c : Dev nD) : (dat0 (V0 m ρ) c).arrAt 4 cfg0.N = fun j =>
    (pre (m ((c : Thread nD τ).loc main_arg0)) (m ((c : Thread nD τ).loc main_arg1)) j
      * sig1 (pre (m ((c : Thread nD τ).loc main_arg0)) (m ((c : Thread nD τ).loc main_arg1)) j) : EReal) := by
  refine (dat0 (V0 m ρ) c).arrAt_eq_of_covers 4 _ (by decide +kernel) fun t _ y => ?_
  blk_simp
  rw [after0_4]
  frame_out
  exact (pay6_apply _ _ y).trans (congrArg (fun a : EReal => a * sig1 a) (gate_point m ρ c t y))

/-- THE HIDDEN ROWS after the forward call are the reference's. -/
theorem final_hid (c : Dev nD) : (dat0 (V0 m ρ) c).arrAt 5 cfg0.N
    = hidR (m ((c : Thread nD τ).loc main_arg0)) (m ((c : Thread nD τ).loc main_arg1)) (m ((c : Thread nD τ).loc main_arg2)) := by
  refine (dat0 (V0 m ρ) c).arrAt_eq_of_covers 5 _ (by decide +kernel) fun t _ y => ?_
  blk_simp
  rw [after0_5]
  frame_out
  refine (pay7_apply _ _ _ y).trans (Eq.trans ?_ (hidR_apply _ _ _ _).symm)
  exact congrArg₂ (fun a b : EReal => (a * sig1 a) * b) (gate_point m ρ c t y) (up_point m ρ c t y)

/-! ## The backward call's two arrays -/

theorem bpay1_apply (x : Vec Ideal S512x2048 .bf16) (w : Vec Ideal S1x1408x2048 .bf16) (y) :
    k1_pay1 (F := Ideal) x w y = (∑ l : Fin 2048, x (ix2 (y 0) l) * w (ix3 0 (y 1) l) : EReal) := by
  pointwise [k1_pay1]

theorem bpay2_apply (x : Vec Ideal S512x2048 .bf16) (w : Vec Ideal S1x1408x2048 .bf16) (g : Vec Ideal S512x1408 .bf16) (y) :
    k1_pay2 (F := Ideal) x w g y = (k1_pay1 (F := Ideal) x w y * g y : EReal) := by
  pointwise [k1_pay2]

theorem bpay3_apply (x : Vec Ideal S512x2048 .bf16) (w : Vec Ideal S1x1408x2048 .bf16) (g : Vec Ideal S512x1408 .bf16) (y) :
    k1_pay3 (F := Ideal) x w g y = (k1_pay1 (F := Ideal) x w y * g y : EReal) := by
  pointwise [k1_pay3]

theorem V1_arg3 (c : Dev nD) : V1 m ρ c main_arg3 = m ((c : Thread nD τ).loc main_arg3) := W1_args m ρ c main_arg3 (by decide)
theorem V1_arg4 (c : Dev nD) : V1 m ρ c main_arg4 = m ((c : Thread nD τ).loc main_arg4) := W1_args m ρ c main_arg4 (by decide)
theorem V1_slopes (c : Dev nD) : V1 m ρ c main_v0_0 = (dat0 (V0 m ρ) c).arrAt 3 cfg0.N := W1_arr m ρ c 3
theorem V1_gated (c : Dev nD) : V1 m ρ c main_v0_1 = (dat0 (V0 m ρ) c).arrAt 4 cfg0.N := W1_arr m ρ c 4

/-- The product of a grid point's blocks is the whole product's entry. -/
theorem back_point (c : Dev nD) (t : Fin cfg1.N) (y) :
    k1_pay1 (F := Ideal) (iblk1 (V1 m ρ) c 0 t) (iblk1 (V1 m ρ) c 1 t) y
      = back (m ((c : Thread nD τ).loc main_arg4)) (m ((c : Thread nD τ).loc main_arg3)) ((win1_4.blk t).view.emb y) := by
  rw [bpay1_apply, ← V1_arg3 m ρ c, ← V1_arg4 m ρ c]
  unfold back
  generalize V1 m ρ = V
  blk_point [iblk1, idx1 t]

theorem slope_block (V : (c : Dev nD) → (b : Ref sig .tc) → Buf (Elt Ideal) ((c : Thread nD τ).loc b)) (c : Dev nD) (t : Fin cfg1.N) (y) :
    iblk1 V c 2 t y = V c main_v0_0 ((win1_4.blk t).view.emb y) := by
  blk_point [iblk1, idx1 t]

theorem gated_block (V : (c : Dev nD) → (b : Ref sig .tc) → Buf (Elt Ideal) ((c : Thread nD τ).loc b)) (c : Dev nD) (t : Fin cfg1.N) (y) :
    iblk1 V c 3 t y = V c main_v0_1 ((win1_5.blk t).view.emb y) := by
  blk_point [iblk1, idx1 t]

/-- Every entry of the five arrays is a real. -/
def Real5 (c : Dev nD) : Prop :=
  (∀ j, ∃ r : ℝ, m ((c : Thread nD τ).loc main_arg0) j = (r : EReal)) ∧ (∀ j, ∃ r : ℝ, m ((c : Thread nD τ).loc main_arg1) j = (r : EReal))
    ∧ (∀ j, ∃ r : ℝ, m ((c : Thread nD τ).loc main_arg2) j = (r : EReal)) ∧ (∀ j, ∃ r : ℝ, m ((c : Thread nD τ).loc main_arg3) j = (r : EReal))
    ∧ ∀ j, ∃ r : ℝ, m ((c : Thread nD τ).loc main_arg4) j = (r : EReal)

/-- At reals, the product with the slope is the reference's gradient, of the whole arrays' entries. -/
theorem slope_entry (c : Dev nD) (hr : Real5 m c) (j) :
    (back (m ((c : Thread nD τ).loc main_arg4)) (m ((c : Thread nD τ).loc main_arg3)) j
      * slope (pre (m ((c : Thread nD τ).loc main_arg0)) (m ((c : Thread nD τ).loc main_arg1)) j)
          (pre (m ((c : Thread nD τ).loc main_arg0)) (m ((c : Thread nD τ).loc main_arg2)) j) : EReal)
      = gateGrad (pre (m ((c : Thread nD τ).loc main_arg0)) (m ((c : Thread nD τ).loc main_arg1)) j)
          (pre (m ((c : Thread nD τ).loc main_arg0)) (m ((c : Thread nD τ).loc main_arg2)) j)
          (back (m ((c : Thread nD τ).loc main_arg4)) (m ((c : Thread nD τ).loc main_arg3)) j) := by
  obtain ⟨h0, h1, h2, h3, h4⟩ := hr
  obtain ⟨a, ha⟩ : ∃ r : ℝ, pre (m ((c : Thread nD τ).loc main_arg0)) (m ((c : Thread nD τ).loc main_arg1)) j = r := sum_real _ _ (fun _ => h0 _) (fun _ => h1 _)
  obtain ⟨b, hb⟩ : ∃ r : ℝ, pre (m ((c : Thread nD τ).loc main_arg0)) (m ((c : Thread nD τ).loc main_arg2)) j = r := sum_real _ _ (fun _ => h0 _) (fun _ => h2 _)
  obtain ⟨d, hd⟩ : ∃ r : ℝ, back (m ((c : Thread nD τ).loc main_arg4)) (m ((c : Thread nD τ).loc main_arg3)) j = r := sum_real _ _ (fun _ => h4 _) (fun _ => h3 _)
  rw [ha, hb, hd]
  exact slope_eq a b d

/-- THE GRADIENT at the gate's pre-activation is the reference's. -/
theorem final_da (c : Dev nD) (hr : Real5 m c) : (dat1 (V1 m ρ) c).arrAt 4 cfg1.N
    = daR (m ((c : Thread nD τ).loc main_arg0)) (m ((c : Thread nD τ).loc main_arg1)) (m ((c : Thread nD τ).loc main_arg2))
        (m ((c : Thread nD τ).loc main_arg3)) (m ((c : Thread nD τ).loc main_arg4)) := by
  refine (dat1 (V1 m ρ) c).arrAt_eq_of_covers 4 _ (by decide +kernel) fun t _ y => ?_
  blk_simp
  rw [after1_4]
  frame_out
  refine (bpay2_apply _ _ _ y).trans (Eq.trans ?_ ((slope_entry m c hr _).trans (daR_apply _ _ _ _ _ _).symm))
  exact congrArg₂ (fun a b : EReal => a * b) (back_point m ρ c t y)
    ((slope_block (V1 m ρ) c t y).trans (congrFun ((V1_slopes m ρ c).trans (slopes m ρ c)) _))

/-- THE GRADIENT at the other pre-activation is the reference's. -/
theorem final_db (c : Dev nD) : (dat1 (V1 m ρ) c).arrAt 5 cfg1.N
    = dbR (m ((c : Thread nD τ).loc main_arg0)) (m ((c : Thread nD τ).loc main_arg1)) (m ((c : Thread nD τ).loc main_arg3))
        (m ((c : Thread nD τ).loc main_arg4)) := by
  refine (dat1 (V1 m ρ) c).arrAt_eq_of_covers 5 _ (by decide +kernel) fun t _ y => ?_
  blk_simp
  rw [after1_5]
  frame_out
  refine (bpay3_apply _ _ _ y).trans (Eq.trans ?_ (Eq.trans (mul_comm _ _) (dbR_apply _ _ _ _ _).symm))
  exact congrArg₂ (fun a b : EReal => a * b) (back_point m ρ c t y)
    ((gated_block (V1 m ρ) c t y).trans (congrFun ((V1_gated m ρ c).trans (gated m ρ c)) _))

end Cert.Kernel3Ideal.Half

end
-- ==== Proof.Claims3.lean ====
/- The claims about the feed-forward up product and activation gradient: the runs of the kernel, of its idealized form and of the reference, and the equality of their results. -/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Pre_finite3
public import proofs.«01_k».proof.Proof.Half
public import Idealize.ShloMosaic.Lib.Claim
public import Idealize.ShloMosaic.Lib.Quiescent

@[expose] public section

set_option maxRecDepth 16384

noncomputable section

namespace Cert.Claims3

open Idealize.ShloMosaic Idealize.SL.Sem

theorem kernel : Cert.quiescent_Kernel3 := fun m ρ _ => Cert.Kernel3.Gen.frame m ρ

theorem ideal : Cert.quiescent_Kernel3Ideal := fun m ρ _ => Cert.Kernel3Ideal.Gen.frame m ρ

theorem reference : Cert.quiescent_Reference3Ideal := fun m g _ =>
  θ_run_mono (Cert.Reference3Ideal.Value.run m g) fun r h => ⟨fun c => (h c).2.2.2, sem_eq_zero_of_no_sems rfl r.2⟩

theorem ideal_pre : Cert.quiescent_Kernel3Ideal_pre_finite3 := fun m ρ _ => Cert.Kernel3Ideal.Gen.frame m ρ

theorem reference_pre : Cert.quiescent_Reference3Ideal_pre_finite3 := fun m g _ => reference m g trivial

set_option maxHeartbeats 1600000 in
theorem algebraic : Cert.algebraic_Kernel3Ideal_Reference3Ideal_pre_finite3 := by
  pair_intro
  · run_from Cert.Kernel3Ideal.Half.run m g
  · run_from Cert.Reference3Ideal.Value.run m' g'
    · refine Eq.trans ?_ (Cert.Kernel3Ideal.Half.final_hid m g c).symm
      change Cert.Kernel3Ideal.Half.hidR (m' (c.tc.loc Reference3Ideal.main_arg0)) (m' (c.tc.loc Reference3Ideal.main_arg1)) (m' (c.tc.loc Reference3Ideal.main_arg2)) = _
      rw [(hagree c).1, (hagree c).2.1, (hagree c).2.2.1]
    · have hr : Cert.Kernel3Ideal.Half.Real5 m c := by
        obtain ⟨h0, h1, h2, h3, h4⟩ := hpre c
        exact ⟨fun j => Cert.Reals.real_of_abs_lt (congrFun h0 j), fun j => Cert.Reals.real_of_abs_lt (congrFun h1 j), fun j => Cert.Reals.real_of_abs_lt (congrFun h2 j),
          fun j => Cert.Reals.real_of_abs_lt (congrFun h3 j), fun j => Cert.Reals.real_of_abs_lt (congrFun h4 j)⟩
      refine Eq.trans ?_ (Cert.Kernel3Ideal.Half.final_da m g c hr).symm
      change Cert.Kernel3Ideal.Half.daR (m' (c.tc.loc Reference3Ideal.main_arg0)) (m' (c.tc.loc Reference3Ideal.main_arg1)) (m' (c.tc.loc Reference3Ideal.main_arg2)) (m' (c.tc.loc Reference3Ideal.main_arg3)) (m' (c.tc.loc Reference3Ideal.main_arg4)) = _
      rw [(hagree c).1, (hagree c).2.1, (hagree c).2.2.1, (hagree c).2.2.2.1, (hagree c).2.2.2.2]
    · refine Eq.trans ?_ (Cert.Kernel3Ideal.Half.final_db m g c).symm
      exact congrArg (fun W => Cert.Kernel3Ideal.Half.dbR _ W _ _) (hagree c).2.1

end Cert.Claims3

end
-- ==== Proof.Dwd.lean ====
/- The gradient of the feed-forward down weight: what the tiled product leaves in its result array is the product that the derivative of
   the reference's line computes. Each block of the result is summed over four grid points, each of which takes 2048 of the 8192 rows. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Kernel4Ideal.Dwd

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- The reference's result over the two arrays. -/
abbrev product (H : FVec Ideal S8192x5632 .bf16) (D : FVec Ideal S8192x2048 .bf16) : FVec Ideal S5632x2048 .f32 :=
  transpose Cert.Reference4Ideal.S5632x2048 [1, 0] (Host.dotGeneral Cert.Reference4Ideal.dot_S8192x2048_S8192x5632_S2048x5632_0_0_1_1_n_n none
    (extf .f32 D Cert.Reference4Ideal.Gen.bitsLt_bf16_f32) (extf .f32 H Cert.Reference4Ideal.Gen.bitsLt_bf16_f32))
    Cert.Reference4Ideal.Gen.transposes_S2048x5632_S5632x2048_1_0

theorem product_apply (H : FVec Ideal S8192x5632 .bf16) (D : FVec Ideal S8192x2048 .bf16) (j) :
    product H D j = ∑ l : Fin 8192, D (ix2 l (j 1)) * H (ix2 l (j 0)) := by
  pointwise [product]

/-- What a point adds to the block: the product of its blocks over 2048 rows. -/
theorem part_apply (x : FVec Ideal S2048x1408 .bf16) (y : FVec Ideal S2048x1024 .bf16) (j) :
    k0_pay1 (F := Ideal) x y j = ∑ k : Fin 2048, x (ix2 k (j 0)) * y (ix2 k (j 1)) := by
  pointwise [k0_pay1]

theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

theorem step_apply (x : FVec Ideal S2048x1408 .bf16) (y : FVec Ideal S2048x1024 .bf16) (acc : FVec Ideal S1408x1024 .f32) (j) :
    k0_pay2 (F := Ideal) x y acc j = acc j + k0_pay1 (F := Ideal) x y j := by
  pointwise [k0_pay2]

/-- THE RESULT ARRAY after the run is the reference's product. -/
theorem final (c : Dev nD) :
    (dats m 0 c).arrAt 2 (cfgs 0).N = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
      (fun t j => k0_pay1 (F := Ideal) (iblk m c 0 t) (iblk m c 1 t) j)
      (fun t h j => by rw [outsAt0_A m c t h (by omega)]; frame_out; exact (zero_add _).symm)
      (fun t h j => by rw [outsAt0_B m c t h (by omega)]; frame_out; rw [step_apply])
      t ((flush0_2 t).mp hf) _, zero_add, product_apply]
  simp only [part_apply]
  refine Fin.sum_mul_add_congr fun s k hl => ?_
  rw [mul_comm]
  blk_point [iblk, V, idx t, idx ⟨_, Pipeline.run_point_lt_of_flush t ((flush0_2 t).mp hf) s⟩]

end Cert.Kernel4Ideal.Dwd

end
-- ==== Proof.Claims4.lean ====
/- The claims about the feed-forward down weight gradient: the runs of the kernel, of its idealized form and of the reference, and the equality of their results. -/
module

public import proofs.«01_k».proof.Defs
public import proofs.«01_k».proof.Proof.Gen.Kernel4.Frame
public import proofs.«01_k».proof.Proof.Gen.Kernel4Ideal.Frame
public import proofs.«01_k».proof.Proof.Gen.Reference4Ideal.Run
public import proofs.«01_k».proof.Proof.Dwd
public import Idealize.ShloMosaic.Lib.Claim
public import Idealize.ShloMosaic.Lib.Quiescent

@[expose] public section

set_option maxRecDepth 16384

noncomputable section

namespace Cert.Claims4

open Idealize.ShloMosaic Idealize.SL.Sem

theorem kernel : Cert.quiescent_Kernel4 := fun m ρ _ => Cert.Kernel4.Gen.frame m ρ

theorem ideal : Cert.quiescent_Kernel4Ideal := fun m ρ _ => Cert.Kernel4Ideal.Gen.frame m ρ

theorem reference : Cert.quiescent_Reference4Ideal := fun m g _ =>
  θ_run_mono (Cert.Reference4Ideal.Value.run m g) fun r h => ⟨fun c => (h c).2, sem_eq_zero_of_no_sems rfl r.2⟩

set_option maxHeartbeats 1600000 in
theorem algebraic : Cert.algebraic_Kernel4Ideal_Reference4Ideal := by
  pair_intro
  · run_from Cert.Kernel4Ideal.Value.run_blocks m g
  · run_from Cert.Reference4Ideal.Value.run m' g'
    exact (Cert.Kernel4Ideal.Dwd.final m c).symm

end Cert.Claims4

end
-- ==== Proof.Dwg.lean ====
/- The gradient of the feed-forward gate weight (and, at the same shapes, of the up weight): what the tiled product leaves in its result array
   is what the derivative of the reference's line computes. The result is held as four groups of 1408 columns, and each block of it is summed
   over four grid points, each of which takes 2048 of the 8192 rows. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

namespace Cert.Kernel5Ideal.Dwg

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The derivative of the product of the rows with the weight held as one matrix. -/
abbrev product (H : FVec Ideal S8192x2048 .bf16) (D : FVec Ideal S8192x5632 .bf16) : FVec Ideal Cert.Reference5Ideal.S2048x5632 .f32 :=
  transpose Cert.Reference5Ideal.S2048x5632 [1, 0] (Host.dotGeneral Cert.Reference5Ideal.dot_S8192x5632_S8192x2048_S5632x2048_0_0_1_1_n_n none
    (extf .f32 D Cert.Reference5Ideal.Gen.bitsLt_bf16_f32) (extf .f32 H Cert.Reference5Ideal.Gen.bitsLt_bf16_f32))
    Cert.Reference5Ideal.Gen.transposes_S5632x2048_S2048x5632_1_0

theorem product_apply (H : FVec Ideal S8192x2048 .bf16) (D : FVec Ideal S8192x5632 .bf16) (j) :
    product H D j = ∑ l : Fin 8192, D (ix2 l (j 1)) * H (ix2 l (j 0)) := by
  pointwise [product]

/-- The reference's result over the two arrays: the four groups of columns put one over another. -/
abbrev grouped (H : FVec Ideal S8192x2048 .bf16) (D : FVec Ideal S8192x5632 .bf16) : FVec Ideal S4x2048x1408 .f32 :=
  addf (addf (addf (pad Cert.Reference5Ideal.S4x2048x1408 ![3, 0, 0] ![0, 0, 0] ![0, 0, 0] (broadcastInDim Cert.Reference5Ideal.S1x2048x1408 ![1, 2]
    Cert.Reference5Ideal.Gen.bcast_S2048x1408_S1x2048x1408_1_2 (extractStridedSlice Cert.Reference5Ideal.S2048x1408 ![0, 4224] (product H D)
    Cert.Reference5Ideal.Gen.slices_S2048x5632_S2048x1408_0_4224)) (constant Cert.Reference5Ideal.S_ .f32 0x00000000#32)
    Cert.Reference5Ideal.Gen.pads_S1x2048x1408_S4x2048x1408_300_000_000 Cert.Reference5Ideal.Gen.h_S_)
    (pad Cert.Reference5Ideal.S4x2048x1408 ![2, 0, 0] ![1, 0, 0] ![0, 0, 0] (broadcastInDim Cert.Reference5Ideal.S1x2048x1408 ![1, 2]
    Cert.Reference5Ideal.Gen.bcast_S2048x1408_S1x2048x1408_1_2 (extractStridedSlice Cert.Reference5Ideal.S2048x1408 ![0, 2816] (product H D)
    Cert.Reference5Ideal.Gen.slices_S2048x5632_S2048x1408_0_2816)) (constant Cert.Reference5Ideal.S_ .f32 0x00000000#32)
    Cert.Reference5Ideal.Gen.pads_S1x2048x1408_S4x2048x1408_210_000_000 Cert.Reference5Ideal.Gen.h_S_))
    (pad Cert.Reference5Ideal.S4x2048x1408 ![1, 0, 0] ![2, 0, 0] ![0, 0, 0] (broadcastInDim Cert.Reference5Ideal.S1x2048x1408 ![1, 2]
    Cert.Reference5Ideal.Gen.bcast_S2048x1408_S1x2048x1408_1_2 (extractStridedSlice Cert.Reference5Ideal.S2048x1408 ![0, 1408] (product H D)
    Cert.Reference5Ideal.Gen.slices_S2048x5632_S2048x1408_0_1408)) (constant Cert.Reference5Ideal.S_ .f32 0x00000000#32)
    Cert.Reference5Ideal.Gen.pads_S1x2048x1408_S4x2048x1408_120_000_000 Cert.Reference5Ideal.Gen.h_S_))
    (pad Cert.Reference5Ideal.S4x2048x1408 ![0, 0, 0] ![3, 0, 0] ![0, 0, 0] (broadcastInDim Cert.Reference5Ideal.S1x2048x1408 ![1, 2]
    Cert.Reference5Ideal.Gen.bcast_S2048x1408_S1x2048x1408_1_2 (extractStridedSlice Cert.Reference5Ideal.S2048x1408 ![0, 0] (product H D)
    Cert.Reference5Ideal.Gen.slices_S2048x5632_S2048x1408_0_0)) (constant Cert.Reference5Ideal.S_ .f32 0x00000000#32)
    Cert.Reference5Ideal.Gen.pads_S1x2048x1408_S4x2048x1408_030_000_000 Cert.Reference5Ideal.Gen.h_S_)

theorem grouped_apply (H : FVec Ideal S8192x2048 .bf16) (D : FVec Ideal S8192x5632 .bf16) (j : S4x2048x1408.Idx) :
    grouped H D j = ∑ l : Fin 8192, D (ix2 l ⟨(j 0).val * 1408 + (j 2).val, by
      have h0 : (j 0).val < 4 := (j 0).isLt
      have h2 : (j 2).val < 1408 := (j 2).isLt
      omega⟩) * H (ix2 l (j 1)) := by
  have h0 : (j 0).val < 4 := (j 0).isLt
  pointwise [grouped, product_apply]
  rcases (by omega : (j 0).val = 0 ∨ (j 0).val = 1 ∨ (j 0).val = 2 ∨ (j 0).val = 3) with e | e | e | e
  all_goals simp [e]

/-- What a point adds to the block: the product of its blocks over 2048 rows. -/
theorem part_apply (x : FVec Ideal S2048x1024 .bf16) (y : FVec Ideal S2048x1408 .bf16) (j) :
    k0_pay2 (F := Ideal) x y j = ∑ k : Fin 2048, x (ix2 k (j 1)) * y (ix2 k (j 2)) := by
  pointwise [k0_pay1, k0_pay2]

theorem step_apply (x : FVec Ideal S2048x1024 .bf16) (y : FVec Ideal S2048x1408 .bf16) (acc : FVec Ideal S1x1024x1408 .f32) (j) :
    k0_pay3 (F := Ideal) x y acc j = acc j + k0_pay2 (F := Ideal) x y j := by
  pointwise [k0_pay3, k0_pay2]

theorem idx : ∀ t : Fin cfg0.N, win0_0.index t = ![t.val % 4, t.val / 16] ∧ win0_1.index t = ![t.val % 4, t.val / 4 % 4]
    ∧ win0_2.index t = ![t.val / 4 % 4, t.val / 16, 0] :=
  (by decide +kernel : ∀ t : Fin grid0.N, _)

/-- THE RESULT ARRAY after the run is the reference's. -/
theorem final (c : Dev nD) :
    (dats m 0 c).arrAt 2 (cfgs 0).N = grouped (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
      (fun t j => k0_pay2 (F := Ideal) (iblk m c 0 t) (iblk m c 1 t) j)
      (fun t h j => by rw [outsAt0_A m c t h (by omega)]; frame_out; exact (zero_add _).symm)
      (fun t h j => by rw [outsAt0_B m c t h (by omega)]; frame_out; rw [step_apply])
      t ((flush0_2 t).mp hf) _, zero_add, grouped_apply]
  simp only [part_apply]
  refine Fin.sum_mul_add_congr fun s k hl => ?_
  rw [mul_comm]
  blk_point [iblk, V, idx t, idx ⟨_, Pipeline.run_point_lt_of_flush t ((flush0_2 t).mp hf) s⟩]

end Cert.Kernel5Ideal.Dwg

end
-- ==== Proof.Claims5.lean ====
/- The claims about the feed-forward gate weight gradient: the runs of the kernel, of its idealized form and of the reference, and the equality of their results. -/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.Dwg
public import Idealize.ShloMosaic.Lib.Claim
public import Idealize.ShloMosaic.Lib.Quiescent

@[expose] public section

set_option maxRecDepth 16384

noncomputable section

namespace Cert.Claims5

open Idealize.ShloMosaic Idealize.SL.Sem

theorem kernel : Cert.quiescent_Kernel5 := fun m ρ _ => Cert.Kernel5.Gen.frame m ρ

theorem ideal : Cert.quiescent_Kernel5Ideal := fun m ρ _ => Cert.Kernel5Ideal.Gen.frame m ρ

theorem reference : Cert.quiescent_Reference5Ideal := fun m g _ =>
  θ_run_mono (Cert.Reference5Ideal.Value.run m g) fun r h => ⟨fun c => (h c).2, sem_eq_zero_of_no_sems rfl r.2⟩

set_option maxHeartbeats 1600000 in
theorem algebraic : Cert.algebraic_Kernel5Ideal_Reference5Ideal := by
  pair_intro
  · run_from Cert.Kernel5Ideal.Value.run_blocks m g
  · run_from Cert.Reference5Ideal.Value.run m' g'
    exact (Cert.Kernel5Ideal.Dwg.final m c).symm

end Cert.Claims5

end
-- ==== Proof.Dh.lean ====
/- The gradient of the feed-forward input: what the tiled product leaves in its result array is the sum of the two products that the derivative
   of the reference's lines computes. Each block of the result is summed over four grid points, one for each group of 1408 columns of the two
   weights, and each grid point writes its block in two halves of 512 rows. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

namespace Cert.Kernel6Ideal.Dh

open Idealize.ShloMosaic Idealize.ShloMosaic.TcCoe Idealize.SL.Sem
open Idealize.ShloMosaic.Pipeline (Dat)
open Cert.Kernel6Ideal Cert.Kernel6Ideal.Gen

variable (m : (ℓ : Loc nD τ sig) → Buf (Elt Ideal) ℓ)

/-- A weight held as four groups of columns, laid out as one matrix. -/
def columns (W : FVec Ideal S4x2048x1408 .bf16) : FVec Ideal Cert.Reference6Ideal.S2048x5632 .f32 :=
  concatenate Cert.Reference6Ideal.S2048x5632 1 [⟨Cert.Reference6Ideal.S2048x1408, (extf .f32 (shapeCast _ (extractStridedSlice Cert.Reference6Ideal.S1x2048x1408 ![0, 0, 0] W Cert.Reference6Ideal.Gen.slices_S4x2048x1408_S1x2048x1408_0_0_0) Cert.Reference6Ideal.Gen.shapeCasts_S1x2048x1408_S2048x1408) Cert.Reference6Ideal.Gen.bitsLt_bf16_f32 : FVec Ideal Cert.Reference6Ideal.S2048x1408 .f32)⟩,
    ⟨Cert.Reference6Ideal.S2048x1408, (extf .f32 (shapeCast _ (extractStridedSlice Cert.Reference6Ideal.S1x2048x1408 ![1, 0, 0] W Cert.Reference6Ideal.Gen.slices_S4x2048x1408_S1x2048x1408_1_0_0) Cert.Reference6Ideal.Gen.shapeCasts_S1x2048x1408_S2048x1408) Cert.Reference6Ideal.Gen.bitsLt_bf16_f32 : FVec Ideal Cert.Reference6Ideal.S2048x1408 .f32)⟩,
    ⟨Cert.Reference6Ideal.S2048x1408, (extf .f32 (shapeCast _ (extractStridedSlice Cert.Reference6Ideal.S1x2048x1408 ![2, 0, 0] W Cert.Reference6Ideal.Gen.slices_S4x2048x1408_S1x2048x1408_2_0_0) Cert.Reference6Ideal.Gen.shapeCasts_S1x2048x1408_S2048x1408) Cert.Reference6Ideal.Gen.bitsLt_bf16_f32 : FVec Ideal Cert.Reference6Ideal.S2048x1408 .f32)⟩,
    ⟨Cert.Reference6Ideal.S2048x1408, (extf .f32 (shapeCast _ (extractStridedSlice Cert.Reference6Ideal.S1x2048x1408 ![3, 0, 0] W Cert.Reference6Ideal.Gen.slices_S4x2048x1408_S1x2048x1408_3_0_0) Cert.Reference6Ideal.Gen.shapeCasts_S1x2048x1408_S2048x1408) Cert.Reference6Ideal.Gen.bitsLt_bf16_f32 : FVec Ideal Cert.Reference6Ideal.S2048x1408 .f32)⟩]
    Cert.Reference6Ideal.Gen.concatenates_S2048x1408_S2048x1408_S2048x1408_S2048x1408_S2048x5632_d1

theorem columns_apply (W : FVec Ideal S4x2048x1408 .bf16) (a : Fin 2048) (l : Fin 5632) :
    columns W (ix2 a l) = W (ix3 ⟨l.val / 1408, by omega⟩ a ⟨l.val % 1408, by omega⟩) := by
  pointwise [columns]
  blk_point []

/-- The reference's result over the four arrays. -/
abbrev total (DA DB : FVec Ideal S8192x5632 .bf16) (WG WU : FVec Ideal S4x2048x1408 .bf16) : FVec Ideal S8192x2048 .f32 :=
  addf (Host.dotGeneral Cert.Reference6Ideal.dot_S8192x5632_S2048x5632_S8192x2048_1_1_0_0_n_n none (extf .f32 DB Cert.Reference6Ideal.Gen.bitsLt_bf16_f32) (columns WU))
    (Host.dotGeneral Cert.Reference6Ideal.dot_S8192x5632_S2048x5632_S8192x2048_1_1_0_0_n_n none (extf .f32 DA Cert.Reference6Ideal.Gen.bitsLt_bf16_f32) (columns WG))

theorem total_apply (DA DB : FVec Ideal S8192x5632 .bf16) (WG WU : FVec Ideal S4x2048x1408 .bf16) (j) :
    total DA DB WG WU j = (∑ l : Fin 5632, DB (ix2 (j 0) l) * columns WU (ix2 (j 1) l)) + ∑ l : Fin 5632, DA (ix2 (j 0) l) * columns WG (ix2 (j 1) l) := by
  pointwise [total]

/-- What a point adds to the block: the two products of its blocks over one group of columns. -/
def part (x y : FVec Ideal S1024x1408 .bf16) (w v : FVec Ideal S1x2048x1408 .bf16) : FVec Ideal S1024x2048 .f32 := fun j =>
  (∑ k : Fin 1408, x (ix2 (j 0) k) * w (ix3 0 (j 1) k)) + ∑ k : Fin 1408, y (ix2 (j 0) k) * v (ix3 0 (j 1) k)

theorem idx : ∀ t : Fin cfg0.N, win0_0.index t = ![t.val / 4, t.val % 4] ∧ win0_1.index t = ![t.val / 4, t.val % 4]
    ∧ win0_2.index t = ![t.val % 4, 0, 0] ∧ win0_3.index t = ![t.val % 4, 0, 0] ∧ win0_4.index t = ![t.val / 4, 0] :=
  (by decide +kernel : ∀ t : Fin grid0.N, _)

/-- At the first point of a run the block is what that point adds. -/
theorem first (c : Dev nD) (t : Fin cfg0.N) (e : t.val % 4 = 0) (j) :
    outsAt0 m c t.val t.isLt j = part (iblk m c 0 t) (iblk m c 1 t) (iblk m c 2 t) (iblk m c 3 t) j := by
  rw [outsAt0_A m c t e (by omega) e (by omega)]
  frame_out
  canon_tiles x h
  all_goals (open_payloads; pointwise [part])
  all_goals blk_point []

/-- At a later point of a run the block is what the point before left and what this point adds. -/
theorem later (c : Dev nD) (t : Fin cfg0.N) (e : ¬t.val % 4 = 0) (j) :
    outsAt0 m c t.val t.isLt j = outsAt0 m c (t.val - 1) (Nat.lt_of_le_of_lt (Nat.sub_le _ _) t.isLt) j
      + part (iblk m c 0 t) (iblk m c 1 t) (iblk m c 2 t) (iblk m c 3 t) j := by
  rw [outsAt0_B m c t e (by omega) e (by omega)]
  frame_out
  canon_tiles x h
  all_goals (open_payloads; pointwise [part])
  all_goals blk_point []

/-- THE RESULT ARRAY after the run is the reference's. -/
theorem final (c : Dev nD) :
    (dats m 0 c).arrAt 4 (cfgs 0).N = total (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4, Pipeline.eq_sum_fin_of_reset_step_apply_of_flush (fun n h => outsAt0 m c n h) 4 (fun _ => 0)
      (fun t j => part (iblk m c 0 t) (iblk m c 1 t) (iblk m c 2 t) (iblk m c 3 t) j)
      (fun t h j => (first m c t h j).trans (zero_add _).symm)
      (fun t h j => later m c t h j)
      t ((flush0_4 t).mp hf) _, zero_add, total_apply]
  simp only [part, columns_apply]
  refine (Finset.sum_add_distrib (M := EReal)).trans ?_
  refine (add_comm (G := EReal) _ _).trans ?_
  refine Ideal.add_congr ?_ ?_
  · refine Fin.sum_mul_add_congr fun s k hl => ?_
    blk_point [iblk, V, idx t, idx ⟨_, Pipeline.run_point_lt_of_flush t ((flush0_4 t).mp hf) s⟩]
  · refine Fin.sum_mul_add_congr fun s k hl => ?_
    blk_point [iblk, V, idx t, idx ⟨_, Pipeline.run_point_lt_of_flush t ((flush0_4 t).mp hf) s⟩]

end Cert.Kernel6Ideal.Dh

end
-- ==== Proof.Claims6.lean ====
/- The claims about the feed-forward input gradient: the runs of the kernel, of its idealized form and of the reference, and the equality of their results. -/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import proofs.«01_k».proof.Proof.Dh
public import Idealize.ShloMosaic.Lib.Claim
public import Idealize.ShloMosaic.Lib.Quiescent

@[expose] public section

set_option maxRecDepth 16384

noncomputable section

namespace Cert.Claims6

open Idealize.ShloMosaic Idealize.SL.Sem

theorem kernel : Cert.quiescent_Kernel6 := fun m ρ _ => Cert.Kernel6.Gen.frame m ρ

theorem ideal : Cert.quiescent_Kernel6Ideal := fun m ρ _ => Cert.Kernel6Ideal.Gen.frame m ρ

theorem reference : Cert.quiescent_Reference6Ideal := fun m g _ =>
  θ_run_mono (Cert.Reference6Ideal.Value.run m g) fun r h => ⟨fun c => (h c).2, sem_eq_zero_of_no_sems rfl r.2⟩

set_option maxHeartbeats 1600000 in
theorem algebraic : Cert.algebraic_Kernel6Ideal_Reference6Ideal := by
  pair_intro
  · run_from Cert.Kernel6Ideal.Value.run_blocks m g
  · run_from Cert.Reference6Ideal.Value.run m' g'
    exact (congrArg₂ (Cert.Kernel6Ideal.Dh.total _ _) (hagree c).2.2.1 (hagree c).2.2.2).trans (Cert.Kernel6Ideal.Dh.final m c).symm

end Cert.Claims6

end
-- ==== Proof.Rms.lean ====
/- The gradient through the root-mean-square norm, with the gradient of the residual added: what the kernel leaves in its two result arrays is what
   the derivative of the reference's lines computes. The rows' gradient is written block by block, 512 rows each; the gain's gradient is summed over
   the 16 blocks of rows. -/
module

public import proofs.«01_k».proof.Proof.Gen.Kernel7Ideal.Value
public import proofs.«01_k».proof.Proof.Gen.Reference7Ideal.Run
public import proofs.«01_k».proof.Proof.Reals
public import Idealize.ShloMosaic.Lib.Pipeline.ValueKit
public import Idealize.ShloMosaic.Lib.Pointwise

@[expose] public section

set_option maxRecDepth 16384

noncomputable section

namespace Cert.Kernel7Ideal.Rms

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The mean of a row's squares, with the norm's small constant added. -/
abbrev meanSq (X : FVec Ideal S8192x2048 .f32) : FVec Ideal Cert.Reference7Ideal.S1x8192x1 .f32 :=
  addf (Host.divf (broadcastInDim Cert.Reference7Ideal.S1x8192x1 ![0, 1] Cert.Reference7Ideal.Gen.bcast_S1x8192_S1x8192x1_0_1 (Host.reduceAdd
    (mulf (broadcastInDim Cert.Reference7Ideal.S1x8192x2048 ![1, 2] Cert.Reference7Ideal.Gen.bcast_S8192x2048_S1x8192x2048_1_2 X)
      (broadcastInDim Cert.Reference7Ideal.S1x8192x2048 ![1, 2] Cert.Reference7Ideal.Gen.bcast_S8192x2048_S1x8192x2048_1_2 X))
    (constant Cert.Reference7Ideal.S_ .f32 0x00000000#32) Cert.Reference7Ideal.Gen.reducesTo_S1x8192x2048_S1x8192_d2 Cert.Reference7Ideal.Gen.h_S_))
    (broadcastInDim Cert.Reference7Ideal.S1x8192x1 ![] Cert.Reference7Ideal.Gen.bcast_S_S1x8192x1 (constant Cert.Reference7Ideal.S_ .f32 0x45000000#32)))
    (broadcastInDim Cert.Reference7Ideal.S1x8192x1 ![] Cert.Reference7Ideal.Gen.bcast_S_S1x8192x1 (constant Cert.Reference7Ideal.S_ .f32 0x358637BD#32))

/-- The incoming gradient times the gain. -/
abbrev gained (G : FVec Ideal S1x2048 .f32) (D : FVec Ideal S8192x2048 .f32) : FVec Ideal Cert.Reference7Ideal.S1x8192x2048 .f32 :=
  mulf (broadcastInDim Cert.Reference7Ideal.S1x8192x2048 ![1, 2] Cert.Reference7Ideal.Gen.bcast_S8192x2048_S1x8192x2048_1_2 D)
    (broadcastInDim Cert.Reference7Ideal.S1x8192x2048 ![0, 1, 2] Cert.Reference7Ideal.Gen.bcast_S1x1x2048_S1x8192x2048_0_1_2
      (broadcastInDim Cert.Reference7Ideal.S1x1x2048 ![1, 2] Cert.Reference7Ideal.Gen.bcast_S1x2048_S1x1x2048_1_2 G))

/-- The gradient of the mean of a row's squares, held once for every entry of the row. -/
abbrev share (X : FVec Ideal S8192x2048 .f32) (G : FVec Ideal S1x2048 .f32) (D : FVec Ideal S8192x2048 .f32) :
    FVec Ideal Cert.Reference7Ideal.S1x8192x2048 .f32 :=
  broadcastInDim Cert.Reference7Ideal.S1x8192x2048 ![0, 1] Cert.Reference7Ideal.Gen.bcast_S1x8192_S1x8192x2048_0_1
    (broadcastInDim Cert.Reference7Ideal.S1x8192 ![1] Cert.Reference7Ideal.Gen.bcast_S8192_S1x8192_1 (Host.reduceAdd (Host.divf (mulf
      (shapeCast Cert.Reference7Ideal.S1x8192x1 (Host.reduceAdd (mulf
        (broadcastInDim Cert.Reference7Ideal.S1x8192x2048 ![1, 2] Cert.Reference7Ideal.Gen.bcast_S8192x2048_S1x8192x2048_1_2 X) (gained G D))
        (constant Cert.Reference7Ideal.S_ .f32 0x00000000#32) Cert.Reference7Ideal.Gen.reducesTo_S1x8192x2048_S1x8192_d2 Cert.Reference7Ideal.Gen.h_S_)
        Cert.Reference7Ideal.Gen.shapeCasts_S1x8192_S1x8192x1)
      (mulf (broadcastInDim Cert.Reference7Ideal.S1x8192x1 ![] Cert.Reference7Ideal.Gen.bcast_S_S1x8192x1
        (constant Cert.Reference7Ideal.S_ .f32 0xBF000000#32)) (Host.divf (Host.rsqrt (meanSq X)) (meanSq X))))
      (broadcastInDim Cert.Reference7Ideal.S1x8192x1 ![] Cert.Reference7Ideal.Gen.bcast_S_S1x8192x1 (constant Cert.Reference7Ideal.S_ .f32 0x45000000#32)))
      (constant Cert.Reference7Ideal.S_ .f32 0x00000000#32) Cert.Reference7Ideal.Gen.reducesTo_S1x8192x1_S8192_d0_2 Cert.Reference7Ideal.Gen.h_S_))

/-- The reference's gradient of the rows. -/
abbrev rows (X : FVec Ideal S8192x2048 .f32) (G : FVec Ideal S1x2048 .f32) (D E : FVec Ideal S8192x2048 .f32) : FVec Ideal S8192x2048 .f32 :=
  shapeCast S8192x2048 (addf (addf (addf
      (broadcastInDim Cert.Reference7Ideal.S1x8192x2048 ![1, 2] Cert.Reference7Ideal.Gen.bcast_S8192x2048_S1x8192x2048_1_2 E)
      (mulf (gained G D) (broadcastInDim Cert.Reference7Ideal.S1x8192x2048 ![0, 1, 2] Cert.Reference7Ideal.Gen.bcast_S1x8192x1_S1x8192x2048_0_1_2
        (Host.rsqrt (meanSq X)))))
      (mulf (broadcastInDim Cert.Reference7Ideal.S1x8192x2048 ![1, 2] Cert.Reference7Ideal.Gen.bcast_S8192x2048_S1x8192x2048_1_2 X) (share X G D)))
      (mulf (share X G D) (broadcastInDim Cert.Reference7Ideal.S1x8192x2048 ![1, 2] Cert.Reference7Ideal.Gen.bcast_S8192x2048_S1x8192x2048_1_2 X)))
    Cert.Reference7Ideal.Gen.shapeCasts_S1x8192x2048_S8192x2048

/-- The reference's gradient of the gain. -/
abbrev gain (X D : FVec Ideal S8192x2048 .f32) : FVec Ideal S1x2048 .f32 :=
  broadcastInDim S1x2048 ![1] Cert.Reference7Ideal.Gen.bcast_S2048_S1x2048_1 (Host.reduceAdd (shapeCast Cert.Reference7Ideal.S1x1x2048
    (Host.reduceAdd (mulf (mulf
      (broadcastInDim Cert.Reference7Ideal.S1x8192x2048 ![1, 2] Cert.Reference7Ideal.Gen.bcast_S8192x2048_S1x8192x2048_1_2 X)
      (broadcastInDim Cert.Reference7Ideal.S1x8192x2048 ![0, 1, 2] Cert.Reference7Ideal.Gen.bcast_S1x8192x1_S1x8192x2048_0_1_2 (Host.rsqrt (meanSq X))))
      (broadcastInDim Cert.Reference7Ideal.S1x8192x2048 ![1, 2] Cert.Reference7Ideal.Gen.bcast_S8192x2048_S1x8192x2048_1_2 D))
      (constant Cert.Reference7Ideal.S_ .f32 0x00000000#32) Cert.Reference7Ideal.Gen.reducesTo_S1x8192x2048_S1x2048_d1 Cert.Reference7Ideal.Gen.h_S_)
    Cert.Reference7Ideal.Gen.shapeCasts_S1x2048_S1x1x2048)
    (constant Cert.Reference7Ideal.S_ .f32 0x00000000#32) Cert.Reference7Ideal.Gen.reducesTo_S1x1x2048_S2048_d0_1 Cert.Reference7Ideal.Gen.h_S_)

/-- The reference's gradient of the rows, over the kernel's arguments. -/
abbrev REF (c : Dev nD) : FVec Ideal S8192x2048 .f32 :=
  rows (m ((c : Thread nD τ).loc main_arg0)) (m ((c : Thread nD τ).loc main_arg1)) (m ((c : Thread nD τ).loc main_arg2)) (m ((c : Thread nD τ).loc main_arg3))

/-- A sum over two axes of one entry each leaves the entry, the kept axis in the middle. -/
theorem sum_unit_02 (h : Cert.Reference7Ideal.S1x8192x1.ReducesTo [0, 2] Cert.Reference7Ideal.S8192) (v : Cert.Reference7Ideal.S1x8192x1.Idx → EReal)
    (init : EReal) (j : Cert.Reference7Ideal.S8192.Idx) : Ideal.hostReduceAdd h v init j = init + v (ix3 0 (j 0) 0) := by
  refine congrArg (init + ·) ((Finset.sum_filter_eq_sum_of_fiber _ (fun _ : Unit => (ix3 0 (j 0) 0 : Cert.Reference7Ideal.S1x8192x1.Idx))
    (fun _ _ _ => rfl) (fun i => ⟨?_, ?_⟩) v).trans (Fintype.sum_unique _))
  · rintro rfl
    refine ⟨(), funext fun a => Fin.ext ?_⟩
    match a with
    | ⟨0, _⟩ => exact (Nat.lt_one_iff.mp (i 0).isLt).symm
    | ⟨1, _⟩ => rfl
    | ⟨2, _⟩ => exact (Nat.lt_one_iff.mp (i 2).isLt).symm
  · rintro ⟨_, rfl⟩
    funext b
    match b with
    | ⟨0, _⟩ => rfl

/-- A sum over two axes of one entry each leaves the entry, the kept axis last. -/
theorem sum_unit_01 (h : Cert.Reference7Ideal.S1x1x2048.ReducesTo [0, 1] Cert.Reference7Ideal.S2048) (v : Cert.Reference7Ideal.S1x1x2048.Idx → EReal)
    (init : EReal) (j : Cert.Reference7Ideal.S2048.Idx) : Ideal.hostReduceAdd h v init j = init + v (ix3 0 0 (j 0)) := by
  refine congrArg (init + ·) ((Finset.sum_filter_eq_sum_of_fiber _ (fun _ : Unit => (ix3 0 0 (j 0) : Cert.Reference7Ideal.S1x1x2048.Idx))
    (fun _ _ _ => rfl) (fun i => ⟨?_, ?_⟩) v).trans (Fintype.sum_unique _))
  · rintro rfl
    refine ⟨(), funext fun a => Fin.ext ?_⟩
    match a with
    | ⟨0, _⟩ => exact (Nat.lt_one_iff.mp (i 0).isLt).symm
    | ⟨1, _⟩ => exact (Nat.lt_one_iff.mp (i 1).isLt).symm
    | ⟨2, _⟩ => rfl
  · rintro ⟨_, rfl⟩
    funext b
    match b with
    | ⟨0, _⟩ => rfl

/-- The mean of the squares of one row, with the norm's small constant added. -/
def den (x : Fin 2048 → EReal) : EReal :=
  Ideal.div (∑ k, x k * x k) (Ideal.ofBits .f32 0x45000000#32) + Ideal.ofBits .f32 0x358637BD#32

/-- One entry of the rows' gradient as the kernel computes it: `x` the row, `g` the gain, `d` the incoming gradient's row, `e` the residual's entry. -/
def kerEntry (x g d : Fin 2048 → EReal) (e : EReal) (k : Fin 2048) : EReal :=
  Ideal.rsqrt (den x) * (d k * g k)
    - x k * (Ideal.rsqrt (den x) * Ideal.rsqrt (den x) * Ideal.rsqrt (den x))
      * Ideal.div (∑ l, d l * g l * x l) (Ideal.ofBits .f32 0x45000000#32) + e

/-- The same entry as the reference computes it. -/
def refEntry (x g d : Fin 2048 → EReal) (e : EReal) (k : Fin 2048) : EReal :=
  e + d k * g k * Ideal.rsqrt (den x)
    + x k * Ideal.div ((∑ l, x l * (d l * g l)) * (Ideal.ofBits .f32 0xBF000000#32 * Ideal.div (Ideal.rsqrt (den x)) (den x)))
        (Ideal.ofBits .f32 0x45000000#32)
    + Ideal.div ((∑ l, x l * (d l * g l)) * (Ideal.ofBits .f32 0xBF000000#32 * Ideal.div (Ideal.rsqrt (den x)) (den x)))
        (Ideal.ofBits .f32 0x45000000#32) * x k

/-- A row of reals has a positive real for its mean of squares. -/
theorem den_real (x : Fin 2048 → ℝ) : ∃ r : ℝ, 0 < r ∧ den (fun k => (x k : EReal)) = (r : EReal) := by
  obtain ⟨e, he, ce⟩ := Reals.ceps
  refine ⟨(∑ k, x k * x k) / 2048 + e, ?_, ?_⟩
  · have : 0 ≤ ∑ k, x k * x k := Finset.sum_nonneg fun k _ => mul_self_nonneg (x k)
    positivity
  · simp only [den, Reals.c2048, ce, ← EReal.coe_mul, Reals.coe_sum, Reals.div_real _ (by norm_num : (2048 : ℝ) ≠ 0), ← EReal.coe_add]

/-- On reals the two entries are one. -/
theorem entry_eq (x g d : Fin 2048 → ℝ) (e : EReal) (k : Fin 2048) :
    kerEntry (fun k => (x k : EReal)) (fun k => (g k : EReal)) (fun k => (d k : EReal)) e k
      = refEntry (fun k => (x k : EReal)) (fun k => (g k : EReal)) (fun k => (d k : EReal)) e k := by
  obtain ⟨r, hr, hd⟩ := den_real x
  have hs : ∑ l, x l * (d l * g l) = ∑ l, d l * g l * x l := Finset.sum_congr rfl fun l _ => mul_comm _ _
  have hq : (Real.sqrt r)⁻¹ * (Real.sqrt r)⁻¹ = r⁻¹ := by rw [← mul_inv, Real.mul_self_sqrt hr.le]
  simp only [kerEntry, refEntry, hd, Reals.rsqrt_real hr, Reals.c2048, Reals.cneghalf, ← EReal.coe_mul, Reals.coe_sum,
    Reals.div_real _ (by norm_num : (2048 : ℝ) ≠ 0), Reals.div_real _ hr.ne', ← EReal.coe_sub, hs]
  rw [add_assoc, add_assoc, add_comm, ← EReal.coe_add, ← EReal.coe_add]
  congr 2
  rw [hq, div_eq_mul_inv (Real.sqrt r)⁻¹ r]
  ring

/-- The same, of rows whose entries are stated to be reals. -/
theorem entry_real {x g d : Fin 2048 → EReal} (hx : ∀ k, ∃ r : ℝ, x k = (r : EReal)) (hg : ∀ k, ∃ r : ℝ, g k = (r : EReal))
    (hd : ∀ k, ∃ r : ℝ, d k = (r : EReal)) (e : EReal) (k : Fin 2048) : kerEntry x g d e k = refEntry x g d e k := by
  obtain ⟨x', hx⟩ := Classical.axiom_of_choice hx
  obtain ⟨g', hg⟩ := Classical.axiom_of_choice hg
  obtain ⟨d', hd⟩ := Classical.axiom_of_choice hd
  rw [funext hx, funext hg, funext hd]
  exact entry_eq x' g' d' e k

/-- The entry's arguments may be replaced by equal ones. -/
theorem ker_congr {x x' g g' d d' : Fin 2048 → EReal} {e e' : EReal} {k k' : Fin 2048} (hx : ∀ l, x l = x' l) (hg : ∀ l, g l = g' l)
    (hd : ∀ l, d l = d' l) (he : e = e') (hk : k = k') : kerEntry x g d e k = kerEntry x' g' d' e' k' := by
  rw [funext hx, funext hg, funext hd, he, hk]

theorem rows_apply (X : FVec Ideal S8192x2048 .f32) (G : FVec Ideal S1x2048 .f32) (D E : FVec Ideal S8192x2048 .f32) (j) :
    rows X G D E j = refEntry (fun k => X (ix2 (j 0) k)) (fun k => G (ix2 0 k)) (fun k => D (ix2 (j 0) k)) (E j) (j 1) := by
  unfold refEntry den
  pointwise [rows, share, gained, meanSq, sum_unit_02]

theorem gain_apply (X D : FVec Ideal S8192x2048 .f32) (j) :
    gain X D j = ∑ l, D (ix2 l (j 1)) * X (ix2 l (j 1)) * Ideal.rsqrt (den fun k => X (ix2 l k)) := by
  unfold den
  pointwise [gain, meanSq, sum_unit_01]
  refine Finset.sum_congr rfl fun l _ => ?_
  rw [mul_comm, mul_assoc]

theorem rows_block_apply (X : Vec Ideal S512x2048 .f32) (G : Vec Ideal S1x2048 .f32) (D E : Vec Ideal S512x2048 .f32) (j) :
    k0_pay3 (F := Ideal) X D G E j = kerEntry (fun k => X (ix2 (j 0) k)) (fun k => G (ix2 0 k)) (fun k => D (ix2 (j 0) k)) (E j) (j 1) := by
  unfold kerEntry den
  pointwise [k0_pay3, k0_pay2]

theorem gain_block_apply (X D : Vec Ideal S512x2048 .f32) (j) :
    k0_pay4 (F := Ideal) X D j = (∑ l, D (ix2 l (j 1)) * X (ix2 l (j 1)) * Ideal.rsqrt (den fun k => X (ix2 l k)) : EReal) := by
  unfold den
  pointwise [k0_pay4, k0_pay2]

theorem step_apply (P A : Vec Ideal S1x2048 .f32) (j) : k0_pay1 (F := Ideal) P A j = (A j + P j : EReal) := by
  pointwise [k0_pay1]

/-- Each window's block at a point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The entries of the rows, of the gain and of the incoming gradient are reals. -/
def Real3 (c : Dev nD) : Prop :=
  (∀ j, ∃ r : ℝ, m ((c : Thread nD τ).loc main_arg0) j = (r : EReal)) ∧ (∀ j, ∃ r : ℝ, m ((c : Thread nD τ).loc main_arg1) j = (r : EReal))
    ∧ (∀ j, ∃ r : ℝ, m ((c : Thread nD τ).loc main_arg2) j = (r : EReal))

/-- One entry of a block of the rows' gradient. -/
theorem point (c : Dev nD) (hr : Real3 m c) (t : Fin cfg0.N) (y) :
    k0_pay3 (F := Ideal) (iblk m c 0 t) (iblk m c 2 t) (iblk m c 1 t) (iblk m c 3 t) y = REF m c ((win0_4.blk t).view.emb y) := by
  refine (rows_block_apply _ _ _ _ _).trans (Eq.trans ?_ ((entry_real (fun _ => hr.1 _) (fun _ => hr.2.1 _) (fun _ => hr.2.2 _) _ _).trans
    (rows_apply _ _ _ _ _).symm))
  refine ker_congr (fun l => ?_) (fun l => ?_) (fun l => ?_) ?_ ?_
  · blk_point [iblk, V, idx t]
  · blk_point [iblk, V, idx t]
  · blk_point [iblk, V, idx t]
  · blk_point [iblk, V, idx t]
  · refine Fin.ext ?_
    blk_simp
    simp [idx t]

/-- THE ROWS' GRADIENT after the run is the reference's. -/
theorem final_rows (c : Dev nD) (hr : Real3 m c) : (dats m 0 c).arrAt 4 (cfgs 0).N = REF m c := by
  refine (dats m 0 c).arrAt_eq_of_covers 4 _ (by decide +kernel) fun t _ y => ?_
  blk_simp
  rw [after0_4]
  by_cases e : t.val % 16 = 0
  · rw [outsAt0_A m c t e (by have := t.isLt; have : t.val < 16 := lt_of_lt_of_eq t.isLt N_0; omega)]
    frame_out
    exact point m c hr t y
  · rw [outsAt0_B m c t e (by omega)]
    frame_out
    exact point m c hr t y

/-- THE GAIN'S GRADIENT after the run is the reference's. -/
theorem final_gain (c : Dev nD) :
    (dats m 0 c).arrAt 5 (cfgs 0).N = gain (m ((c : Thread nD τ).loc main_arg0)) (m ((c : Thread nD τ).loc main_arg2)) := by
  refine (dats m 0 c).arrAt_eq_of_covers 5 _ (by decide +kernel) fun t hf y => ?_
  blk_simp
  rw [after0_5, Pipeline.eq_sum_fin_of_reset_step_apply_of_flush (fun n h => (outsAt0 m c n h).2) 16 (fun _ => 0)
      (fun t j => k0_pay4 (F := Ideal) (iblk m c 0 t) (iblk m c 2 t) j)
      (fun t h j => by rw [outsAt0_A m c t h (by have := t.isLt; have : t.val < 16 := lt_of_lt_of_eq t.isLt N_0; omega)]; frame_out; exact (zero_add _).symm)
      (fun t h j => by rw [outsAt0_B m c t h (by omega)]; frame_out; rw [step_apply])
      t ((flush0_5 t).mp hf) _, zero_add, gain_apply]
  simp only [gain_block_apply]
  refine Fin.sum_mul_add_congr fun s k hl => ?_
  have hx : ∀ l : Fin 2048, iblk m c 0 ⟨_, Pipeline.run_point_lt_of_flush t ((flush0_5 t).mp hf) s⟩ (ix2 k l)
      = m ((c : Thread nD τ).loc main_arg0) (ix2 ⟨s.val * 512 + k.val, hl⟩ l) := fun l => by
    blk_point [iblk, V, idx ⟨_, Pipeline.run_point_lt_of_flush t ((flush0_5 t).mp hf) s⟩]
  refine congrArg₂ (· * ·) (congrArg₂ (· * ·) ?_ ?_) (congrArg (fun f => Ideal.rsqrt (den f)) (funext hx))
  all_goals blk_point [iblk, V, idx t, idx ⟨_, Pipeline.run_point_lt_of_flush t ((flush0_5 t).mp hf) s⟩]

end Cert.Kernel7Ideal.Rms

end
-- ==== Proof.Claims7.lean ====
/- The claims about the norm gradient: the runs of the kernel, of its idealized form and of the reference, and the equality of their results. -/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Pre_finite7
public import proofs.«01_k».proof.Proof.Rms
public import Idealize.ShloMosaic.Lib.Claim
public import Idealize.ShloMosaic.Lib.Quiescent

@[expose] public section

set_option maxRecDepth 16384

noncomputable section

namespace Cert.Claims7

open Idealize.ShloMosaic Idealize.SL.Sem

theorem kernel : Cert.quiescent_Kernel7 := fun m ρ _ => Cert.Kernel7.Gen.frame m ρ

theorem ideal : Cert.quiescent_Kernel7Ideal := fun m ρ _ => Cert.Kernel7Ideal.Gen.frame m ρ

theorem reference : Cert.quiescent_Reference7Ideal := fun m g _ =>
  θ_run_mono (Cert.Reference7Ideal.Value.run m g) fun r h => ⟨fun c => (h c).2.2, sem_eq_zero_of_no_sems rfl r.2⟩

theorem ideal_pre : Cert.quiescent_Kernel7Ideal_pre_finite7 := fun m ρ _ => Cert.Kernel7Ideal.Gen.frame m ρ

theorem reference_pre : Cert.quiescent_Reference7Ideal_pre_finite7 := fun m g _ => reference m g trivial

set_option maxHeartbeats 1600000 in
theorem algebraic : Cert.algebraic_Kernel7Ideal_Reference7Ideal_pre_finite7 := by
  pair_intro
  · run_from Cert.Kernel7Ideal.Value.run_blocks m g
  · run_from Cert.Reference7Ideal.Value.run m' g'
    · have hr : Cert.Kernel7Ideal.Rms.Real3 m c := by
        obtain ⟨h0, h1, h2⟩ := hpre c
        exact ⟨fun j => Cert.Reals.real_of_abs_lt (congrFun h0 j), fun j => Cert.Reals.real_of_abs_lt (congrFun h1 j), fun j => Cert.Reals.real_of_abs_lt (congrFun h2 j)⟩
      refine Eq.trans ?_ (Cert.Kernel7Ideal.Rms.final_rows m c hr).symm
      change Cert.Kernel7Ideal.Rms.rows (m' (c.tc.loc Reference7Ideal.main_arg0)) (m' (c.tc.loc Reference7Ideal.main_arg1))
        (m' (c.tc.loc Reference7Ideal.main_arg2)) (m' (c.tc.loc Reference7Ideal.main_arg3)) = _
      rw [(hagree c).1, (hagree c).2.1, (hagree c).2.2.1, (hagree c).2.2.2]
    · exact (Cert.Kernel7Ideal.Rms.final_gain m c).symm

end Cert.Claims7

end
-- ==== Proof.Down.lean ====
/- The feed-forward down product with the residual: what the tiled product leaves in its result array is the reference's line, the residual plus
   half the product of the hidden rows with the down weight. Each grid point writes one block of the result once. -/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.Kernel8Ideal.Down

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ)

/-- The reference's result over the three arrays. -/
abbrev halfStep (H : FVec Ideal S8192x5632 .bf16) (W : FVec Ideal S4x1408x2048 .bf16) (X : FVec Ideal S8192x2048 .f32) : FVec Ideal S8192x2048 .f32 :=
  addf X (mulf (broadcastInDim Cert.Reference8Ideal.S8192x2048 ![] Cert.Reference8Ideal.Gen.bcast_S_S8192x2048 (constant Cert.Reference8Ideal.S_ .f32 0x3F000000#32))
    (Host.dotGeneral Cert.Reference8Ideal.dot_S8192x5632_S5632x2048_S8192x2048_1_0_0_1_n_n none (extf .f32 H Cert.Reference8Ideal.Gen.bitsLt_bf16_f32)
      (shapeCast _ (extf .f32 W Cert.Reference8Ideal.Gen.bitsLt_bf16_f32) Cert.Reference8Ideal.Gen.shapeCasts_S4x1408x2048_S5632x2048)))

theorem idx : ∀ t : Fin cfg0.N, win0_0.index t = ![t.val % 16, 0] ∧ win0_1.index t = ![0, t.val / 16]
    ∧ win0_2.index t = ![t.val % 16, t.val / 16] ∧ win0_3.index t = ![t.val % 16, t.val / 16] :=
  (by decide +kernel : ∀ t : Fin grid0.N, _)

/-- What a grid point stores, at an index: the reference's result there. -/
theorem point (c : Dev nD) (t : Fin cfg0.N) (y) :
    k0_pay1 (F := Ideal) (iblk m c 0 t) (iblk m c 1 t) (iblk m c 2 t) y
      = halfStep (m ((c : Thread nD τ).loc main_arg0)) (m ((c : Thread nD τ).loc main_arg1)) (m ((c : Thread nD τ).loc main_arg2))
          (((cfg0.win 3).blk t).view.emb y) := by
  pointwise [k0_pay1, halfStep]
  blk_point [iblk, V, idx t]

/-- THE RESULT ARRAY after the run is the reference's. -/
theorem final (c : Dev nD) :
    (dats m 0 c).arrAt 3 (cfgs 0).N = halfStep (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.Kernel8Ideal.Down

end
-- ==== Proof.Claims8.lean ====
/- The claims about the feed-forward down product: the runs of the kernel, of its idealized form and of the reference, and the equality of their results. -/
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import proofs.«01_k».proof.Proof.Down
public import Idealize.ShloMosaic.Lib.Claim
public import Idealize.ShloMosaic.Lib.Quiescent

@[expose] public section

set_option maxRecDepth 16384

noncomputable section

namespace Cert.Claims8

open Idealize.ShloMosaic Idealize.SL.Sem

theorem kernel : Cert.quiescent_Kernel8 := fun m ρ _ => Cert.Kernel8.Gen.frame m ρ

theorem ideal : Cert.quiescent_Kernel8Ideal := fun m ρ _ => Cert.Kernel8Ideal.Gen.frame m ρ

theorem reference : Cert.quiescent_Reference8Ideal := fun m g _ =>
  θ_run_mono (Cert.Reference8Ideal.Value.run m g) fun r h => ⟨fun c => (h c).2, sem_eq_zero_of_no_sems rfl r.2⟩

set_option maxHeartbeats 1600000 in
theorem algebraic : Cert.algebraic_Kernel8Ideal_Reference8Ideal := by
  pair_intro
  · run_from Cert.Kernel8Ideal.Value.run_blocks m g
  · run_from Cert.Reference8Ideal.Value.run m' g'
    exact (Cert.Kernel8Ideal.Down.final m c).symm

end Cert.Claims8

end
-- ==== Proof.Adam9.lean ====
/- The optimiser's step for the norms' gains: each grid point writes one stretch of rows of the four results, and entry by entry they are the
   reference's lines: the gradient as it came, the change of the weight, and the two moments. -/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.Kernel9Ideal.Adam

open Idealize.ShloMosaic Idealize.ShloMosaic.TcCoe Idealize.SL.Sem
open Idealize.ShloMosaic.Pipeline (Dat)
open Cert.Kernel9Ideal Cert.Kernel9Ideal.Gen

variable (m : (ℓ : Loc nD τ sig) → Buf (Elt Ideal) ℓ)

/-- The first moment after the step. -/
abbrev mean (G M : FVec Ideal S1x2048 .f32) : FVec Ideal S1x2048 .f32 :=
  addf (mulf (broadcastInDim Cert.Reference9Ideal.S1x2048 ![] Cert.Reference9Ideal.Gen.bcast_S_S1x2048 (constant Cert.Reference9Ideal.S_ .f32 0x3F666666#32)) M) (mulf (broadcastInDim Cert.Reference9Ideal.S1x2048 ![] Cert.Reference9Ideal.Gen.bcast_S_S1x2048 (constant Cert.Reference9Ideal.S_ .f32 0x3DCCCCCD#32)) G)

/-- The second moment after the step. -/
abbrev square (G V : FVec Ideal S1x2048 .f32) : FVec Ideal S1x2048 .f32 :=
  addf (mulf (broadcastInDim Cert.Reference9Ideal.S1x2048 ![] Cert.Reference9Ideal.Gen.bcast_S_S1x2048 (constant Cert.Reference9Ideal.S_ .f32 0x3F7FBE77#32)) V) (mulf (broadcastInDim Cert.Reference9Ideal.S1x2048 ![] Cert.Reference9Ideal.Gen.bcast_S_S1x2048 (constant Cert.Reference9Ideal.S_ .f32 0x3A83126F#32)) (mulf G G))

/-- The change of the weight. -/
abbrev change (W G M V : FVec Ideal S1x2048 .f32) : FVec Ideal S1x2048 .f32 :=
  mulf (broadcastInDim Cert.Reference9Ideal.S1x2048 ![] Cert.Reference9Ideal.Gen.bcast_S_S1x2048 (constant Cert.Reference9Ideal.S_ .f32 0xBA83126F#32)) (addf (Host.divf (Host.divf (mean G M) (broadcastInDim Cert.Reference9Ideal.S1x2048 ![] Cert.Reference9Ideal.Gen.bcast_S_S1x2048 (constant Cert.Reference9Ideal.S_ .f32 0x3F26BD02#32)))
    (addf (Host.sqrt (Host.divf (square G V) (broadcastInDim Cert.Reference9Ideal.S1x2048 ![] Cert.Reference9Ideal.Gen.bcast_S_S1x2048 (constant Cert.Reference9Ideal.S_ .f32 0x3C231ACC#32)))) (broadcastInDim Cert.Reference9Ideal.S1x2048 ![] Cert.Reference9Ideal.Gen.bcast_S_S1x2048 (constant Cert.Reference9Ideal.S_ .f32 0x322BCC77#32)))) (mulf (broadcastInDim Cert.Reference9Ideal.S1x2048 ![] Cert.Reference9Ideal.Gen.bcast_S_S1x2048 (constant Cert.Reference9Ideal.S_ .f32 0x3C23D70A#32)) W))

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The result array number 0 after the run: the gradient, as it came. -/
theorem same (c : Dev nD) : (dats m 0 c).arrAt 4 (cfgs 0).N = (m ((c : Thread nD τ).loc main_arg1)) := by
  refine (dats m 0 c).arrAt_eq_of_covers 4 _ (by decide +kernel) fun t _ y => ?_
  blk_simp
  rw [after0_4]
  frame_out
  pointwise [k0_pay1, k0_pay2, k0_pay3, mean, square, change]
  blk_point [iblk, V, idx t]

/-- The result array number 1 after the run: the change of the weight. -/
theorem delta (c : Dev nD) : (dats m 0 c).arrAt 5 (cfgs 0).N = change (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay2, k0_pay3, mean, square, change]
  blk_point [iblk, V, idx t]

/-- The result array number 2 after the run: the first moment. -/
theorem first (c : Dev nD) : (dats m 0 c).arrAt 6 (cfgs 0).N = mean (m ((c : Thread nD τ).loc main_arg1)) (m ((c : Thread nD τ).loc main_arg2)) := by
  refine (dats m 0 c).arrAt_eq_of_covers 6 _ (by decide +kernel) fun t _ y => ?_
  blk_simp
  rw [after0_6]
  frame_out
  pointwise [k0_pay1, k0_pay2, k0_pay3, mean, square, change]
  blk_point [iblk, V, idx t]

/-- The result array number 3 after the run: the second moment. -/
theorem second (c : Dev nD) : (dats m 0 c).arrAt 7 (cfgs 0).N = square (m ((c : Thread nD τ).loc main_arg1)) (m ((c : Thread nD τ).loc main_arg3)) := by
  refine (dats m 0 c).arrAt_eq_of_covers 7 _ (by decide +kernel) fun t _ y => ?_
  blk_simp
  rw [after0_7]
  frame_out
  pointwise [k0_pay1, k0_pay2, k0_pay3, mean, square, change]
  blk_point [iblk, V, idx t]

end Cert.Kernel9Ideal.Adam

end
-- ==== Proof.Claims9.lean ====
/- The claims about the optimiser step: the runs of the kernel, of its idealized form and of the reference, and the equality of their results. -/
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import proofs.«01_k».proof.Proof.Adam9
public import Idealize.ShloMosaic.Lib.Claim
public import Idealize.ShloMosaic.Lib.Quiescent

@[expose] public section

set_option maxRecDepth 16384

noncomputable section

namespace Cert.Claims9

open Idealize.ShloMosaic Idealize.SL.Sem

theorem kernel : Cert.quiescent_Kernel9 := fun m ρ _ => Cert.Kernel9.Gen.frame m ρ

theorem ideal : Cert.quiescent_Kernel9Ideal := fun m ρ _ => Cert.Kernel9Ideal.Gen.frame m ρ

theorem reference : Cert.quiescent_Reference9Ideal := fun m g _ =>
  θ_run_mono (Cert.Reference9Ideal.Value.run m g) fun r h => ⟨fun c => (h c).2.2.2.2, sem_eq_zero_of_no_sems rfl r.2⟩

set_option maxHeartbeats 1600000 in
theorem algebraic : Cert.algebraic_Kernel9Ideal_Reference9Ideal := by
  pair_intro
  · run_from Cert.Kernel9Ideal.Value.run_blocks m g
  · run_from Cert.Reference9Ideal.Value.run m' g'
    · exact (Cert.Kernel9Ideal.Adam.same m c).symm
    · exact (Cert.Kernel9Ideal.Adam.delta m c).symm
    · exact (Cert.Kernel9Ideal.Adam.first m c).symm
    · exact (Cert.Kernel9Ideal.Adam.second m c).symm

end Cert.Claims9

end
-- ==== Proof.Adam10.lean ====
/- The optimiser's step for the pooling scale and the head norm's gain: each grid point writes one stretch of rows of the four results, and entry by entry they are the
   reference's lines: the gradient as it came, the change of the weight, and the two moments. -/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.Kernel10Ideal.Adam

open Idealize.ShloMosaic Idealize.ShloMosaic.TcCoe Idealize.SL.Sem
open Idealize.ShloMosaic.Pipeline (Dat)
open Cert.Kernel10Ideal Cert.Kernel10Ideal.Gen

variable (m : (ℓ : Loc nD τ sig) → Buf (Elt Ideal) ℓ)

/-- The first moment after the step. -/
abbrev mean (G M : FVec Ideal S1x1024 .f32) : FVec Ideal S1x1024 .f32 :=
  addf (mulf (broadcastInDim Cert.Reference10Ideal.S1x1024 ![] Cert.Reference10Ideal.Gen.bcast_S_S1x1024 (constant Cert.Reference10Ideal.S_ .f32 0x3F666666#32)) M) (mulf (broadcastInDim Cert.Reference10Ideal.S1x1024 ![] Cert.Reference10Ideal.Gen.bcast_S_S1x1024 (constant Cert.Reference10Ideal.S_ .f32 0x3DCCCCCD#32)) G)

/-- The second moment after the step. -/
abbrev square (G V : FVec Ideal S1x1024 .f32) : FVec Ideal S1x1024 .f32 :=
  addf (mulf (broadcastInDim Cert.Reference10Ideal.S1x1024 ![] Cert.Reference10Ideal.Gen.bcast_S_S1x1024 (constant Cert.Reference10Ideal.S_ .f32 0x3F7FBE77#32)) V) (mulf (broadcastInDim Cert.Reference10Ideal.S1x1024 ![] Cert.Reference10Ideal.Gen.bcast_S_S1x1024 (constant Cert.Reference10Ideal.S_ .f32 0x3A83126F#32)) (mulf G G))

/-- The change of the weight. -/
abbrev change (W G M V : FVec Ideal S1x1024 .f32) : FVec Ideal S1x1024 .f32 :=
  mulf (broadcastInDim Cert.Reference10Ideal.S1x1024 ![] Cert.Reference10Ideal.Gen.bcast_S_S1x1024 (constant Cert.Reference10Ideal.S_ .f32 0xBA83126F#32)) (addf (Host.divf (Host.divf (mean G M) (broadcastInDim Cert.Reference10Ideal.S1x1024 ![] Cert.Reference10Ideal.Gen.bcast_S_S1x1024 (constant Cert.Reference10Ideal.S_ .f32 0x3F26BD02#32)))
    (addf (Host.sqrt (Host.divf (square G V) (broadcastInDim Cert.Reference10Ideal.S1x1024 ![] Cert.Reference10Ideal.Gen.bcast_S_S1x1024 (constant Cert.Reference10Ideal.S_ .f32 0x3C231ACC#32)))) (broadcastInDim Cert.Reference10Ideal.S1x1024 ![] Cert.Reference10Ideal.Gen.bcast_S_S1x1024 (constant Cert.Reference10Ideal.S_ .f32 0x322BCC77#32)))) (mulf (broadcastInDim Cert.Reference10Ideal.S1x1024 ![] Cert.Reference10Ideal.Gen.bcast_S_S1x1024 (constant Cert.Reference10Ideal.S_ .f32 0x3C23D70A#32)) W))

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The result array number 0 after the run: the gradient, as it came. -/
theorem same (c : Dev nD) : (dats m 0 c).arrAt 4 (cfgs 0).N = (m ((c : Thread nD τ).loc main_arg1)) := by
  refine (dats m 0 c).arrAt_eq_of_covers 4 _ (by decide +kernel) fun t _ y => ?_
  blk_simp
  rw [after0_4]
  frame_out
  pointwise [k0_pay1, k0_pay2, k0_pay3, mean, square, change]
  blk_point [iblk, V, idx t]

/-- The result array number 1 after the run: the change of the weight. -/
theorem delta (c : Dev nD) : (dats m 0 c).arrAt 5 (cfgs 0).N = change (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay2, k0_pay3, mean, square, change]
  blk_point [iblk, V, idx t]

/-- The result array number 2 after the run: the first moment. -/
theorem first (c : Dev nD) : (dats m 0 c).arrAt 6 (cfgs 0).N = mean (m ((c : Thread nD τ).loc main_arg1)) (m ((c : Thread nD τ).loc main_arg2)) := by
  refine (dats m 0 c).arrAt_eq_of_covers 6 _ (by decide +kernel) fun t _ y => ?_
  blk_simp
  rw [after0_6]
  frame_out
  pointwise [k0_pay1, k0_pay2, k0_pay3, mean, square, change]
  blk_point [iblk, V, idx t]

/-- The result array number 3 after the run: the second moment. -/
theorem second (c : Dev nD) : (dats m 0 c).arrAt 7 (cfgs 0).N = square (m ((c : Thread nD τ).loc main_arg1)) (m ((c : Thread nD τ).loc main_arg3)) := by
  refine (dats m 0 c).arrAt_eq_of_covers 7 _ (by decide +kernel) fun t _ y => ?_
  blk_simp
  rw [after0_7]
  frame_out
  pointwise [k0_pay1, k0_pay2, k0_pay3, mean, square, change]
  blk_point [iblk, V, idx t]

end Cert.Kernel10Ideal.Adam

end
-- ==== Proof.Claims10.lean ====
/- The claims about the optimiser step: the runs of the kernel, of its idealized form and of the reference, and the equality of their results. -/
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.Adam10
public import Idealize.ShloMosaic.Lib.Claim
public import Idealize.ShloMosaic.Lib.Quiescent

@[expose] public section

set_option maxRecDepth 16384

noncomputable section

namespace Cert.Claims10

open Idealize.ShloMosaic Idealize.SL.Sem

theorem kernel : Cert.quiescent_Kernel10 := fun m ρ _ => Cert.Kernel10.Gen.frame m ρ

theorem ideal : Cert.quiescent_Kernel10Ideal := fun m ρ _ => Cert.Kernel10Ideal.Gen.frame m ρ

theorem reference : Cert.quiescent_Reference10Ideal := fun m g _ =>
  θ_run_mono (Cert.Reference10Ideal.Value.run m g) fun r h => ⟨fun c => (h c).2.2.2.2, sem_eq_zero_of_no_sems rfl r.2⟩

set_option maxHeartbeats 1600000 in
theorem algebraic : Cert.algebraic_Kernel10Ideal_Reference10Ideal := by
  pair_intro
  · run_from Cert.Kernel10Ideal.Value.run_blocks m g
  · run_from Cert.Reference10Ideal.Value.run m' g'
    · exact (Cert.Kernel10Ideal.Adam.same m c).symm
    · exact (Cert.Kernel10Ideal.Adam.delta m c).symm
    · exact (Cert.Kernel10Ideal.Adam.first m c).symm
    · exact (Cert.Kernel10Ideal.Adam.second m c).symm

end Cert.Claims10

end
-- ==== Proof.Adam11.lean ====
/- The optimiser's step for the decay's bias: each grid point writes one stretch of rows of the four results, and entry by entry they are the
   reference's lines: the gradient as it came, the change of the weight, and the two moments. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

set_option maxRecDepth 16384

noncomputable section

namespace Cert.Kernel11Ideal.Adam

open Idealize.ShloMosaic Idealize.ShloMosaic.TcCoe Idealize.SL.Sem
open Idealize.ShloMosaic.Pipeline (Dat)
open Cert.Kernel11Ideal Cert.Kernel11Ideal.Gen

variable (m : (ℓ : Loc nD τ sig) → Buf (Elt Ideal) ℓ)

/-- The first moment after the step. -/
abbrev mean (G M : FVec Ideal S1x512 .f32) : FVec Ideal S1x512 .f32 :=
  addf (mulf (broadcastInDim Cert.Reference11Ideal.S1x512 ![] Cert.Reference11Ideal.Gen.bcast_S_S1x512 (constant Cert.Reference11Ideal.S_ .f32 0x3F666666#32)) M) (mulf (broadcastInDim Cert.Reference11Ideal.S1x512 ![] Cert.Reference11Ideal.Gen.bcast_S_S1x512 (constant Cert.Reference11Ideal.S_ .f32 0x3DCCCCCD#32)) G)

/-- The second moment after the step. -/
abbrev square (G V : FVec Ideal S1x512 .f32) : FVec Ideal S1x512 .f32 :=
  addf (mulf (broadcastInDim Cert.Reference11Ideal.S1x512 ![] Cert.Reference11Ideal.Gen.bcast_S_S1x512 (constant Cert.Reference11Ideal.S_ .f32 0x3F7FBE77#32)) V) (mulf (broadcastInDim Cert.Reference11Ideal.S1x512 ![] Cert.Reference11Ideal.Gen.bcast_S_S1x512 (constant Cert.Reference11Ideal.S_ .f32 0x3A83126F#32)) (mulf G G))

/-- The change of the weight. -/
abbrev change (W G M V : FVec Ideal S1x512 .f32) : FVec Ideal S1x512 .f32 :=
  mulf (broadcastInDim Cert.Reference11Ideal.S1x512 ![] Cert.Reference11Ideal.Gen.bcast_S_S1x512 (constant Cert.Reference11Ideal.S_ .f32 0xBA83126F#32)) (addf (Host.divf (Host.divf (mean G M) (broadcastInDim Cert.Reference11Ideal.S1x512 ![] Cert.Reference11Ideal.Gen.bcast_S_S1x512 (constant Cert.Reference11Ideal.S_ .f32 0x3F26BD02#32)))
    (addf (Host.sqrt (Host.divf (square G V) (broadcastInDim Cert.Reference11Ideal.S1x512 ![] Cert.Reference11Ideal.Gen.bcast_S_S1x512 (constant Cert.Reference11Ideal.S_ .f32 0x3C231ACC#32)))) (broadcastInDim Cert.Reference11Ideal.S1x512 ![] Cert.Reference11Ideal.Gen.bcast_S_S1x512 (constant Cert.Reference11Ideal.S_ .f32 0x322BCC77#32)))) (mulf (broadcastInDim Cert.Reference11Ideal.S1x512 ![] Cert.Reference11Ideal.Gen.bcast_S_S1x512 (constant Cert.Reference11Ideal.S_ .f32 0x3C23D70A#32)) W))

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The result array number 0 after the run: the gradient, as it came. -/
theorem same (c : Dev nD) : (dats m 0 c).arrAt 4 (cfgs 0).N = (m ((c : Thread nD τ).loc main_arg1)) := by
  refine (dats m 0 c).arrAt_eq_of_covers 4 _ (by decide +kernel) fun t _ y => ?_
  blk_simp
  rw [after0_4]
  frame_out
  pointwise [k0_pay1, k0_pay2, k0_pay3, mean, square, change]
  blk_point [iblk, V, idx t]

/-- The result array number 1 after the run: the change of the weight. -/
theorem delta (c : Dev nD) : (dats m 0 c).arrAt 5 (cfgs 0).N = change (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay2, k0_pay3, mean, square, change]
  blk_point [iblk, V, idx t]

/-- The result array number 2 after the run: the first moment. -/
theorem first (c : Dev nD) : (dats m 0 c).arrAt 6 (cfgs 0).N = mean (m ((c : Thread nD τ).loc main_arg1)) (m ((c : Thread nD τ).loc main_arg2)) := by
  refine (dats m 0 c).arrAt_eq_of_covers 6 _ (by decide +kernel) fun t _ y => ?_
  blk_simp
  rw [after0_6]
  frame_out
  pointwise [k0_pay1, k0_pay2, k0_pay3, mean, square, change]
  blk_point [iblk, V, idx t]

/-- The result array number 3 after the run: the second moment. -/
theorem second (c : Dev nD) : (dats m 0 c).arrAt 7 (cfgs 0).N = square (m ((c : Thread nD τ).loc main_arg1)) (m ((c : Thread nD τ).loc main_arg3)) := by
  refine (dats m 0 c).arrAt_eq_of_covers 7 _ (by decide +kernel) fun t _ y => ?_
  blk_simp
  rw [after0_7]
  frame_out
  pointwise [k0_pay1, k0_pay2, k0_pay3, mean, square, change]
  blk_point [iblk, V, idx t]

end Cert.Kernel11Ideal.Adam

end
-- ==== Proof.Claims11.lean ====
/- The claims about the optimiser step: the runs of the kernel, of its idealized form and of the reference, and the equality of their results. -/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Adam11
public import Idealize.ShloMosaic.Lib.Claim
public import Idealize.ShloMosaic.Lib.Quiescent

@[expose] public section

set_option maxRecDepth 16384

noncomputable section

namespace Cert.Claims11

open Idealize.ShloMosaic Idealize.SL.Sem

theorem kernel : Cert.quiescent_Kernel11 := fun m ρ _ => Cert.Kernel11.Gen.frame m ρ

theorem ideal : Cert.quiescent_Kernel11Ideal := fun m ρ _ => Cert.Kernel11Ideal.Gen.frame m ρ

theorem reference : Cert.quiescent_Reference11Ideal := fun m g _ =>
  θ_run_mono (Cert.Reference11Ideal.Value.run m g) fun r h => ⟨fun c => (h c).2.2.2.2, sem_eq_zero_of_no_sems rfl r.2⟩

set_option maxHeartbeats 1600000 in
theorem algebraic : Cert.algebraic_Kernel11Ideal_Reference11Ideal := by
  pair_intro
  · run_from Cert.Kernel11Ideal.Value.run_blocks m g
  · run_from Cert.Reference11Ideal.Value.run m' g'
    · exact (Cert.Kernel11Ideal.Adam.same m c).symm
    · exact (Cert.Kernel11Ideal.Adam.delta m c).symm
    · exact (Cert.Kernel11Ideal.Adam.first m c).symm
    · exact (Cert.Kernel11Ideal.Adam.second m c).symm

end Cert.Claims11

end
-- ==== Proof.Adam12.lean ====
/- The optimiser's step for a shard of the decay's map: each grid point writes one stretch of rows of the four results, and entry by entry they are the
   reference's lines: the gradient as it came, the change of the weight, and the two moments. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

set_option maxRecDepth 16384

noncomputable section

namespace Cert.Kernel12Ideal.Adam

open Idealize.ShloMosaic Idealize.ShloMosaic.TcCoe Idealize.SL.Sem
open Idealize.ShloMosaic.Pipeline (Dat)
open Cert.Kernel12Ideal Cert.Kernel12Ideal.Gen

variable (m : (ℓ : Loc nD τ sig) → Buf (Elt Ideal) ℓ)

/-- The first moment after the step. -/
abbrev mean (G M : FVec Ideal S16x128 .f32) : FVec Ideal S16x128 .f32 :=
  addf (mulf (broadcastInDim Cert.Reference12Ideal.S16x128 ![] Cert.Reference12Ideal.Gen.bcast_S_S16x128 (constant Cert.Reference12Ideal.S_ .f32 0x3F666666#32)) M) (mulf (broadcastInDim Cert.Reference12Ideal.S16x128 ![] Cert.Reference12Ideal.Gen.bcast_S_S16x128 (constant Cert.Reference12Ideal.S_ .f32 0x3DCCCCCD#32)) G)

/-- The second moment after the step. -/
abbrev square (G V : FVec Ideal S16x128 .f32) : FVec Ideal S16x128 .f32 :=
  addf (mulf (broadcastInDim Cert.Reference12Ideal.S16x128 ![] Cert.Reference12Ideal.Gen.bcast_S_S16x128 (constant Cert.Reference12Ideal.S_ .f32 0x3F7FBE77#32)) V) (mulf (broadcastInDim Cert.Reference12Ideal.S16x128 ![] Cert.Reference12Ideal.Gen.bcast_S_S16x128 (constant Cert.Reference12Ideal.S_ .f32 0x3A83126F#32)) (mulf G G))

/-- The change of the weight. -/
abbrev change (W G M V : FVec Ideal S16x128 .f32) : FVec Ideal S16x128 .f32 :=
  mulf (broadcastInDim Cert.Reference12Ideal.S16x128 ![] Cert.Reference12Ideal.Gen.bcast_S_S16x128 (constant Cert.Reference12Ideal.S_ .f32 0xBA83126F#32)) (addf (Host.divf (Host.divf (mean G M) (broadcastInDim Cert.Reference12Ideal.S16x128 ![] Cert.Reference12Ideal.Gen.bcast_S_S16x128 (constant Cert.Reference12Ideal.S_ .f32 0x3F26BD02#32)))
    (addf (Host.sqrt (Host.divf (square G V) (broadcastInDim Cert.Reference12Ideal.S16x128 ![] Cert.Reference12Ideal.Gen.bcast_S_S16x128 (constant Cert.Reference12Ideal.S_ .f32 0x3C231ACC#32)))) (broadcastInDim Cert.Reference12Ideal.S16x128 ![] Cert.Reference12Ideal.Gen.bcast_S_S16x128 (constant Cert.Reference12Ideal.S_ .f32 0x322BCC77#32)))) (mulf (broadcastInDim Cert.Reference12Ideal.S16x128 ![] Cert.Reference12Ideal.Gen.bcast_S_S16x128 (constant Cert.Reference12Ideal.S_ .f32 0x3C23D70A#32)) W))

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The result array number 0 after the run: the gradient, as it came. -/
theorem same (c : Dev nD) : (dats m 0 c).arrAt 4 (cfgs 0).N = (m ((c : Thread nD τ).loc main_arg1)) := by
  refine (dats m 0 c).arrAt_eq_of_covers 4 _ (by decide +kernel) fun t _ y => ?_
  blk_simp
  rw [after0_4]
  frame_out
  pointwise [k0_pay1, k0_pay2, k0_pay3, mean, square, change]
  blk_point [iblk, V, idx t]

/-- The result array number 1 after the run: the change of the weight. -/
theorem delta (c : Dev nD) : (dats m 0 c).arrAt 5 (cfgs 0).N = change (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay2, k0_pay3, mean, square, change]
  blk_point [iblk, V, idx t]

/-- The result array number 2 after the run: the first moment. -/
theorem first (c : Dev nD) : (dats m 0 c).arrAt 6 (cfgs 0).N = mean (m ((c : Thread nD τ).loc main_arg1)) (m ((c : Thread nD τ).loc main_arg2)) := by
  refine (dats m 0 c).arrAt_eq_of_covers 6 _ (by decide +kernel) fun t _ y => ?_
  blk_simp
  rw [after0_6]
  frame_out
  pointwise [k0_pay1, k0_pay2, k0_pay3, mean, square, change]
  blk_point [iblk, V, idx t]

/-- The result array number 3 after the run: the second moment. -/
theorem second (c : Dev nD) : (dats m 0 c).arrAt 7 (cfgs 0).N = square (m ((c : Thread nD τ).loc main_arg1)) (m ((c : Thread nD τ).loc main_arg3)) := by
  refine (dats m 0 c).arrAt_eq_of_covers 7 _ (by decide +kernel) fun t _ y => ?_
  blk_simp
  rw [after0_7]
  frame_out
  pointwise [k0_pay1, k0_pay2, k0_pay3, mean, square, change]
  blk_point [iblk, V, idx t]

end Cert.Kernel12Ideal.Adam

end
-- ==== Proof.Claims12.lean ====
/- The claims about the optimiser step: the runs of the kernel, of its idealized form and of the reference, and the equality of their results. -/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Adam12
public import Idealize.ShloMosaic.Lib.Claim
public import Idealize.ShloMosaic.Lib.Quiescent

@[expose] public section

set_option maxRecDepth 16384

noncomputable section

namespace Cert.Claims12

open Idealize.ShloMosaic Idealize.SL.Sem

theorem kernel : Cert.quiescent_Kernel12 := fun m ρ _ => Cert.Kernel12.Gen.frame m ρ

theorem ideal : Cert.quiescent_Kernel12Ideal := fun m ρ _ => Cert.Kernel12Ideal.Gen.frame m ρ

theorem reference : Cert.quiescent_Reference12Ideal := fun m g _ =>
  θ_run_mono (Cert.Reference12Ideal.Value.run m g) fun r h => ⟨fun c => (h c).2.2.2.2, sem_eq_zero_of_no_sems rfl r.2⟩

set_option maxHeartbeats 1600000 in
theorem algebraic : Cert.algebraic_Kernel12Ideal_Reference12Ideal := by
  pair_intro
  · run_from Cert.Kernel12Ideal.Value.run_blocks m g
  · run_from Cert.Reference12Ideal.Value.run m' g'
    · exact (Cert.Kernel12Ideal.Adam.same m c).symm
    · exact (Cert.Kernel12Ideal.Adam.delta m c).symm
    · exact (Cert.Kernel12Ideal.Adam.first m c).symm
    · exact (Cert.Kernel12Ideal.Adam.second m c).symm

end Cert.Claims12

end
-- ==== Proof.Adam13.lean ====
/- The optimiser's step for a shard of the per-group maps: each grid point writes one stretch of rows of the four results, and entry by entry they are the
   reference's lines: the gradient as it came, the change of the weight, and the two moments. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

set_option maxRecDepth 16384

noncomputable section

namespace Cert.Kernel13Ideal.Adam

open Idealize.ShloMosaic Idealize.ShloMosaic.TcCoe Idealize.SL.Sem
open Idealize.ShloMosaic.Pipeline (Dat)
open Cert.Kernel13Ideal Cert.Kernel13Ideal.Gen

variable (m : (ℓ : Loc nD τ sig) → Buf (Elt Ideal) ℓ)

/-- The first moment after the step. -/
abbrev mean (G M : FVec Ideal S256x256 .f32) : FVec Ideal S256x256 .f32 :=
  addf (mulf (broadcastInDim Cert.Reference13Ideal.S256x256 ![] Cert.Reference13Ideal.Gen.bcast_S_S256x256 (constant Cert.Reference13Ideal.S_ .f32 0x3F666666#32)) M) (mulf (broadcastInDim Cert.Reference13Ideal.S256x256 ![] Cert.Reference13Ideal.Gen.bcast_S_S256x256 (constant Cert.Reference13Ideal.S_ .f32 0x3DCCCCCD#32)) G)

/-- The second moment after the step. -/
abbrev square (G V : FVec Ideal S256x256 .f32) : FVec Ideal S256x256 .f32 :=
  addf (mulf (broadcastInDim Cert.Reference13Ideal.S256x256 ![] Cert.Reference13Ideal.Gen.bcast_S_S256x256 (constant Cert.Reference13Ideal.S_ .f32 0x3F7FBE77#32)) V) (mulf (broadcastInDim Cert.Reference13Ideal.S256x256 ![] Cert.Reference13Ideal.Gen.bcast_S_S256x256 (constant Cert.Reference13Ideal.S_ .f32 0x3A83126F#32)) (mulf G G))

/-- The change of the weight. -/
abbrev change (W G M V : FVec Ideal S256x256 .f32) : FVec Ideal S256x256 .f32 :=
  mulf (broadcastInDim Cert.Reference13Ideal.S256x256 ![] Cert.Reference13Ideal.Gen.bcast_S_S256x256 (constant Cert.Reference13Ideal.S_ .f32 0xBA83126F#32)) (addf (Host.divf (Host.divf (mean G M) (broadcastInDim Cert.Reference13Ideal.S256x256 ![] Cert.Reference13Ideal.Gen.bcast_S_S256x256 (constant Cert.Reference13Ideal.S_ .f32 0x3F26BD02#32)))
    (addf (Host.sqrt (Host.divf (square G V) (broadcastInDim Cert.Reference13Ideal.S256x256 ![] Cert.Reference13Ideal.Gen.bcast_S_S256x256 (constant Cert.Reference13Ideal.S_ .f32 0x3C231ACC#32)))) (broadcastInDim Cert.Reference13Ideal.S256x256 ![] Cert.Reference13Ideal.Gen.bcast_S_S256x256 (constant Cert.Reference13Ideal.S_ .f32 0x322BCC77#32)))) (mulf (broadcastInDim Cert.Reference13Ideal.S256x256 ![] Cert.Reference13Ideal.Gen.bcast_S_S256x256 (constant Cert.Reference13Ideal.S_ .f32 0x3C23D70A#32)) W))

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The result array number 0 after the run: the gradient, as it came. -/
theorem same (c : Dev nD) : (dats m 0 c).arrAt 4 (cfgs 0).N = (m ((c : Thread nD τ).loc main_arg1)) := by
  refine (dats m 0 c).arrAt_eq_of_covers 4 _ (by decide +kernel) fun t _ y => ?_
  blk_simp
  rw [after0_4]
  frame_out
  pointwise [k0_pay1, k0_pay2, k0_pay3, mean, square, change]
  blk_point [iblk, V, idx t]

/-- The result array number 1 after the run: the change of the weight. -/
theorem delta (c : Dev nD) : (dats m 0 c).arrAt 5 (cfgs 0).N = change (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay2, k0_pay3, mean, square, change]
  blk_point [iblk, V, idx t]

/-- The result array number 2 after the run: the first moment. -/
theorem first (c : Dev nD) : (dats m 0 c).arrAt 6 (cfgs 0).N = mean (m ((c : Thread nD τ).loc main_arg1)) (m ((c : Thread nD τ).loc main_arg2)) := by
  refine (dats m 0 c).arrAt_eq_of_covers 6 _ (by decide +kernel) fun t _ y => ?_
  blk_simp
  rw [after0_6]
  frame_out
  pointwise [k0_pay1, k0_pay2, k0_pay3, mean, square, change]
  blk_point [iblk, V, idx t]

/-- The result array number 3 after the run: the second moment. -/
theorem second (c : Dev nD) : (dats m 0 c).arrAt 7 (cfgs 0).N = square (m ((c : Thread nD τ).loc main_arg1)) (m ((c : Thread nD τ).loc main_arg3)) := by
  refine (dats m 0 c).arrAt_eq_of_covers 7 _ (by decide +kernel) fun t _ y => ?_
  blk_simp
  rw [after0_7]
  frame_out
  pointwise [k0_pay1, k0_pay2, k0_pay3, mean, square, change]
  blk_point [iblk, V, idx t]

end Cert.Kernel13Ideal.Adam

end
-- ==== Proof.Claims13.lean ====
/- The claims about the optimiser step: the runs of the kernel, of its idealized form and of the reference, and the equality of their results. -/
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.Adam13
public import Idealize.ShloMosaic.Lib.Claim
public import Idealize.ShloMosaic.Lib.Quiescent

@[expose] public section

set_option maxRecDepth 16384

noncomputable section

namespace Cert.Claims13

open Idealize.ShloMosaic Idealize.SL.Sem

theorem kernel : Cert.quiescent_Kernel13 := fun m ρ _ => Cert.Kernel13.Gen.frame m ρ

theorem ideal : Cert.quiescent_Kernel13Ideal := fun m ρ _ => Cert.Kernel13Ideal.Gen.frame m ρ

theorem reference : Cert.quiescent_Reference13Ideal := fun m g _ =>
  θ_run_mono (Cert.Reference13Ideal.Value.run m g) fun r h => ⟨fun c => (h c).2.2.2.2, sem_eq_zero_of_no_sems rfl r.2⟩

set_option maxHeartbeats 1600000 in
theorem algebraic : Cert.algebraic_Kernel13Ideal_Reference13Ideal := by
  pair_intro
  · run_from Cert.Kernel13Ideal.Value.run_blocks m g
  · run_from Cert.Reference13Ideal.Value.run m' g'
    · exact (Cert.Kernel13Ideal.Adam.same m c).symm
    · exact (Cert.Kernel13Ideal.Adam.delta m c).symm
    · exact (Cert.Kernel13Ideal.Adam.first m c).symm
    · exact (Cert.Kernel13Ideal.Adam.second m c).symm

end Cert.Claims13

end
-- ==== Proof.Adam14.lean ====
/- The optimiser's step for a shard of the feed-forward down weight: each grid point writes one stretch of rows of the four results, and entry by entry they are the
   reference's lines: the gradient as it came, the change of the weight, and the two moments. -/
module

public import proofs.«01_k».proof.Proof.Gen.Kernel14Ideal.Value
public import proofs.«01_k».proof.Proof.Gen.Reference14Ideal.Run
public import Idealize.ShloMosaic.Lib.Pipeline.ValueKit
public import Idealize.ShloMosaic.Lib.Pointwise

@[expose] public section

set_option maxRecDepth 16384

noncomputable section

namespace Cert.Kernel14Ideal.Adam

open Idealize.ShloMosaic Idealize.ShloMosaic.TcCoe Idealize.SL.Sem
open Idealize.ShloMosaic.Pipeline (Dat)
open Cert.Kernel14Ideal Cert.Kernel14Ideal.Gen

variable (m : (ℓ : Loc nD τ sig) → Buf (Elt Ideal) ℓ)

/-- The first moment after the step. -/
abbrev mean (G M : FVec Ideal S1408x2048 .f32) : FVec Ideal S1408x2048 .f32 :=
  addf (mulf (broadcastInDim Cert.Reference14Ideal.S1408x2048 ![] Cert.Reference14Ideal.Gen.bcast_S_S1408x2048 (constant Cert.Reference14Ideal.S_ .f32 0x3F666666#32)) M) (mulf (broadcastInDim Cert.Reference14Ideal.S1408x2048 ![] Cert.Reference14Ideal.Gen.bcast_S_S1408x2048 (constant Cert.Reference14Ideal.S_ .f32 0x3DCCCCCD#32)) G)

/-- The second moment after the step. -/
abbrev square (G V : FVec Ideal S1408x2048 .f32) : FVec Ideal S1408x2048 .f32 :=
  addf (mulf (broadcastInDim Cert.Reference14Ideal.S1408x2048 ![] Cert.Reference14Ideal.Gen.bcast_S_S1408x2048 (constant Cert.Reference14Ideal.S_ .f32 0x3F7FBE77#32)) V) (mulf (broadcastInDim Cert.Reference14Ideal.S1408x2048 ![] Cert.Reference14Ideal.Gen.bcast_S_S1408x2048 (constant Cert.Reference14Ideal.S_ .f32 0x3A83126F#32)) (mulf G G))

/-- The change of the weight. -/
abbrev change (W G M V : FVec Ideal S1408x2048 .f32) : FVec Ideal S1408x2048 .f32 :=
  mulf (broadcastInDim Cert.Reference14Ideal.S1408x2048 ![] Cert.Reference14Ideal.Gen.bcast_S_S1408x2048 (constant Cert.Reference14Ideal.S_ .f32 0xBA83126F#32)) (addf (Host.divf (Host.divf (mean G M) (broadcastInDim Cert.Reference14Ideal.S1408x2048 ![] Cert.Reference14Ideal.Gen.bcast_S_S1408x2048 (constant Cert.Reference14Ideal.S_ .f32 0x3F26BD02#32)))
    (addf (Host.sqrt (Host.divf (square G V) (broadcastInDim Cert.Reference14Ideal.S1408x2048 ![] Cert.Reference14Ideal.Gen.bcast_S_S1408x2048 (constant Cert.Reference14Ideal.S_ .f32 0x3C231ACC#32)))) (broadcastInDim Cert.Reference14Ideal.S1408x2048 ![] Cert.Reference14Ideal.Gen.bcast_S_S1408x2048 (constant Cert.Reference14Ideal.S_ .f32 0x322BCC77#32)))) (mulf (broadcastInDim Cert.Reference14Ideal.S1408x2048 ![] Cert.Reference14Ideal.Gen.bcast_S_S1408x2048 (constant Cert.Reference14Ideal.S_ .f32 0x3C23D70A#32)) W))

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The result array number 0 after the run: the gradient, as it came. -/
theorem same (c : Dev nD) : (dats m 0 c).arrAt 4 (cfgs 0).N = (m ((c : Thread nD τ).loc main_arg1)) := by
  refine (dats m 0 c).arrAt_eq_of_covers 4 _ (by decide +kernel) fun t _ y => ?_
  blk_simp
  rw [after0_4]
  frame_out
  pointwise [k0_pay1, k0_pay2, k0_pay3, mean, square, change]
  blk_point [iblk, V, idx t]

/-- The result array number 1 after the run: the change of the weight. -/
theorem delta (c : Dev nD) : (dats m 0 c).arrAt 5 (cfgs 0).N = change (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay2, k0_pay3, mean, square, change]
  blk_point [iblk, V, idx t]

/-- The result array number 2 after the run: the first moment. -/
theorem first (c : Dev nD) : (dats m 0 c).arrAt 6 (cfgs 0).N = mean (m ((c : Thread nD τ).loc main_arg1)) (m ((c : Thread nD τ).loc main_arg2)) := by
  refine (dats m 0 c).arrAt_eq_of_covers 6 _ (by decide +kernel) fun t _ y => ?_
  blk_simp
  rw [after0_6]
  frame_out
  pointwise [k0_pay1, k0_pay2, k0_pay3, mean, square, change]
  blk_point [iblk, V, idx t]

/-- The result array number 3 after the run: the second moment. -/
theorem second (c : Dev nD) : (dats m 0 c).arrAt 7 (cfgs 0).N = square (m ((c : Thread nD τ).loc main_arg1)) (m ((c : Thread nD τ).loc main_arg3)) := by
  refine (dats m 0 c).arrAt_eq_of_covers 7 _ (by decide +kernel) fun t _ y => ?_
  blk_simp
  rw [after0_7]
  frame_out
  pointwise [k0_pay1, k0_pay2, k0_pay3, mean, square, change]
  blk_point [iblk, V, idx t]

end Cert.Kernel14Ideal.Adam

end
-- ==== Proof.Claims14.lean ====
/- The claims about the optimiser step: the runs of the kernel, of its idealized form and of the reference, and the equality of their results. -/
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.Adam14
public import Idealize.ShloMosaic.Lib.Claim
public import Idealize.ShloMosaic.Lib.Quiescent

@[expose] public section

set_option maxRecDepth 16384

noncomputable section

namespace Cert.Claims14

open Idealize.ShloMosaic Idealize.SL.Sem

theorem kernel : Cert.quiescent_Kernel14 := fun m ρ _ => Cert.Kernel14.Gen.frame m ρ

theorem ideal : Cert.quiescent_Kernel14Ideal := fun m ρ _ => Cert.Kernel14Ideal.Gen.frame m ρ

theorem reference : Cert.quiescent_Reference14Ideal := fun m g _ =>
  θ_run_mono (Cert.Reference14Ideal.Value.run m g) fun r h => ⟨fun c => (h c).2.2.2.2, sem_eq_zero_of_no_sems rfl r.2⟩

set_option maxHeartbeats 1600000 in
theorem algebraic : Cert.algebraic_Kernel14Ideal_Reference14Ideal := by
  pair_intro
  · run_from Cert.Kernel14Ideal.Value.run_blocks m g
  · run_from Cert.Reference14Ideal.Value.run m' g'
    · exact (Cert.Kernel14Ideal.Adam.same m c).symm
    · exact (Cert.Kernel14Ideal.Adam.delta m c).symm
    · exact (Cert.Kernel14Ideal.Adam.first m c).symm
    · exact (Cert.Kernel14Ideal.Adam.second m c).symm

end Cert.Claims14

end
-- ==== Proof.Adam15.lean ====
/- The optimiser's step for a shard of the feed-forward up weight: each grid point writes one stretch of rows of the four results, and entry by entry they are the
   reference's lines: the gradient as it came, the change of the weight, and the two moments. -/
module

public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

set_option maxRecDepth 16384

noncomputable section

namespace Cert.Kernel15Ideal.Adam

open Idealize.ShloMosaic Idealize.ShloMosaic.TcCoe Idealize.SL.Sem
open Idealize.ShloMosaic.Pipeline (Dat)
open Cert.Kernel15Ideal Cert.Kernel15Ideal.Gen

variable (m : (ℓ : Loc nD τ sig) → Buf (Elt Ideal) ℓ)

/-- The first moment after the step. -/
abbrev mean (G M : FVec Ideal S2048x1408 .f32) : FVec Ideal S2048x1408 .f32 :=
  addf (mulf (broadcastInDim Cert.Reference15Ideal.S2048x1408 ![] Cert.Reference15Ideal.Gen.bcast_S_S2048x1408 (constant Cert.Reference15Ideal.S_ .f32 0x3F666666#32)) M) (mulf (broadcastInDim Cert.Reference15Ideal.S2048x1408 ![] Cert.Reference15Ideal.Gen.bcast_S_S2048x1408 (constant Cert.Reference15Ideal.S_ .f32 0x3DCCCCCD#32)) G)

/-- The second moment after the step. -/
abbrev square (G V : FVec Ideal S2048x1408 .f32) : FVec Ideal S2048x1408 .f32 :=
  addf (mulf (broadcastInDim Cert.Reference15Ideal.S2048x1408 ![] Cert.Reference15Ideal.Gen.bcast_S_S2048x1408 (constant Cert.Reference15Ideal.S_ .f32 0x3F7FBE77#32)) V) (mulf (broadcastInDim Cert.Reference15Ideal.S2048x1408 ![] Cert.Reference15Ideal.Gen.bcast_S_S2048x1408 (constant Cert.Reference15Ideal.S_ .f32 0x3A83126F#32)) (mulf G G))

/-- The change of the weight. -/
abbrev change (W G M V : FVec Ideal S2048x1408 .f32) : FVec Ideal S2048x1408 .f32 :=
  mulf (broadcastInDim Cert.Reference15Ideal.S2048x1408 ![] Cert.Reference15Ideal.Gen.bcast_S_S2048x1408 (constant Cert.Reference15Ideal.S_ .f32 0xBA83126F#32)) (addf (Host.divf (Host.divf (mean G M) (broadcastInDim Cert.Reference15Ideal.S2048x1408 ![] Cert.Reference15Ideal.Gen.bcast_S_S2048x1408 (constant Cert.Reference15Ideal.S_ .f32 0x3F26BD02#32)))
    (addf (Host.sqrt (Host.divf (square G V) (broadcastInDim Cert.Reference15Ideal.S2048x1408 ![] Cert.Reference15Ideal.Gen.bcast_S_S2048x1408 (constant Cert.Reference15Ideal.S_ .f32 0x3C231ACC#32)))) (broadcastInDim Cert.Reference15Ideal.S2048x1408 ![] Cert.Reference15Ideal.Gen.bcast_S_S2048x1408 (constant Cert.Reference15Ideal.S_ .f32 0x322BCC77#32)))) (mulf (broadcastInDim Cert.Reference15Ideal.S2048x1408 ![] Cert.Reference15Ideal.Gen.bcast_S_S2048x1408 (constant Cert.Reference15Ideal.S_ .f32 0x3C23D70A#32)) W))

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The result array number 0 after the run: the gradient, as it came. -/
theorem same (c : Dev nD) : (dats m 0 c).arrAt 4 (cfgs 0).N = (m ((c : Thread nD τ).loc main_arg1)) := by
  refine (dats m 0 c).arrAt_eq_of_covers 4 _ (by decide +kernel) fun t _ y => ?_
  blk_simp
  rw [after0_4]
  frame_out
  pointwise [k0_pay1, k0_pay2, k0_pay3, mean, square, change]
  blk_point [iblk, V, idx t]

/-- The result array number 1 after the run: the change of the weight. -/
theorem delta (c : Dev nD) : (dats m 0 c).arrAt 5 (cfgs 0).N = change (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay1, k0_pay2, k0_pay3, mean, square, change]
  blk_point [iblk, V, idx t]

/-- The result array number 2 after the run: the first moment. -/
theorem first (c : Dev nD) : (dats m 0 c).arrAt 6 (cfgs 0).N = mean (m ((c : Thread nD τ).loc main_arg1)) (m ((c : Thread nD τ).loc main_arg2)) := by
  refine (dats m 0 c).arrAt_eq_of_covers 6 _ (by decide +kernel) fun t _ y => ?_
  blk_simp
  rw [after0_6]
  frame_out
  pointwise [k0_pay1, k0_pay2, k0_pay3, mean, square, change]
  blk_point [iblk, V, idx t]

/-- The result array number 3 after the run: the second moment. -/
theorem second (c : Dev nD) : (dats m 0 c).arrAt 7 (cfgs 0).N = square (m ((c : Thread nD τ).loc main_arg1)) (m ((c : Thread nD τ).loc main_arg3)) := by
  refine (dats m 0 c).arrAt_eq_of_covers 7 _ (by decide +kernel) fun t _ y => ?_
  blk_simp
  rw [after0_7]
  frame_out
  pointwise [k0_pay1, k0_pay2, k0_pay3, mean, square, change]
  blk_point [iblk, V, idx t]

end Cert.Kernel15Ideal.Adam

end
-- ==== Proof.Claims15.lean ====
/- The claims about the optimiser step: the runs of the kernel, of its idealized form and of the reference, and the equality of their results. -/
module

public import proofs.«01_k».proof.Defs
public import proofs.«01_k».proof.Proof.Gen.Kernel15.Frame
public import proofs.«01_k».proof.Proof.Gen.Kernel15Ideal.Frame
public import proofs.«01_k».proof.Proof.Gen.Reference15Ideal.Run
public import proofs.«01_k».proof.Proof.Adam15
public import Idealize.ShloMosaic.Lib.Claim
public import Idealize.ShloMosaic.Lib.Quiescent

@[expose] public section

set_option maxRecDepth 16384

noncomputable section

namespace Cert.Claims15

open Idealize.ShloMosaic Idealize.SL.Sem

theorem kernel : Cert.quiescent_Kernel15 := fun m ρ _ => Cert.Kernel15.Gen.frame m ρ

theorem ideal : Cert.quiescent_Kernel15Ideal := fun m ρ _ => Cert.Kernel15Ideal.Gen.frame m ρ

theorem reference : Cert.quiescent_Reference15Ideal := fun m g _ =>
  θ_run_mono (Cert.Reference15Ideal.Value.run m g) fun r h => ⟨fun c => (h c).2.2.2.2, sem_eq_zero_of_no_sems rfl r.2⟩

set_option maxHeartbeats 1600000 in
theorem algebraic : Cert.algebraic_Kernel15Ideal_Reference15Ideal := by
  pair_intro
  · run_from Cert.Kernel15Ideal.Value.run_blocks m g
  · run_from Cert.Reference15Ideal.Value.run m' g'
    · exact (Cert.Kernel15Ideal.Adam.same m c).symm
    · exact (Cert.Kernel15Ideal.Adam.delta m c).symm
    · exact (Cert.Kernel15Ideal.Adam.first m c).symm
    · exact (Cert.Kernel15Ideal.Adam.second m c).symm

end Cert.Claims15

end
-- ==== Proof.Adam16.lean ====
/- The optimiser's step for a shard of the feed-forward gate weight: each grid point writes one stretch of rows of the four results, and entry by entry they are the
   reference's lines: the gradient as it came, the change of the weight, and the two moments. -/
module

public import proofs.«01_k».proof.Proof.Gen.Kernel16Ideal.Value
public import proofs.«01_k».proof.Proof.Gen.Reference16Ideal.Run
public import Idealize.ShloMosaic.Lib.Pipeline.ValueKit
public import Idealize.ShloMosaic.Lib.Pointwise

@[expose] public section

set_option maxRecDepth 16384

noncomputable section

namespace Cert.Kernel16Ideal.Adam

open Idealize.ShloMosaic Idealize.ShloMosaic.TcCoe Idealize.SL.Sem
open Idealize.ShloMosaic.Pipeline (Dat)
open Cert.Kernel16Ideal Cert.Kernel16Ideal.Gen

variable (m : (ℓ : Loc nD τ sig) → Buf (Elt Ideal) ℓ)

/-- The first moment after the step. -/
abbrev mean (G M : FVec Ideal S2048x1408 .f32) : FVec Ideal S2048x1408 .f32 :=
  addf (mulf (broadcastInDim Cert.Reference16Ideal.S2048x1408 ![] Cert.Reference16Ideal.Gen.bcast_S_S2048x1408 (constant Cert.Reference16Ideal.S_ .f32 0x3F666666#32)) M) (mulf (broadcastInDim Cert.Reference16Ideal.S2048x1408 ![] Cert.Reference16Ideal.Gen.bcast_S_S2048x1408 (constant Cert.Reference16Ideal.S_ .f32 0x3DCCCCCD#32)) G)

/-- The second moment after the step. -/
abbrev square (G V : FVec Ideal S2048x1408 .f32) : FVec Ideal S2048x1408 .f32 :=
  addf (mulf (broadcastInDim Cert.Reference16Ideal.S2048x1408 ![] Cert.Reference16Ideal.Gen.bcast_S_S2048x1408 (constant Cert.Reference16Ideal.S_ .f32 0x3F7FBE77#32)) V) (mulf (broadcastInDim Cert.Reference16Ideal.S2048x1408 ![] Cert.Reference16Ideal.Gen.bcast_S_S2048x1408 (constant Cert.Reference16Ideal.S_ .f32 0x3A83126F#32)) (mulf G G))

/-- The change of the weight. -/
abbrev change (W G M V : FVec Ideal S2048x1408 .f32) : FVec Ideal S2048x1408 .f32 :=
  mulf (broadcastInDim Cert.Reference16Ideal.S2048x1408 ![] Cert.Reference16Ideal.Gen.bcast_S_S2048x1408 (constant Cert.Reference16Ideal.S_ .f32 0xBA83126F#32)) (addf (Host.divf (Host.divf (mean G M) (broadcastInDim Cert.Reference16Ideal.S2048x1408 ![] Cert.Reference16Ideal.Gen.bcast_S_S2048x1408 (constant Cert.Reference16Ideal.S_ .f32 0x3F26BD02#32)))
    (addf (Host.sqrt (Host.divf (square G V) (broadcastInDim Cert.Reference16Ideal.S2048x1408 ![] Cert.Reference16Ideal.Gen.bcast_S_S2048x1408 (constant Cert.Reference16Ideal.S_ .f32 0x3C231ACC#32)))) (broadcastInDim Cert.Reference16Ideal.S2048x1408 ![] Cert.Reference16Ideal.Gen.bcast_S_S2048x1408 (constant Cert.Reference16Ideal.S_ .f32 0x322BCC77#32)))) (mulf (broadcastInDim Cert.Reference16Ideal.S2048x1408 ![] Cert.Reference16Ideal.Gen.bcast_S_S2048x1408 (constant Cert.Reference16Ideal.S_ .f32 0x3C23D70A#32)) W))

theorem idx : ∀ t : Fin cfg0.N, win0_0.index t = ![t.val, 0] ∧ win0_1.index t = ![t.val, 0] ∧ win0_2.index t = ![t.val, 0] ∧ win0_3.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)

/-- The result array number 0 after the run: the gradient, as it came. -/
theorem same (c : Dev nD) : (dats m 0 c).arrAt 5 (cfgs 0).N = (m ((c : Thread nD τ).loc main_arg1)) := by
  refine (dats m 0 c).arrAt_eq_of_covers 5 _ (by decide +kernel) fun t _ y => ?_
  blk_simp
  rw [after0_5]
  frame_out
  pointwise [k0_pay1, k0_pay2, k0_pay3, mean, square, change]
  blk_point [iblk, V, idx t]

/-- The result array number 1 after the run: the change of the weight. -/
theorem delta (c : Dev nD) : (dats m 0 c).arrAt 6 (cfgs 0).N = change (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  frame_out
  pointwise [k0_pay1, k0_pay2, k0_pay3, mean, square, change]
  blk_point [iblk, V, idx t]

/-- The result array number 2 after the run: the first moment. -/
theorem first (c : Dev nD) : (dats m 0 c).arrAt 7 (cfgs 0).N = mean (m ((c : Thread nD τ).loc main_arg1)) (m ((c : Thread nD τ).loc main_arg2)) := by
  refine (dats m 0 c).arrAt_eq_of_covers 7 _ (by decide +kernel) fun t _ y => ?_
  blk_simp
  rw [after0_7]
  frame_out
  pointwise [k0_pay1, k0_pay2, k0_pay3, mean, square, change]
  blk_point [iblk, V, idx t]

/-- The result array number 3 after the run: the second moment. -/
theorem second (c : Dev nD) : (dats m 0 c).arrAt 8 (cfgs 0).N = square (m ((c : Thread nD τ).loc main_arg1)) (m ((c : Thread nD τ).loc main_arg3)) := by
  refine (dats m 0 c).arrAt_eq_of_covers 8 _ (by decide +kernel) fun t _ y => ?_
  blk_simp
  rw [after0_8]
  frame_out
  pointwise [k0_pay1, k0_pay2, k0_pay3, mean, square, change]
  blk_point [iblk, V, idx t]

end Cert.Kernel16Ideal.Adam

end
-- ==== Proof.Claims16.lean ====
/- The claims about the optimiser step: the runs of the kernel, of its idealized form and of the reference, and the equality of their results. -/
module

public import proofs.«01_k».proof.Defs
public import proofs.«01_k».proof.Proof.Gen.Kernel16.Frame
public import proofs.«01_k».proof.Proof.Gen.Kernel16Ideal.Frame
public import proofs.«01_k».proof.Proof.Gen.Reference16Ideal.Run
public import proofs.«01_k».proof.Proof.Adam16
public import Idealize.ShloMosaic.Lib.Claim
public import Idealize.ShloMosaic.Lib.Quiescent

@[expose] public section

set_option maxRecDepth 16384

noncomputable section

namespace Cert.Claims16

open Idealize.ShloMosaic Idealize.SL.Sem

theorem kernel : Cert.quiescent_Kernel16 := fun m ρ _ => Cert.Kernel16.Gen.frame m ρ

theorem ideal : Cert.quiescent_Kernel16Ideal := fun m ρ _ => Cert.Kernel16Ideal.Gen.frame m ρ

theorem reference : Cert.quiescent_Reference16Ideal := fun m g _ =>
  θ_run_mono (Cert.Reference16Ideal.Value.run m g) fun r h => ⟨fun c => (h c).2.2.2.2, sem_eq_zero_of_no_sems rfl r.2⟩

set_option maxHeartbeats 1600000 in
theorem algebraic : Cert.algebraic_Kernel16Ideal_Reference16Ideal := by
  pair_intro
  · run_from Cert.Kernel16Ideal.Value.run_blocks m g
  · run_from Cert.Reference16Ideal.Value.run m' g'
    · exact (Cert.Kernel16Ideal.Adam.same m c).symm
    · exact (Cert.Kernel16Ideal.Adam.delta m c).symm
    · exact (Cert.Kernel16Ideal.Adam.first m c).symm
    · exact (Cert.Kernel16Ideal.Adam.second m c).symm

end Cert.Claims16

end
-- ==== Proof.Adam17.lean ====
/- The optimiser's step for a shard of the mixer's input projection: each grid point writes one stretch of rows of the four results, and entry by entry they are the
   reference's lines: the gradient as it came, the change of the weight, and the two moments. -/
module

public import proofs.«01_k».proof.Proof.Gen.Kernel17Ideal.Value
public import proofs.«01_k».proof.Proof.Gen.Reference17Ideal.Run
public import Idealize.ShloMosaic.Lib.Pipeline.ValueKit
public import Idealize.ShloMosaic.Lib.Pointwise

@[expose] public section

set_option maxRecDepth 16384

noncomputable section

namespace Cert.Kernel17Ideal.Adam

open Idealize.ShloMosaic Idealize.ShloMosaic.TcCoe Idealize.SL.Sem
open Idealize.ShloMosaic.Pipeline (Dat)
open Cert.Kernel17Ideal Cert.Kernel17Ideal.Gen

variable (m : (ℓ : Loc nD τ sig) → Buf (Elt Ideal) ℓ)

/-- The first moment after the step. -/
abbrev mean (G M : FVec Ideal S2048x1028 .f32) : FVec Ideal S2048x1028 .f32 :=
  addf (mulf (broadcastInDim Cert.Reference17Ideal.S2048x1028 ![] Cert.Reference17Ideal.Gen.bcast_S_S2048x1028 (constant Cert.Reference17Ideal.S_ .f32 0x3F666666#32)) M) (mulf (broadcastInDim Cert.Reference17Ideal.S2048x1028 ![] Cert.Reference17Ideal.Gen.bcast_S_S2048x1028 (constant Cert.Reference17Ideal.S_ .f32 0x3DCCCCCD#32)) G)

/-- The second moment after the step. -/
abbrev square (G V : FVec Ideal S2048x1028 .f32) : FVec Ideal S2048x1028 .f32 :=
  addf (mulf (broadcastInDim Cert.Reference17Ideal.S2048x1028 ![] Cert.Reference17Ideal.Gen.bcast_S_S2048x1028 (constant Cert.Reference17Ideal.S_ .f32 0x3F7FBE77#32)) V) (mulf (broadcastInDim Cert.Reference17Ideal.S2048x1028 ![] Cert.Reference17Ideal.Gen.bcast_S_S2048x1028 (constant Cert.Reference17Ideal.S_ .f32 0x3A83126F#32)) (mulf G G))

/-- The change of the weight. -/
abbrev change (W G M V : FVec Ideal S2048x1028 .f32) : FVec Ideal S2048x1028 .f32 :=
  mulf (broadcastInDim Cert.Reference17Ideal.S2048x1028 ![] Cert.Reference17Ideal.Gen.bcast_S_S2048x1028 (constant Cert.Reference17Ideal.S_ .f32 0xBA83126F#32)) (addf (Host.divf (Host.divf (mean G M) (broadcastInDim Cert.Reference17Ideal.S2048x1028 ![] Cert.Reference17Ideal.Gen.bcast_S_S2048x1028 (constant Cert.Reference17Ideal.S_ .f32 0x3F26BD02#32)))
    (addf (Host.sqrt (Host.divf (square G V) (broadcastInDim Cert.Reference17Ideal.S2048x1028 ![] Cert.Reference17Ideal.Gen.bcast_S_S2048x1028 (constant Cert.Reference17Ideal.S_ .f32 0x3C231ACC#32)))) (broadcastInDim Cert.Reference17Ideal.S2048x1028 ![] Cert.Reference17Ideal.Gen.bcast_S_S2048x1028 (constant Cert.Reference17Ideal.S_ .f32 0x322BCC77#32)))) (mulf (broadcastInDim Cert.Reference17Ideal.S2048x1028 ![] Cert.Reference17Ideal.Gen.bcast_S_S2048x1028 (constant Cert.Reference17Ideal.S_ .f32 0x3C23D70A#32)) W))

theorem idx : ∀ t : Fin cfg0.N, win0_0.index t = ![t.val, 0] ∧ win0_1.index t = ![t.val, 0] ∧ win0_2.index t = ![t.val, 0] ∧ win0_3.index t = ![t.val, 0]
    ∧ win0_10.index t = ![t.val, 0] ∧ win0_11.index t = ![t.val, 0] ∧ win0_12.index t = ![t.val, 0] ∧ win0_13.index t = ![t.val, 0] :=
  (by decide +kernel : ∀ t : Fin grid0.N, _)

/-- The result array number 0 after the run: the gradient, as it came. -/
theorem same (c : Dev nD) : (dats m 0 c).arrAt 10 (cfgs 0).N = (m ((c : Thread nD τ).loc main_arg1)) := by
  refine (dats m 0 c).arrAt_eq_of_covers 10 _ (by decide +kernel) fun t _ y => ?_
  blk_simp
  rw [after0_10]
  frame_out
  pointwise [k0_pay1, k0_pay2, k0_pay3, mean, square, change]
  blk_point [iblk, V, idx t]

/-- The result array number 1 after the run: the change of the weight. -/
theorem delta (c : Dev nD) : (dats m 0 c).arrAt 11 (cfgs 0).N = change (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t _ y => ?_
  blk_simp
  rw [after0_11]
  frame_out
  pointwise [k0_pay1, k0_pay2, k0_pay3, mean, square, change]
  blk_point [iblk, V, idx t]

/-- The result array number 2 after the run: the first moment. -/
theorem first (c : Dev nD) : (dats m 0 c).arrAt 12 (cfgs 0).N = mean (m ((c : Thread nD τ).loc main_arg1)) (m ((c : Thread nD τ).loc main_arg2)) := by
  refine (dats m 0 c).arrAt_eq_of_covers 12 _ (by decide +kernel) fun t _ y => ?_
  blk_simp
  rw [after0_12]
  frame_out
  pointwise [k0_pay1, k0_pay2, k0_pay3, mean, square, change]
  blk_point [iblk, V, idx t]

/-- The result array number 3 after the run: the second moment. -/
theorem second (c : Dev nD) : (dats m 0 c).arrAt 13 (cfgs 0).N = square (m ((c : Thread nD τ).loc main_arg1)) (m ((c : Thread nD τ).loc main_arg3)) := by
  refine (dats m 0 c).arrAt_eq_of_covers 13 _ (by decide +kernel) fun t _ y => ?_
  blk_simp
  rw [after0_13]
  frame_out
  pointwise [k0_pay1, k0_pay2, k0_pay3, mean, square, change]
  blk_point [iblk, V, idx t]

end Cert.Kernel17Ideal.Adam

end
-- ==== Proof.Claims17.lean ====
/- The claims about the optimiser step: the runs of the kernel, of its idealized form and of the reference, and the equality of their results. -/
module

public import proofs.«01_k».proof.Defs
public import proofs.«01_k».proof.Proof.Gen.Kernel17.Frame
public import proofs.«01_k».proof.Proof.Gen.Kernel17Ideal.Frame
public import proofs.«01_k».proof.Proof.Gen.Reference17Ideal.Run
public import proofs.«01_k».proof.Proof.Adam17
public import Idealize.ShloMosaic.Lib.Claim
public import Idealize.ShloMosaic.Lib.Quiescent

@[expose] public section

set_option maxRecDepth 16384

noncomputable section

namespace Cert.Claims17

open Idealize.ShloMosaic Idealize.SL.Sem

theorem kernel : Cert.quiescent_Kernel17 := fun m ρ _ => Cert.Kernel17.Gen.frame m ρ

theorem ideal : Cert.quiescent_Kernel17Ideal := fun m ρ _ => Cert.Kernel17Ideal.Gen.frame m ρ

theorem reference : Cert.quiescent_Reference17Ideal := fun m g _ =>
  θ_run_mono (Cert.Reference17Ideal.Value.run m g) fun r h => ⟨fun c => (h c).2.2.2.2, sem_eq_zero_of_no_sems rfl r.2⟩

set_option maxHeartbeats 1600000 in
theorem algebraic : Cert.algebraic_Kernel17Ideal_Reference17Ideal := by
  pair_intro
  · run_from Cert.Kernel17Ideal.Value.run_blocks m g
  · run_from Cert.Reference17Ideal.Value.run m' g'
    · exact (Cert.Kernel17Ideal.Adam.same m c).symm
    · exact (Cert.Kernel17Ideal.Adam.delta m c).symm
    · exact (Cert.Kernel17Ideal.Adam.first m c).symm
    · exact (Cert.Kernel17Ideal.Adam.second m c).symm

end Cert.Claims17

end
-- ==== Proof.Proj18.lean ====
/- The mixer's input projection: the tiled product leaves the reference's product in its result array. Each grid point writes one block of the result once. -/
module

public import proofs.«01_k».proof.Proof.Gen.Kernel18Ideal.Value
public import proofs.«01_k».proof.Proof.Gen.Reference18Ideal.Run
public import Idealize.ShloMosaic.Lib.Pipeline.ValueKit
public import Idealize.ShloMosaic.Lib.Pointwise

@[expose] public section

set_option maxRecDepth 16384

noncomputable section

namespace Cert.Kernel18Ideal.Proj

open Idealize.ShloMosaic Idealize.ShloMosaic.TcCoe Idealize.SL.Sem
open Idealize.ShloMosaic.Pipeline (Dat)
open Cert.Kernel18Ideal Cert.Kernel18Ideal.Gen

variable (m : (ℓ : Loc nD τ sig) → Buf (Elt Ideal) ℓ)

/-- The reference's result over the arrays. -/
abbrev product (H : FVec Ideal S8192x2048 .bf16) (W : FVec Ideal S2048x4224 .bf16) : FVec Ideal S8192x4224 .f32 :=
  Host.dotGeneral Cert.Reference18Ideal.dot_S8192x2048_S2048x4224_S8192x4224_1_0_0_1_n_n none (extf .f32 H Cert.Reference18Ideal.Gen.bitsLt_bf16_f32) (extf .f32 W Cert.Reference18Ideal.Gen.bitsLt_bf16_f32)

theorem idx : ∀ t : Fin cfg0.N, win0_0.index t = ![t.val % 16, 0] ∧ win0_1.index t = ![0, t.val / 16] ∧ win0_2.index t = ![t.val % 16, t.val / 16] :=
  (by decide +kernel : ∀ t : Fin grid0.N, _)

/-- THE RESULT ARRAY after the run is the reference's. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, product]
  blk_point [iblk, V, idx t]

end Cert.Kernel18Ideal.Proj

end
-- ==== Proof.Claims18.lean ====
/- The claims about the mixer input projection: the runs of the kernel, of its idealized form and of the reference, and the equality of their results. -/
module

public import proofs.«01_k».proof.Defs
public import proofs.«01_k».proof.Proof.Gen.Kernel18.Frame
public import proofs.«01_k».proof.Proof.Gen.Kernel18Ideal.Frame
public import proofs.«01_k».proof.Proof.Gen.Reference18Ideal.Run
public import proofs.«01_k».proof.Proof.Proj18
public import Idealize.ShloMosaic.Lib.Claim
public import Idealize.ShloMosaic.Lib.Quiescent

@[expose] public section

set_option maxRecDepth 16384

noncomputable section

namespace Cert.Claims18

open Idealize.ShloMosaic Idealize.SL.Sem

theorem kernel : Cert.quiescent_Kernel18 := fun m ρ _ => Cert.Kernel18.Gen.frame m ρ

theorem ideal : Cert.quiescent_Kernel18Ideal := fun m ρ _ => Cert.Kernel18Ideal.Gen.frame m ρ

theorem reference : Cert.quiescent_Reference18Ideal := fun m g _ =>
  θ_run_mono (Cert.Reference18Ideal.Value.run m g) fun r h => ⟨fun c => (h c).2, sem_eq_zero_of_no_sems rfl r.2⟩

set_option maxHeartbeats 1600000 in
theorem algebraic : Cert.algebraic_Kernel18Ideal_Reference18Ideal := by
  pair_intro
  · run_from Cert.Kernel18Ideal.Value.run_blocks m g
  · run_from Cert.Reference18Ideal.Value.run m' g'
    exact (Cert.Kernel18Ideal.Proj.final m c).symm

end Cert.Claims18

end
-- ==== Proof.Proj19.lean ====
/- The output projection with the residual: the result is the residual plus the reference's product. Each grid point writes one block of the result once. -/
module

public import proofs.«01_k».proof.Proof.Gen.Kernel19Ideal.Value
public import proofs.«01_k».proof.Proof.Gen.Reference19Ideal.Run
public import Idealize.ShloMosaic.Lib.Pipeline.ValueKit
public import Idealize.ShloMosaic.Lib.Pointwise

@[expose] public section

set_option maxRecDepth 16384

noncomputable section

namespace Cert.Kernel19Ideal.Proj

open Idealize.ShloMosaic Idealize.ShloMosaic.TcCoe Idealize.SL.Sem
open Idealize.ShloMosaic.Pipeline (Dat)
open Cert.Kernel19Ideal Cert.Kernel19Ideal.Gen

variable (m : (ℓ : Loc nD τ sig) → Buf (Elt Ideal) ℓ)

/-- The reference's result over the arrays. -/
abbrev product (H : FVec Ideal S8192x2048 .bf16) (W : FVec Ideal S2048x2048 .bf16) (X : FVec Ideal S8192x2048 .f32) : FVec Ideal S8192x2048 .f32 :=
  addf X (Host.dotGeneral Cert.Reference19Ideal.dot_S8192x2048_S2048x2048_S8192x2048_1_0_0_1_n_n none (extf .f32 H Cert.Reference19Ideal.Gen.bitsLt_bf16_f32) (extf .f32 W Cert.Reference19Ideal.Gen.bitsLt_bf16_f32))

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- THE RESULT ARRAY after the run is the reference's. -/
theorem final (c : Dev nD) : (dats m 0 c).arrAt 3 (cfgs 0).N = product (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, product]
  blk_point [iblk, V, idx t]

end Cert.Kernel19Ideal.Proj

end
-- ==== Proof.Claims19.lean ====
/- The claims about the output projection with the residual: the runs of the kernel, of its idealized form and of the reference, and the equality of their results. -/
module

public import proofs.«01_k».proof.Defs
public import proofs.«01_k».proof.Proof.Gen.Kernel19.Frame
public import proofs.«01_k».proof.Proof.Gen.Kernel19Ideal.Frame
public import proofs.«01_k».proof.Proof.Gen.Reference19Ideal.Run
public import proofs.«01_k».proof.Proof.Proj19
public import Idealize.ShloMosaic.Lib.Claim
public import Idealize.ShloMosaic.Lib.Quiescent

@[expose] public section

set_option maxRecDepth 16384

noncomputable section

namespace Cert.Claims19

open Idealize.ShloMosaic Idealize.SL.Sem

theorem kernel : Cert.quiescent_Kernel19 := fun m ρ _ => Cert.Kernel19.Gen.frame m ρ

theorem ideal : Cert.quiescent_Kernel19Ideal := fun m ρ _ => Cert.Kernel19Ideal.Gen.frame m ρ

theorem reference : Cert.quiescent_Reference19Ideal := fun m g _ =>
  θ_run_mono (Cert.Reference19Ideal.Value.run m g) fun r h => ⟨fun c => (h c).2, sem_eq_zero_of_no_sems rfl r.2⟩

set_option maxHeartbeats 1600000 in
theorem algebraic : Cert.algebraic_Kernel19Ideal_Reference19Ideal := by
  pair_intro
  · run_from Cert.Kernel19Ideal.Value.run_blocks m g
  · run_from Cert.Reference19Ideal.Value.run m' g'
    exact (Cert.Kernel19Ideal.Proj.final m c).symm

end Cert.Claims19

end
-- ==== Proof.Proj20.lean ====
/- The attention's query projection: the result is the reference's product, held in bf16. Each grid point writes one block of the result once. -/
module

public import proofs.«01_k».proof.Proof.Gen.Kernel20Ideal.Value
public import proofs.«01_k».proof.Proof.Gen.Reference20Ideal.Run
public import Idealize.ShloMosaic.Lib.Pipeline.ValueKit
public import Idealize.ShloMosaic.Lib.Pointwise

@[expose] public section

set_option maxRecDepth 16384

noncomputable section

namespace Cert.Kernel20Ideal.Proj

open Idealize.ShloMosaic Idealize.ShloMosaic.TcCoe Idealize.SL.Sem
open Idealize.ShloMosaic.Pipeline (Dat)
open Cert.Kernel20Ideal Cert.Kernel20Ideal.Gen

variable (m : (ℓ : Loc nD τ sig) → Buf (Elt Ideal) ℓ)

/-- The reference's result over the arrays. -/
abbrev product (H : FVec Ideal S8192x2048 .bf16) (W : FVec Ideal S2048x2048 .bf16) : FVec Ideal S8192x2048 .bf16 :=
  truncf .bf16 (Host.dotGeneral Cert.Reference20Ideal.dot_S8192x2048_S2048x2048_S8192x2048_1_0_0_1_n_n none (extf .f32 H Cert.Reference20Ideal.Gen.bitsLt_bf16_f32) (extf .f32 W Cert.Reference20Ideal.Gen.bitsLt_bf16_f32)) Cert.Reference20Ideal.Gen.bitsLt_bf16_f32

theorem idx : ∀ t : Fin cfg0.N, win0_0.index t = ![t.val, 0] ∧ win0_1.index t = ![0, 0] ∧ win0_2.index t = ![t.val, 0] :=
  (by decide +kernel : ∀ t : Fin grid0.N, _)

/-- THE RESULT ARRAY after the run is the reference's. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, product]
  blk_point [iblk, V, idx t]

end Cert.Kernel20Ideal.Proj

end
-- ==== Proof.Claims20.lean ====
/- The claims about the query projection: the runs of the kernel, of its idealized form and of the reference, and the equality of their results. -/
module

public import proofs.«01_k».proof.Defs
public import proofs.«01_k».proof.Proof.Gen.Kernel20.Frame
public import proofs.«01_k».proof.Proof.Gen.Kernel20Ideal.Frame
public import proofs.«01_k».proof.Proof.Gen.Reference20Ideal.Run
public import proofs.«01_k».proof.Proof.Proj20
public import Idealize.ShloMosaic.Lib.Claim
public import Idealize.ShloMosaic.Lib.Quiescent

@[expose] public section

set_option maxRecDepth 16384

noncomputable section

namespace Cert.Claims20

open Idealize.ShloMosaic Idealize.SL.Sem

theorem kernel : Cert.quiescent_Kernel20 := fun m ρ _ => Cert.Kernel20.Gen.frame m ρ

theorem ideal : Cert.quiescent_Kernel20Ideal := fun m ρ _ => Cert.Kernel20Ideal.Gen.frame m ρ

theorem reference : Cert.quiescent_Reference20Ideal := fun m g _ =>
  θ_run_mono (Cert.Reference20Ideal.Value.run m g) fun r h => ⟨fun c => (h c).2, sem_eq_zero_of_no_sems rfl r.2⟩

set_option maxHeartbeats 1600000 in
theorem algebraic : Cert.algebraic_Kernel20Ideal_Reference20Ideal := by
  pair_intro
  · run_from Cert.Kernel20Ideal.Value.run_blocks m g
  · run_from Cert.Reference20Ideal.Value.run m' g'
    exact (Cert.Kernel20Ideal.Proj.final m c).symm

end Cert.Claims20

end
-- ==== Proof.Proj21.lean ====
/- The attention's key and value projection of the memory rows: the result, held in bf16, is the reference's product with the weight's four groups of
   columns side by side. Each grid point takes one group. -/
module

public import proofs.«01_k».proof.Proof.Gen.Kernel21Ideal.Value
public import proofs.«01_k».proof.Proof.Gen.Reference21Ideal.Run
public import Idealize.ShloMosaic.Lib.Pipeline.ValueKit
public import Idealize.ShloMosaic.Lib.Pointwise

@[expose] public section

set_option maxRecDepth 16384

noncomputable section

namespace Cert.Kernel21Ideal.Proj

open Idealize.ShloMosaic Idealize.ShloMosaic.TcCoe Idealize.SL.Sem
open Idealize.ShloMosaic.Pipeline (Dat)
open Cert.Kernel21Ideal Cert.Kernel21Ideal.Gen

variable (m : (ℓ : Loc nD τ sig) → Buf (Elt Ideal) ℓ)

/-- A weight held as four groups of columns, laid out as one matrix. -/
def columns (W : FVec Ideal S4x2048x1024 .bf16) : FVec Ideal Cert.Reference21Ideal.S2048x4096 .f32 :=
  concatenate Cert.Reference21Ideal.S2048x4096 1 [⟨Cert.Reference21Ideal.S2048x1024, (extf .f32 (shapeCast _ (extractStridedSlice Cert.Reference21Ideal.S1x2048x1024 ![0, 0, 0] W Cert.Reference21Ideal.Gen.slices_S4x2048x1024_S1x2048x1024_0_0_0)
      Cert.Reference21Ideal.Gen.shapeCasts_S1x2048x1024_S2048x1024) Cert.Reference21Ideal.Gen.bitsLt_bf16_f32 : FVec Ideal Cert.Reference21Ideal.S2048x1024 .f32)⟩,
    ⟨Cert.Reference21Ideal.S2048x1024, (extf .f32 (shapeCast _ (extractStridedSlice Cert.Reference21Ideal.S1x2048x1024 ![1, 0, 0] W Cert.Reference21Ideal.Gen.slices_S4x2048x1024_S1x2048x1024_1_0_0)
      Cert.Reference21Ideal.Gen.shapeCasts_S1x2048x1024_S2048x1024) Cert.Reference21Ideal.Gen.bitsLt_bf16_f32 : FVec Ideal Cert.Reference21Ideal.S2048x1024 .f32)⟩,
    ⟨Cert.Reference21Ideal.S2048x1024, (extf .f32 (shapeCast _ (extractStridedSlice Cert.Reference21Ideal.S1x2048x1024 ![2, 0, 0] W Cert.Reference21Ideal.Gen.slices_S4x2048x1024_S1x2048x1024_2_0_0)
      Cert.Reference21Ideal.Gen.shapeCasts_S1x2048x1024_S2048x1024) Cert.Reference21Ideal.Gen.bitsLt_bf16_f32 : FVec Ideal Cert.Reference21Ideal.S2048x1024 .f32)⟩,
    ⟨Cert.Reference21Ideal.S2048x1024, (extf .f32 (shapeCast _ (extractStridedSlice Cert.Reference21Ideal.S1x2048x1024 ![3, 0, 0] W Cert.Reference21Ideal.Gen.slices_S4x2048x1024_S1x2048x1024_3_0_0)
      Cert.Reference21Ideal.Gen.shapeCasts_S1x2048x1024_S2048x1024) Cert.Reference21Ideal.Gen.bitsLt_bf16_f32 : FVec Ideal Cert.Reference21Ideal.S2048x1024 .f32)⟩]
    Cert.Reference21Ideal.Gen.concatenates_S2048x1024_S2048x1024_S2048x1024_S2048x1024_S2048x4096_d1

theorem columns_apply (W : FVec Ideal S4x2048x1024 .bf16) (a : Fin 2048) (l : Fin 4096) :
    columns W (ix2 a l) = W (ix3 ⟨l.val / 1024, by omega⟩ a ⟨l.val % 1024, by omega⟩) := by
  pointwise [columns]
  blk_point []

/-- The reference's result over the two arrays. -/
abbrev product (H : FVec Ideal S256x2048 .bf16) (W : FVec Ideal S4x2048x1024 .bf16) : FVec Ideal S256x4096 .bf16 :=
  truncf .bf16 (Host.dotGeneral Cert.Reference21Ideal.dot_S256x2048_S2048x4096_S256x4096_1_0_0_1_n_n none (extf .f32 H Cert.Reference21Ideal.Gen.bitsLt_bf16_f32) (columns W)) Cert.Reference21Ideal.Gen.bitsLt_bf16_f32

theorem product_apply (H : FVec Ideal S256x2048 .bf16) (W : FVec Ideal S4x2048x1024 .bf16) (j : S256x4096.Idx) :
    product H W j = ∑ k : Fin 2048, H (ix2 (j 0) k) * W (ix3 ⟨(j 1).val / 1024, by
      have h1 : (j 1).val < 4096 := (j 1).isLt
      omega⟩ k ⟨(j 1).val % 1024, Nat.mod_lt _ (by decide)⟩) := by
  have e : product H W j = ∑ k : Fin 2048, H (ix2 (j 0) k) * columns W (ix2 k (j 1)) := by pointwise [product]
  exact e.trans (Finset.sum_congr rfl fun k _ => congrArg (fun z : EReal => H (ix2 (j 0) k) * z) (columns_apply W k (j 1)))

theorem part_apply (x : FVec Ideal S256x2048 .bf16) (w : FVec Ideal S1x2048x1024 .bf16) (j) :
    k0_pay1 (F := Ideal) x w j = ∑ k : Fin 2048, x (ix2 (j 0) k) * w (ix3 0 k (j 1)) := by
  pointwise [k0_pay1]

theorem idx : ∀ t : Fin cfg0.N, win0_0.index t = ![0, 0] ∧ win0_1.index t = ![t.val, 0, 0] ∧ win0_2.index t = ![0, t.val] :=
  (by decide +kernel : ∀ t : Fin grid0.N, _)

/-- THE RESULT ARRAY after the run is the reference's. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [product_apply, part_apply]
  refine Finset.sum_congr (M := EReal) rfl fun k _ => ?_
  blk_point [iblk, V, idx t]

end Cert.Kernel21Ideal.Proj

end
-- ==== Proof.Claims21.lean ====
/- The claims about the key and value projection: the runs of the kernel, of its idealized form and of the reference, and the equality of their results. -/
module

public import proofs.«01_k».proof.Defs
public import proofs.«01_k».proof.Proof.Gen.Kernel21.Frame
public import proofs.«01_k».proof.Proof.Gen.Kernel21Ideal.Frame
public import proofs.«01_k».proof.Proof.Gen.Reference21Ideal.Run
public import proofs.«01_k».proof.Proof.Proj21
public import Idealize.ShloMosaic.Lib.Claim
public import Idealize.ShloMosaic.Lib.Quiescent

@[expose] public section

set_option maxRecDepth 16384

noncomputable section

namespace Cert.Claims21

open Idealize.ShloMosaic Idealize.SL.Sem

theorem kernel : Cert.quiescent_Kernel21 := fun m ρ _ => Cert.Kernel21.Gen.frame m ρ

theorem ideal : Cert.quiescent_Kernel21Ideal := fun m ρ _ => Cert.Kernel21Ideal.Gen.frame m ρ

theorem reference : Cert.quiescent_Reference21Ideal := fun m g _ =>
  θ_run_mono (Cert.Reference21Ideal.Value.run m g) fun r h => ⟨fun c => (h c).2, sem_eq_zero_of_no_sems rfl r.2⟩

set_option maxHeartbeats 1600000 in
theorem algebraic : Cert.algebraic_Kernel21Ideal_Reference21Ideal := by
  pair_intro
  · run_from Cert.Kernel21Ideal.Value.run_blocks m g
  · run_from Cert.Reference21Ideal.Value.run m' g'
    exact (Cert.Kernel21Ideal.Proj.final m c).symm

end Cert.Claims21

end
-- ==== Proof.Proj22.lean ====
/- The weight's gradient of a square projection: the result is the product that the derivative of the reference's line computes. Each block is summed
   over four grid points, each of which takes 2048 of the 8192 rows. -/
module

public import proofs.«01_k».proof.Proof.Gen.Kernel22Ideal.Value
public import proofs.«01_k».proof.Proof.Gen.Reference22Ideal.Run
public import Idealize.ShloMosaic.Lib.Pipeline.ValueKit
public import Idealize.ShloMosaic.Lib.Pointwise

@[expose] public section

set_option maxRecDepth 16384

noncomputable section

namespace Cert.Kernel22Ideal.Proj

open Idealize.ShloMosaic Idealize.ShloMosaic.TcCoe Idealize.SL.Sem
open Idealize.ShloMosaic.Pipeline (Dat)
open Cert.Kernel22Ideal Cert.Kernel22Ideal.Gen

variable (m : (ℓ : Loc nD τ sig) → Buf (Elt Ideal) ℓ)

/-- The reference's result over the two arrays. -/
abbrev product (H : FVec Ideal S8192x2048 .bf16) (D : FVec Ideal S8192x2048 .bf16) : FVec Ideal S2048x2048 .f32 :=
  transpose Cert.Reference22Ideal.S2048x2048 [1, 0] (Host.dotGeneral Cert.Reference22Ideal.dot_S8192x2048_S8192x2048_S2048x2048_0_0_1_1_n_n none (extf .f32 D Cert.Reference22Ideal.Gen.bitsLt_bf16_f32) (extf .f32 H Cert.Reference22Ideal.Gen.bitsLt_bf16_f32))
    Cert.Reference22Ideal.Gen.transposes_S2048x2048_S2048x2048_1_0

theorem product_apply (H : FVec Ideal S8192x2048 .bf16) (D : FVec Ideal S8192x2048 .bf16) (j) :
    product H D j = ∑ l : Fin 8192, D (ix2 l (j 1)) * H (ix2 l (j 0)) := by
  pointwise [product]

/-- What a point adds to the block: the product of its blocks over 2048 rows. -/
theorem part_apply (x : FVec Ideal S2048x1024 .bf16) (y : FVec Ideal S2048x1024 .bf16) (j) :
    k0_pay1 (F := Ideal) x y j = ∑ k : Fin 2048, x (ix2 k (j 0)) * y (ix2 k (j 1)) := by
  pointwise [k0_pay1]

theorem idx : ∀ t : Fin cfg0.N, win0_0.index t = ![t.val % 4, t.val / 8] ∧ win0_1.index t = ![t.val % 4, t.val / 4 % 2] ∧ win0_2.index t = ![t.val / 8, t.val / 4 % 2] :=
  (by decide +kernel : ∀ t : Fin grid0.N, _)

theorem step_apply (x : FVec Ideal S2048x1024 .bf16) (y : FVec Ideal S2048x1024 .bf16) (acc : FVec Ideal S1024x1024 .f32) (j) :
    k0_pay2 (F := Ideal) x y acc j = acc j + k0_pay1 (F := Ideal) x y j := by
  pointwise [k0_pay2]

/-- THE RESULT ARRAY after the run is the reference's product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
      (fun t j => k0_pay1 (F := Ideal) (iblk m c 0 t) (iblk m c 1 t) j)
      (fun t h j => by rw [outsAt0_A m c t h (by omega)]; frame_out; exact (zero_add _).symm)
      (fun t h j => by rw [outsAt0_B m c t h (by omega)]; frame_out; rw [step_apply])
      t ((flush0_2 t).mp hf) _, zero_add, product_apply]
  simp only [part_apply]
  refine Fin.sum_mul_add_congr fun s k hl => ?_
  rw [mul_comm]
  blk_point [iblk, V, idx t, idx ⟨_, Pipeline.run_point_lt_of_flush t ((flush0_2 t).mp hf) s⟩]

end Cert.Kernel22Ideal.Proj

end
-- ==== Proof.Claims22.lean ====
/- The claims about the square projections' weight gradient: the runs of the kernel, of its idealized form and of the reference, and the equality of their results. -/
module

public import proofs.«01_k».proof.Defs
public import proofs.«01_k».proof.Proof.Gen.Kernel22.Frame
public import proofs.«01_k».proof.Proof.Gen.Kernel22Ideal.Frame
public import proofs.«01_k».proof.Proof.Gen.Reference22Ideal.Run
public import proofs.«01_k».proof.Proof.Proj22
public import Idealize.ShloMosaic.Lib.Claim
public import Idealize.ShloMosaic.Lib.Quiescent

@[expose] public section

set_option maxRecDepth 16384

noncomputable section

namespace Cert.Claims22

open Idealize.ShloMosaic Idealize.SL.Sem

theorem kernel : Cert.quiescent_Kernel22 := fun m ρ _ => Cert.Kernel22.Gen.frame m ρ

theorem ideal : Cert.quiescent_Kernel22Ideal := fun m ρ _ => Cert.Kernel22Ideal.Gen.frame m ρ

theorem reference : Cert.quiescent_Reference22Ideal := fun m g _ =>
  θ_run_mono (Cert.Reference22Ideal.Value.run m g) fun r h => ⟨fun c => (h c).2, sem_eq_zero_of_no_sems rfl r.2⟩

set_option maxHeartbeats 1600000 in
theorem algebraic : Cert.algebraic_Kernel22Ideal_Reference22Ideal := by
  pair_intro
  · run_from Cert.Kernel22Ideal.Value.run_blocks m g
  · run_from Cert.Reference22Ideal.Value.run m' g'
    exact (Cert.Kernel22Ideal.Proj.final m c).symm

end Cert.Claims22

end
-- ==== Proof.Proj23.lean ====
/- The gradient at the attention's output, held in bf16: the result is the product that the derivative of the reference's line computes. Each grid point writes one block of the result once. -/
module

public import proofs.«01_k».proof.Proof.Gen.Kernel23Ideal.Value
public import proofs.«01_k».proof.Proof.Gen.Reference23Ideal.Run
public import Idealize.ShloMosaic.Lib.Pipeline.ValueKit
public import Idealize.ShloMosaic.Lib.Pointwise

@[expose] public section

set_option maxRecDepth 16384

noncomputable section

namespace Cert.Kernel23Ideal.Proj

open Idealize.ShloMosaic Idealize.ShloMosaic.TcCoe Idealize.SL.Sem
open Idealize.ShloMosaic.Pipeline (Dat)
open Cert.Kernel23Ideal Cert.Kernel23Ideal.Gen

variable (m : (ℓ : Loc nD τ sig) → Buf (Elt Ideal) ℓ)

/-- The reference's result over the arrays. -/
abbrev product (H : FVec Ideal S8192x2048 .bf16) (W : FVec Ideal S2048x2048 .bf16) : FVec Ideal S8192x2048 .bf16 :=
  truncf .bf16 (Host.dotGeneral Cert.Reference23Ideal.dot_S8192x2048_S2048x2048_S8192x2048_1_1_0_0_n_n none (extf .f32 H Cert.Reference23Ideal.Gen.bitsLt_bf16_f32) (extf .f32 W Cert.Reference23Ideal.Gen.bitsLt_bf16_f32)) Cert.Reference23Ideal.Gen.bitsLt_bf16_f32

theorem idx : ∀ t : Fin cfg0.N, win0_0.index t = ![t.val, 0] ∧ win0_1.index t = ![0, 0] ∧ win0_2.index t = ![t.val, 0] :=
  (by decide +kernel : ∀ t : Fin grid0.N, _)

/-- THE RESULT ARRAY after the run is the reference's. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, product]
  blk_point [iblk, V, idx t]

end Cert.Kernel23Ideal.Proj

end
-- ==== Proof.Claims23.lean ====
/- The claims about the output projection's input gradient in half width: the runs of the kernel, of its idealized form and of the reference, and the equality of their results. -/
module

public import proofs.«01_k».proof.Defs
public import proofs.«01_k».proof.Proof.Gen.Kernel23.Frame
public import proofs.«01_k».proof.Proof.Gen.Kernel23Ideal.Frame
public import proofs.«01_k».proof.Proof.Gen.Reference23Ideal.Run
public import proofs.«01_k».proof.Proof.Proj23
public import Idealize.ShloMosaic.Lib.Claim
public import Idealize.ShloMosaic.Lib.Quiescent

@[expose] public section

set_option maxRecDepth 16384

noncomputable section

namespace Cert.Claims23

open Idealize.ShloMosaic Idealize.SL.Sem

theorem kernel : Cert.quiescent_Kernel23 := fun m ρ _ => Cert.Kernel23.Gen.frame m ρ

theorem ideal : Cert.quiescent_Kernel23Ideal := fun m ρ _ => Cert.Kernel23Ideal.Gen.frame m ρ

theorem reference : Cert.quiescent_Reference23Ideal := fun m g _ =>
  θ_run_mono (Cert.Reference23Ideal.Value.run m g) fun r h => ⟨fun c => (h c).2, sem_eq_zero_of_no_sems rfl r.2⟩

set_option maxHeartbeats 1600000 in
theorem algebraic : Cert.algebraic_Kernel23Ideal_Reference23Ideal := by
  pair_intro
  · run_from Cert.Kernel23Ideal.Value.run_blocks m g
  · run_from Cert.Reference23Ideal.Value.run m' g'
    exact (Cert.Kernel23Ideal.Proj.final m c).symm

end Cert.Claims23

end
-- ==== Proof.Proj24.lean ====
/- The gradient at the input of a square projection: the result is the product that the derivative of the reference's line computes. Each grid point writes one block of the result once. -/
module

public import proofs.«01_k».proof.Proof.Gen.Kernel24Ideal.Value
public import proofs.«01_k».proof.Proof.Gen.Reference24Ideal.Run
public import Idealize.ShloMosaic.Lib.Pipeline.ValueKit
public import Idealize.ShloMosaic.Lib.Pointwise

@[expose] public section

set_option maxRecDepth 16384

noncomputable section

namespace Cert.Kernel24Ideal.Proj

open Idealize.ShloMosaic Idealize.ShloMosaic.TcCoe Idealize.SL.Sem
open Idealize.ShloMosaic.Pipeline (Dat)
open Cert.Kernel24Ideal Cert.Kernel24Ideal.Gen

variable (m : (ℓ : Loc nD τ sig) → Buf (Elt Ideal) ℓ)

/-- The reference's result over the arrays. -/
abbrev product (H : FVec Ideal S8192x2048 .bf16) (W : FVec Ideal S2048x2048 .bf16) : FVec Ideal S8192x2048 .f32 :=
  Host.dotGeneral Cert.Reference24Ideal.dot_S8192x2048_S2048x2048_S8192x2048_1_1_0_0_n_n none (extf .f32 H Cert.Reference24Ideal.Gen.bitsLt_bf16_f32) (extf .f32 W Cert.Reference24Ideal.Gen.bitsLt_bf16_f32)

theorem idx : ∀ t : Fin cfg0.N, win0_0.index t = ![t.val, 0] ∧ win0_1.index t = ![0, 0] ∧ win0_2.index t = ![t.val, 0] :=
  (by decide +kernel : ∀ t : Fin grid0.N, _)

/-- THE RESULT ARRAY after the run is the reference's. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, product]
  blk_point [iblk, V, idx t]

end Cert.Kernel24Ideal.Proj

end
-- ==== Proof.Claims24.lean ====
/- The claims about the square projections' input gradient: the runs of the kernel, of its idealized form and of the reference, and the equality of their results. -/
module

public import proofs.«01_k».proof.Defs
public import proofs.«01_k».proof.Proof.Gen.Kernel24.Frame
public import proofs.«01_k».proof.Proof.Gen.Kernel24Ideal.Frame
public import proofs.«01_k».proof.Proof.Gen.Reference24Ideal.Run
public import proofs.«01_k».proof.Proof.Proj24
public import Idealize.ShloMosaic.Lib.Claim
public import Idealize.ShloMosaic.Lib.Quiescent

@[expose] public section

set_option maxRecDepth 16384

noncomputable section

namespace Cert.Claims24

open Idealize.ShloMosaic Idealize.SL.Sem

theorem kernel : Cert.quiescent_Kernel24 := fun m ρ _ => Cert.Kernel24.Gen.frame m ρ

theorem ideal : Cert.quiescent_Kernel24Ideal := fun m ρ _ => Cert.Kernel24Ideal.Gen.frame m ρ

theorem reference : Cert.quiescent_Reference24Ideal := fun m g _ =>
  θ_run_mono (Cert.Reference24Ideal.Value.run m g) fun r h => ⟨fun c => (h c).2, sem_eq_zero_of_no_sems rfl r.2⟩

set_option maxHeartbeats 1600000 in
theorem algebraic : Cert.algebraic_Kernel24Ideal_Reference24Ideal := by
  pair_intro
  · run_from Cert.Kernel24Ideal.Value.run_blocks m g
  · run_from Cert.Reference24Ideal.Value.run m' g'
    exact (Cert.Kernel24Ideal.Proj.final m c).symm

end Cert.Claims24

end
-- ==== Proof.Proj25.lean ====
/- The gradient of the attention's key and value weight: the result, held as four groups of 1024 columns, is what the derivative of the reference's line
   computes. Each grid point writes one block once. -/
module

public import proofs.«01_k».proof.Proof.Gen.Kernel25Ideal.Value
public import proofs.«01_k».proof.Proof.Gen.Reference25Ideal.Run
public import Idealize.ShloMosaic.Lib.Pipeline.ValueKit
public import Idealize.ShloMosaic.Lib.Pointwise

@[expose] public section

set_option maxRecDepth 16384

noncomputable section

namespace Cert.Kernel25Ideal.Proj

open Idealize.ShloMosaic Idealize.ShloMosaic.TcCoe Idealize.SL.Sem
open Idealize.ShloMosaic.Pipeline (Dat)
open Cert.Kernel25Ideal Cert.Kernel25Ideal.Gen

variable (m : (ℓ : Loc nD τ sig) → Buf (Elt Ideal) ℓ)

/-- The derivative of the product of the rows with the weight held as one matrix. -/
abbrev product (H : FVec Ideal S256x2048 .bf16) (D : FVec Ideal S256x4096 .bf16) : FVec Ideal Cert.Reference25Ideal.S2048x4096 .f32 :=
  transpose Cert.Reference25Ideal.S2048x4096 [1, 0] (Host.dotGeneral Cert.Reference25Ideal.dot_S256x4096_S256x2048_S4096x2048_0_0_1_1_n_n none (extf .f32 D Cert.Reference25Ideal.Gen.bitsLt_bf16_f32) (extf .f32 H Cert.Reference25Ideal.Gen.bitsLt_bf16_f32))
    Cert.Reference25Ideal.Gen.transposes_S4096x2048_S2048x4096_1_0

theorem product_apply (H : FVec Ideal S256x2048 .bf16) (D : FVec Ideal S256x4096 .bf16) (j) :
    product H D j = ∑ l : Fin 256, D (ix2 l (j 1)) * H (ix2 l (j 0)) := by
  pointwise [product]

/-- The reference's result over the two arrays: the four groups of columns put one over another. -/
abbrev grouped (H : FVec Ideal S256x2048 .bf16) (D : FVec Ideal S256x4096 .bf16) : FVec Ideal S4x2048x1024 .f32 :=
  addf (addf (addf (pad Cert.Reference25Ideal.S4x2048x1024 ![3, 0, 0] ![0, 0, 0] ![0, 0, 0] (broadcastInDim Cert.Reference25Ideal.S1x2048x1024 ![1, 2]
    Cert.Reference25Ideal.Gen.bcast_S2048x1024_S1x2048x1024_1_2 (extractStridedSlice Cert.Reference25Ideal.S2048x1024 ![0, 3072] (product H D)
    Cert.Reference25Ideal.Gen.slices_S2048x4096_S2048x1024_0_3072)) (constant Cert.Reference25Ideal.S_ .f32 0x00000000#32)
    Cert.Reference25Ideal.Gen.pads_S1x2048x1024_S4x2048x1024_300_000_000 Cert.Reference25Ideal.Gen.h_S_)
    (pad Cert.Reference25Ideal.S4x2048x1024 ![2, 0, 0] ![1, 0, 0] ![0, 0, 0] (broadcastInDim Cert.Reference25Ideal.S1x2048x1024 ![1, 2]
    Cert.Reference25Ideal.Gen.bcast_S2048x1024_S1x2048x1024_1_2 (extractStridedSlice Cert.Reference25Ideal.S2048x1024 ![0, 2048] (product H D)
    Cert.Reference25Ideal.Gen.slices_S2048x4096_S2048x1024_0_2048)) (constant Cert.Reference25Ideal.S_ .f32 0x00000000#32)
    Cert.Reference25Ideal.Gen.pads_S1x2048x1024_S4x2048x1024_210_000_000 Cert.Reference25Ideal.Gen.h_S_))
    (pad Cert.Reference25Ideal.S4x2048x1024 ![1, 0, 0] ![2, 0, 0] ![0, 0, 0] (broadcastInDim Cert.Reference25Ideal.S1x2048x1024 ![1, 2]
    Cert.Reference25Ideal.Gen.bcast_S2048x1024_S1x2048x1024_1_2 (extractStridedSlice Cert.Reference25Ideal.S2048x1024 ![0, 1024] (product H D)
    Cert.Reference25Ideal.Gen.slices_S2048x4096_S2048x1024_0_1024)) (constant Cert.Reference25Ideal.S_ .f32 0x00000000#32)
    Cert.Reference25Ideal.Gen.pads_S1x2048x1024_S4x2048x1024_120_000_000 Cert.Reference25Ideal.Gen.h_S_))
    (pad Cert.Reference25Ideal.S4x2048x1024 ![0, 0, 0] ![3, 0, 0] ![0, 0, 0] (broadcastInDim Cert.Reference25Ideal.S1x2048x1024 ![1, 2]
    Cert.Reference25Ideal.Gen.bcast_S2048x1024_S1x2048x1024_1_2 (extractStridedSlice Cert.Reference25Ideal.S2048x1024 ![0, 0] (product H D)
    Cert.Reference25Ideal.Gen.slices_S2048x4096_S2048x1024_0_0)) (constant Cert.Reference25Ideal.S_ .f32 0x00000000#32)
    Cert.Reference25Ideal.Gen.pads_S1x2048x1024_S4x2048x1024_030_000_000 Cert.Reference25Ideal.Gen.h_S_)

theorem grouped_apply (H : FVec Ideal S256x2048 .bf16) (D : FVec Ideal S256x4096 .bf16) (j : S4x2048x1024.Idx) :
    grouped H D j = ∑ l : Fin 256, D (ix2 l ⟨(j 0).val * 1024 + (j 2).val, by
      have h0 : (j 0).val < 4 := (j 0).isLt
      have h2 : (j 2).val < 1024 := (j 2).isLt
      omega⟩) * H (ix2 l (j 1)) := by
  have h0 : (j 0).val < 4 := (j 0).isLt
  pointwise [grouped, product_apply]
  rcases (by omega : (j 0).val = 0 ∨ (j 0).val = 1 ∨ (j 0).val = 2 ∨ (j 0).val = 3) with e | e | e | e
  all_goals simp [e]

theorem part_apply (x : FVec Ideal S256x1024 .bf16) (y : FVec Ideal S256x1024 .bf16) (j) :
    k0_pay1 (F := Ideal) x y j = ∑ k : Fin 256, x (ix2 k (j 1)) * y (ix2 k (j 2)) := by
  pointwise [k0_pay1]

theorem idx : ∀ t : Fin cfg0.N, win0_0.index t = ![0, t.val / 4] ∧ win0_1.index t = ![0, t.val % 4] ∧ win0_2.index t = ![t.val % 4, t.val / 4, 0] :=
  (by decide +kernel : ∀ t : Fin grid0.N, _)

/-- THE RESULT ARRAY after the run is the reference's. -/
theorem final (c : Dev nD) : (dats m 0 c).arrAt 2 (cfgs 0).N = grouped (m ((c : Thread nD τ).loc main_arg0)) (m ((c : Thread nD τ).loc main_arg1)) := by
  refine (dats m 0 c).arrAt_eq_of_covers 2 _ (by decide +kernel) fun t _ y => ?_
  blk_simp
  rw [after0_2]
  frame_out
  rw [grouped_apply, part_apply]
  refine Finset.sum_congr (M := EReal) rfl fun k _ => ?_
  rw [mul_comm]
  blk_point [iblk, V, idx t]

end Cert.Kernel25Ideal.Proj

end
-- ==== Proof.Claims25.lean ====
/- The claims about the key and value weight's gradient: the runs of the kernel, of its idealized form and of the reference, and the equality of their results. -/
module

public import proofs.«01_k».proof.Defs
public import proofs.«01_k».proof.Proof.Gen.Kernel25.Frame
public import proofs.«01_k».proof.Proof.Gen.Kernel25Ideal.Frame
public import proofs.«01_k».proof.Proof.Gen.Reference25Ideal.Run
public import proofs.«01_k».proof.Proof.Proj25
public import Idealize.ShloMosaic.Lib.Claim
public import Idealize.ShloMosaic.Lib.Quiescent

@[expose] public section

set_option maxRecDepth 16384

noncomputable section

namespace Cert.Claims25

open Idealize.ShloMosaic Idealize.SL.Sem

theorem kernel : Cert.quiescent_Kernel25 := fun m ρ _ => Cert.Kernel25.Gen.frame m ρ

theorem ideal : Cert.quiescent_Kernel25Ideal := fun m ρ _ => Cert.Kernel25Ideal.Gen.frame m ρ

theorem reference : Cert.quiescent_Reference25Ideal := fun m g _ =>
  θ_run_mono (Cert.Reference25Ideal.Value.run m g) fun r h => ⟨fun c => (h c).2, sem_eq_zero_of_no_sems rfl r.2⟩

set_option maxHeartbeats 1600000 in
theorem algebraic : Cert.algebraic_Kernel25Ideal_Reference25Ideal := by
  pair_intro
  · run_from Cert.Kernel25Ideal.Value.run_blocks m g
  · run_from Cert.Reference25Ideal.Value.run m' g'
    exact (Cert.Kernel25Ideal.Proj.final m c).symm

end Cert.Claims25

end
-- ==== Proof.Proj26.lean ====
/- The gradient at the memory's rows: the result is the product that the derivative of the reference's line computes, with the weight's four groups of
   columns side by side. The block is summed over four grid points, each of which takes one group. -/
module

public import proofs.«01_k».proof.Proof.Gen.Kernel26Ideal.Value
public import proofs.«01_k».proof.Proof.Gen.Reference26Ideal.Run
public import Idealize.ShloMosaic.Lib.Pipeline.ValueKit
public import Idealize.ShloMosaic.Lib.Pointwise

@[expose] public section

set_option maxRecDepth 16384

noncomputable section

namespace Cert.Kernel26Ideal.Proj

open Idealize.ShloMosaic Idealize.ShloMosaic.TcCoe Idealize.SL.Sem
open Idealize.ShloMosaic.Pipeline (Dat)
open Cert.Kernel26Ideal Cert.Kernel26Ideal.Gen

variable (m : (ℓ : Loc nD τ sig) → Buf (Elt Ideal) ℓ)

/-- A weight held as four groups of columns, laid out as one matrix. -/
def columns (W : FVec Ideal S4x2048x1024 .bf16) : FVec Ideal Cert.Reference26Ideal.S2048x4096 .f32 :=
  concatenate Cert.Reference26Ideal.S2048x4096 1 [⟨Cert.Reference26Ideal.S2048x1024, (extf .f32 (shapeCast _ (extractStridedSlice Cert.Reference26Ideal.S1x2048x1024 ![0, 0, 0] W Cert.Reference26Ideal.Gen.slices_S4x2048x1024_S1x2048x1024_0_0_0)
      Cert.Reference26Ideal.Gen.shapeCasts_S1x2048x1024_S2048x1024) Cert.Reference26Ideal.Gen.bitsLt_bf16_f32 : FVec Ideal Cert.Reference26Ideal.S2048x1024 .f32)⟩,
    ⟨Cert.Reference26Ideal.S2048x1024, (extf .f32 (shapeCast _ (extractStridedSlice Cert.Reference26Ideal.S1x2048x1024 ![1, 0, 0] W Cert.Reference26Ideal.Gen.slices_S4x2048x1024_S1x2048x1024_1_0_0)
      Cert.Reference26Ideal.Gen.shapeCasts_S1x2048x1024_S2048x1024) Cert.Reference26Ideal.Gen.bitsLt_bf16_f32 : FVec Ideal Cert.Reference26Ideal.S2048x1024 .f32)⟩,
    ⟨Cert.Reference26Ideal.S2048x1024, (extf .f32 (shapeCast _ (extractStridedSlice Cert.Reference26Ideal.S1x2048x1024 ![2, 0, 0] W Cert.Reference26Ideal.Gen.slices_S4x2048x1024_S1x2048x1024_2_0_0)
      Cert.Reference26Ideal.Gen.shapeCasts_S1x2048x1024_S2048x1024) Cert.Reference26Ideal.Gen.bitsLt_bf16_f32 : FVec Ideal Cert.Reference26Ideal.S2048x1024 .f32)⟩,
    ⟨Cert.Reference26Ideal.S2048x1024, (extf .f32 (shapeCast _ (extractStridedSlice Cert.Reference26Ideal.S1x2048x1024 ![3, 0, 0] W Cert.Reference26Ideal.Gen.slices_S4x2048x1024_S1x2048x1024_3_0_0)
      Cert.Reference26Ideal.Gen.shapeCasts_S1x2048x1024_S2048x1024) Cert.Reference26Ideal.Gen.bitsLt_bf16_f32 : FVec Ideal Cert.Reference26Ideal.S2048x1024 .f32)⟩]
    Cert.Reference26Ideal.Gen.concatenates_S2048x1024_S2048x1024_S2048x1024_S2048x1024_S2048x4096_d1

theorem columns_apply (W : FVec Ideal S4x2048x1024 .bf16) (a : Fin 2048) (l : Fin 4096) :
    columns W (ix2 a l) = W (ix3 ⟨l.val / 1024, by omega⟩ a ⟨l.val % 1024, by omega⟩) := by
  pointwise [columns]
  blk_point []

/-- The reference's result over the two arrays. -/
abbrev product (D : FVec Ideal S256x4096 .bf16) (W : FVec Ideal S4x2048x1024 .bf16) : FVec Ideal S256x2048 .f32 :=
  Host.dotGeneral Cert.Reference26Ideal.dot_S256x4096_S2048x4096_S256x2048_1_1_0_0_n_n none (extf .f32 D Cert.Reference26Ideal.Gen.bitsLt_bf16_f32) (columns W)

theorem product_apply (D : FVec Ideal S256x4096 .bf16) (W : FVec Ideal S4x2048x1024 .bf16) (j) :
    product D W j = ∑ l : Fin 4096, D (ix2 (j 0) l) * columns W (ix2 (j 1) l) := by
  pointwise [product]

/-- What a point adds to the block: the product of its rows with one group of columns. -/
theorem part_apply (x : FVec Ideal S256x1024 .bf16) (w : FVec Ideal S1x2048x1024 .bf16) (j) :
    k0_pay1 (F := Ideal) x w j = ∑ k : Fin 1024, x (ix2 (j 0) k) * w (ix3 0 (j 1) k) := by
  pointwise [k0_pay1]

theorem step_apply (x : FVec Ideal S256x1024 .bf16) (w : FVec Ideal S1x2048x1024 .bf16) (acc : FVec Ideal S256x2048 .f32) (j) :
    k0_pay2 (F := Ideal) x w acc j = acc j + k0_pay1 (F := Ideal) x w j := by
  pointwise [k0_pay2]

theorem idx : ∀ t : Fin cfg0.N, win0_0.index t = ![0, t.val % 4] ∧ win0_1.index t = ![t.val % 4, 0, 0] ∧ win0_2.index t = ![0, 0] :=
  (by decide +kernel : ∀ t : Fin grid0.N, _)

/-- THE RESULT ARRAY after the run is the reference's product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
      (fun t j => k0_pay1 (F := Ideal) (iblk m c 0 t) (iblk m c 1 t) j)
      (fun t h j => by rw [outsAt0_A m c t h (by have e : t.val < 4 := t.isLt; omega)]; frame_out; exact (zero_add _).symm)
      (fun t h j => by rw [outsAt0_B m c t h (by omega)]; frame_out; rw [step_apply])
      t ((flush0_2 t).mp hf) _, zero_add, product_apply]
  simp only [part_apply, columns_apply]
  refine Fin.sum_mul_add_congr fun s k hl => ?_
  blk_point [iblk, V, idx t, idx ⟨_, Pipeline.run_point_lt_of_flush t ((flush0_2 t).mp hf) s⟩]

end Cert.Kernel26Ideal.Proj

end
-- ==== Proof.Claims26.lean ====
/- The claims about the memory rows' gradient: the runs of the kernel, of its idealized form and of the reference, and the equality of their results. -/
module

public import proofs.«01_k».proof.Defs
public import proofs.«01_k».proof.Proof.Gen.Kernel26.Frame
public import proofs.«01_k».proof.Proof.Gen.Kernel26Ideal.Frame
public import proofs.«01_k».proof.Proof.Gen.Reference26Ideal.Run
public import proofs.«01_k».proof.Proof.Proj26
public import Idealize.ShloMosaic.Lib.Claim
public import Idealize.ShloMosaic.Lib.Quiescent

@[expose] public section

set_option maxRecDepth 16384

noncomputable section

namespace Cert.Claims26

open Idealize.ShloMosaic Idealize.SL.Sem

theorem kernel : Cert.quiescent_Kernel26 := fun m ρ _ => Cert.Kernel26.Gen.frame m ρ

theorem ideal : Cert.quiescent_Kernel26Ideal := fun m ρ _ => Cert.Kernel26Ideal.Gen.frame m ρ

theorem reference : Cert.quiescent_Reference26Ideal := fun m g _ =>
  θ_run_mono (Cert.Reference26Ideal.Value.run m g) fun r h => ⟨fun c => (h c).2, sem_eq_zero_of_no_sems rfl r.2⟩

set_option maxHeartbeats 1600000 in
theorem algebraic : Cert.algebraic_Kernel26Ideal_Reference26Ideal := by
  pair_intro
  · run_from Cert.Kernel26Ideal.Value.run_blocks m g
  · run_from Cert.Reference26Ideal.Value.run m' g'
    exact (Cert.Kernel26Ideal.Proj.final m c).symm

end Cert.Claims26

end
-- ==== Proof.Proj27.lean ====
/- The gradient at the mixer's input: the result is the product that the derivative of the reference's line computes. Each grid point writes one block of the result once. -/
module

public import proofs.«01_k».proof.Proof.Gen.Kernel27Ideal.Value
public import proofs.«01_k».proof.Proof.Gen.Reference27Ideal.Run
public import Idealize.ShloMosaic.Lib.Pipeline.ValueKit
public import Idealize.ShloMosaic.Lib.Pointwise

@[expose] public section

set_option maxRecDepth 16384

noncomputable section

namespace Cert.Kernel27Ideal.Proj

open Idealize.ShloMosaic Idealize.ShloMosaic.TcCoe Idealize.SL.Sem
open Idealize.ShloMosaic.Pipeline (Dat)
open Cert.Kernel27Ideal Cert.Kernel27Ideal.Gen

variable (m : (ℓ : Loc nD τ sig) → Buf (Elt Ideal) ℓ)

/-- The reference's result over the arrays. -/
abbrev product (H : FVec Ideal S8192x4224 .bf16) (W : FVec Ideal S2048x4224 .bf16) : FVec Ideal S8192x2048 .f32 :=
  Host.dotGeneral Cert.Reference27Ideal.dot_S8192x4224_S2048x4224_S8192x2048_1_1_0_0_n_n none (extf .f32 H Cert.Reference27Ideal.Gen.bitsLt_bf16_f32) (extf .f32 W Cert.Reference27Ideal.Gen.bitsLt_bf16_f32)

theorem idx : ∀ t : Fin cfg0.N, win0_0.index t = ![t.val % 16, 0] ∧ win0_1.index t = ![t.val / 16, 0] ∧ win0_2.index t = ![t.val % 16, t.val / 16] :=
  (by decide +kernel : ∀ t : Fin grid0.N, _)

/-- THE RESULT ARRAY after the run is the reference's. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, product]
  blk_point [iblk, V, idx t]

end Cert.Kernel27Ideal.Proj

end
-- ==== Proof.Claims27.lean ====
/- The claims about the mixer projection's input gradient: the runs of the kernel, of its idealized form and of the reference, and the equality of their results. -/
module

public import proofs.«01_k».proof.Defs
public import proofs.«01_k».proof.Proof.Gen.Kernel27.Frame
public import proofs.«01_k».proof.Proof.Gen.Kernel27Ideal.Frame
public import proofs.«01_k».proof.Proof.Gen.Reference27Ideal.Run
public import proofs.«01_k».proof.Proof.Proj27
public import Idealize.ShloMosaic.Lib.Claim
public import Idealize.ShloMosaic.Lib.Quiescent

@[expose] public section

set_option maxRecDepth 16384

noncomputable section

namespace Cert.Claims27

open Idealize.ShloMosaic Idealize.SL.Sem

theorem kernel : Cert.quiescent_Kernel27 := fun m ρ _ => Cert.Kernel27.Gen.frame m ρ

theorem ideal : Cert.quiescent_Kernel27Ideal := fun m ρ _ => Cert.Kernel27Ideal.Gen.frame m ρ

theorem reference : Cert.quiescent_Reference27Ideal := fun m g _ =>
  θ_run_mono (Cert.Reference27Ideal.Value.run m g) fun r h => ⟨fun c => (h c).2, sem_eq_zero_of_no_sems rfl r.2⟩

set_option maxHeartbeats 1600000 in
theorem algebraic : Cert.algebraic_Kernel27Ideal_Reference27Ideal := by
  pair_intro
  · run_from Cert.Kernel27Ideal.Value.run_blocks m g
  · run_from Cert.Reference27Ideal.Value.run m' g'
    exact (Cert.Kernel27Ideal.Proj.final m c).symm

end Cert.Claims27

end
-- ==== Proof.Proj28.lean ====
/- The gradient of the mixer's input projection: the result is the product that the derivative of the reference's line computes. Each block is summed
   over four grid points, each of which takes 2048 of the 8192 rows. -/
module

public import proofs.«01_k».proof.Proof.Gen.Kernel28Ideal.Value
public import proofs.«01_k».proof.Proof.Gen.Reference28Ideal.Run
public import Idealize.ShloMosaic.Lib.Pipeline.ValueKit
public import Idealize.ShloMosaic.Lib.Pointwise

@[expose] public section

set_option maxRecDepth 16384

noncomputable section

namespace Cert.Kernel28Ideal.Proj

open Idealize.ShloMosaic Idealize.ShloMosaic.TcCoe Idealize.SL.Sem
open Idealize.ShloMosaic.Pipeline (Dat)
open Cert.Kernel28Ideal Cert.Kernel28Ideal.Gen

variable (m : (ℓ : Loc nD τ sig) → Buf (Elt Ideal) ℓ)

/-- The reference's result over the two arrays. -/
abbrev product (H : FVec Ideal S8192x2048 .bf16) (D : FVec Ideal S8192x4224 .bf16) : FVec Ideal S2048x4224 .f32 :=
  transpose Cert.Reference28Ideal.S2048x4224 [1, 0] (Host.dotGeneral Cert.Reference28Ideal.dot_S8192x4224_S8192x2048_S4224x2048_0_0_1_1_n_n none (extf .f32 D Cert.Reference28Ideal.Gen.bitsLt_bf16_f32) (extf .f32 H Cert.Reference28Ideal.Gen.bitsLt_bf16_f32))
    Cert.Reference28Ideal.Gen.transposes_S4224x2048_S2048x4224_1_0

theorem product_apply (H : FVec Ideal S8192x2048 .bf16) (D : FVec Ideal S8192x4224 .bf16) (j) :
    product H D j = ∑ l : Fin 8192, D (ix2 l (j 1)) * H (ix2 l (j 0)) := by
  pointwise [product]

/-- What a point adds to the block: the product of its blocks over 2048 rows. -/
theorem part_apply (x : FVec Ideal S2048x1024 .bf16) (y : FVec Ideal S2048x1408 .bf16) (j) :
    k0_pay1 (F := Ideal) x y j = ∑ k : Fin 2048, x (ix2 k (j 0)) * y (ix2 k (j 1)) := by
  pointwise [k0_pay1]

theorem idx : ∀ t : Fin cfg0.N, win0_0.index t = ![t.val % 4, t.val / 12] ∧ win0_1.index t = ![t.val % 4, t.val / 4 % 3] ∧ win0_2.index t = ![t.val / 12, t.val / 4 % 3] :=
  (by decide +kernel : ∀ t : Fin grid0.N, _)

theorem step_apply (x : FVec Ideal S2048x1024 .bf16) (y : FVec Ideal S2048x1408 .bf16) (acc : FVec Ideal S1024x1408 .f32) (j) :
    k0_pay2 (F := Ideal) x y acc j = acc j + k0_pay1 (F := Ideal) x y j := by
  pointwise [k0_pay2]

/-- THE RESULT ARRAY after the run is the reference's product. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
      (fun t j => k0_pay1 (F := Ideal) (iblk m c 0 t) (iblk m c 1 t) j)
      (fun t h j => by rw [outsAt0_A m c t h (by omega)]; frame_out; exact (zero_add _).symm)
      (fun t h j => by rw [outsAt0_B m c t h (by omega)]; frame_out; rw [step_apply])
      t ((flush0_2 t).mp hf) _, zero_add, product_apply]
  simp only [part_apply]
  refine Fin.sum_mul_add_congr fun s k hl => ?_
  rw [mul_comm]
  blk_point [iblk, V, idx t, idx ⟨_, Pipeline.run_point_lt_of_flush t ((flush0_2 t).mp hf) s⟩]

end Cert.Kernel28Ideal.Proj

end
-- ==== Proof.Claims28.lean ====
/- The claims about the mixer projection's weight gradient: the runs of the kernel, of its idealized form and of the reference, and the equality of their results. -/
module

public import proofs.«01_k».proof.Defs
public import proofs.«01_k».proof.Proof.Gen.Kernel28.Frame
public import proofs.«01_k».proof.Proof.Gen.Kernel28Ideal.Frame
public import proofs.«01_k».proof.Proof.Gen.Reference28Ideal.Run
public import proofs.«01_k».proof.Proof.Proj28
public import Idealize.ShloMosaic.Lib.Claim
public import Idealize.ShloMosaic.Lib.Quiescent

@[expose] public section

set_option maxRecDepth 16384

noncomputable section

namespace Cert.Claims28

open Idealize.ShloMosaic Idealize.SL.Sem

theorem kernel : Cert.quiescent_Kernel28 := fun m ρ _ => Cert.Kernel28.Gen.frame m ρ

theorem ideal : Cert.quiescent_Kernel28Ideal := fun m ρ _ => Cert.Kernel28Ideal.Gen.frame m ρ

theorem reference : Cert.quiescent_Reference28Ideal := fun m g _ =>
  θ_run_mono (Cert.Reference28Ideal.Value.run m g) fun r h => ⟨fun c => (h c).2, sem_eq_zero_of_no_sems rfl r.2⟩

set_option maxHeartbeats 1600000 in
theorem algebraic : Cert.algebraic_Kernel28Ideal_Reference28Ideal := by
  pair_intro
  · run_from Cert.Kernel28Ideal.Value.run_blocks m g
  · run_from Cert.Reference28Ideal.Value.run m' g'
    exact (Cert.Kernel28Ideal.Proj.final m c).symm

end Cert.Claims28

end
-- ==== Proof.Norm29.lean ====
/- The norm of the rows going forward: the kernel leaves the reference's normed rows in its result array. Each grid point writes one block of the result once. -/
module

public import proofs.«01_k».proof.Proof.Gen.Kernel29Ideal.Value
public import proofs.«01_k».proof.Proof.Gen.Reference29Ideal.Run
public import Idealize.ShloMosaic.Lib.Pipeline.ValueKit
public import Idealize.ShloMosaic.Lib.Pointwise

@[expose] public section

set_option maxRecDepth 16384

noncomputable section

namespace Cert.Kernel29Ideal.Norm

open Idealize.ShloMosaic Idealize.ShloMosaic.TcCoe Idealize.SL.Sem
open Idealize.ShloMosaic.Pipeline (Dat)
open Cert.Kernel29Ideal Cert.Kernel29Ideal.Gen

variable (m : (ℓ : Loc nD τ sig) → Buf (Elt Ideal) ℓ)

/-- The reference's normed rows. -/
abbrev normed (X : FVec Ideal S8192x2048 .f32) (G : FVec Ideal S1x2048 .f32) : FVec Ideal S8192x2048 .bf16 :=
  truncf .bf16 (shapeCast _ (mulf (mulf (broadcastInDim Cert.Reference29Ideal.S1x8192x2048 ![1, 2] Cert.Reference29Ideal.Gen.bcast_S8192x2048_S1x8192x2048_1_2 X)
      (broadcastInDim Cert.Reference29Ideal.S1x8192x2048 ![0, 1, 2] Cert.Reference29Ideal.Gen.bcast_S1x8192x1_S1x8192x2048_0_1_2 (Host.rsqrt (addf
        (Host.divf (broadcastInDim Cert.Reference29Ideal.S1x8192x1 ![0, 1] Cert.Reference29Ideal.Gen.bcast_S1x8192_S1x8192x1_0_1 (Host.reduceAdd (mulf (broadcastInDim Cert.Reference29Ideal.S1x8192x2048 ![1, 2] Cert.Reference29Ideal.Gen.bcast_S8192x2048_S1x8192x2048_1_2 X) (broadcastInDim Cert.Reference29Ideal.S1x8192x2048 ![1, 2] Cert.Reference29Ideal.Gen.bcast_S8192x2048_S1x8192x2048_1_2 X))
          (constant Cert.Reference29Ideal.S_ .f32 0x00000000#32) Cert.Reference29Ideal.Gen.reducesTo_S1x8192x2048_S1x8192_d2 Cert.Reference29Ideal.Gen.h_S_))
          (broadcastInDim Cert.Reference29Ideal.S1x8192x1 ![] Cert.Reference29Ideal.Gen.bcast_S_S1x8192x1 (constant Cert.Reference29Ideal.S_ .f32 0x45000000#32)))
        (broadcastInDim Cert.Reference29Ideal.S1x8192x1 ![] Cert.Reference29Ideal.Gen.bcast_S_S1x8192x1 (constant Cert.Reference29Ideal.S_ .f32 0x358637BD#32))))))
      (broadcastInDim Cert.Reference29Ideal.S1x8192x2048 ![0, 1, 2] Cert.Reference29Ideal.Gen.bcast_S1x1x2048_S1x8192x2048_0_1_2
        (broadcastInDim Cert.Reference29Ideal.S1x1x2048 ![1, 2] Cert.Reference29Ideal.Gen.bcast_S1x2048_S1x1x2048_1_2 G)))
    Cert.Reference29Ideal.Gen.shapeCasts_S1x8192x2048_S8192x2048) Cert.Reference29Ideal.Gen.bitsLt_bf16_f32

/-- The mean of the squares of one row, with the norm's small constant added. -/
def den (x : Fin 2048 → EReal) : EReal :=
  Ideal.div (∑ k, x k * x k) (Ideal.ofBits .f32 0x45000000#32) + Ideal.ofBits .f32 0x358637BD#32

theorem normed_apply (X : FVec Ideal S8192x2048 .f32) (G : FVec Ideal S1x2048 .f32) (j) :
    normed X G j = X (ix2 (j 0) (j 1)) * Ideal.rsqrt (den fun k => X (ix2 (j 0) k)) * G (ix2 0 (j 1)) := by
  unfold den
  pointwise [normed]

theorem block_apply (X : Vec Ideal S512x2048 .f32) (G : Vec Ideal S1x2048 .f32) (j) :
    k0_pay1 (F := Ideal) X G j = (X (ix2 (j 0) (j 1)) * Ideal.rsqrt (den fun k => X (ix2 (j 0) k)) * G (ix2 0 (j 1)) : EReal) := by
  unfold den
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- THE RESULT ARRAY after the run is the reference's. -/
theorem final (c : Dev nD) : (dats m 0 c).arrAt 2 (cfgs 0).N = normed (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (block_apply _ _ _).trans (Eq.trans ?_ (normed_apply _ _ _).symm)
  refine congrArg₂ (· * ·) (congrArg₂ (· * ·) ?_ (congrArg (fun f => Ideal.rsqrt (den f)) (funext fun l => ?_))) ?_
  all_goals blk_point [iblk, V, idx t]

end Cert.Kernel29Ideal.Norm

end
-- ==== Proof.Claims29.lean ====
/- The claims about the norm going forward: the runs of the kernel, of its idealized form and of the reference, and the equality of their results. -/
module

public import proofs.«01_k».proof.Defs
public import proofs.«01_k».proof.Proof.Gen.Kernel29.Frame
public import proofs.«01_k».proof.Proof.Gen.Kernel29Ideal.Frame
public import proofs.«01_k».proof.Proof.Gen.Reference29Ideal.Run
public import proofs.«01_k».proof.Proof.Norm29
public import Idealize.ShloMosaic.Lib.Claim
public import Idealize.ShloMosaic.Lib.Quiescent

@[expose] public section

set_option maxRecDepth 16384

noncomputable section

namespace Cert.Claims29

open Idealize.ShloMosaic Idealize.SL.Sem

theorem kernel : Cert.quiescent_Kernel29 := fun m ρ _ => Cert.Kernel29.Gen.frame m ρ

theorem ideal : Cert.quiescent_Kernel29Ideal := fun m ρ _ => Cert.Kernel29Ideal.Gen.frame m ρ

theorem reference : Cert.quiescent_Reference29Ideal := fun m g _ =>
  θ_run_mono (Cert.Reference29Ideal.Value.run m g) fun r h => ⟨fun c => (h c).2, sem_eq_zero_of_no_sems rfl r.2⟩

set_option maxHeartbeats 1600000 in
theorem algebraic : Cert.algebraic_Kernel29Ideal_Reference29Ideal := by
  pair_intro
  · run_from Cert.Kernel29Ideal.Value.run_blocks m g
  · run_from Cert.Reference29Ideal.Value.run m' g'
    exact (Cert.Kernel29Ideal.Norm.final m c).symm

end Cert.Claims29

end
-- ==== Proof.Norm30.lean ====
/- The norm of the memory's rows going forward: the kernel leaves the reference's normed rows in its result array. Each grid point writes one block of the result once. -/
module

public import proofs.«01_k».proof.Proof.Gen.Kernel30Ideal.Value
public import proofs.«01_k».proof.Proof.Gen.Reference30Ideal.Run
public import Idealize.ShloMosaic.Lib.Pipeline.ValueKit
public import Idealize.ShloMosaic.Lib.Pointwise

@[expose] public section

set_option maxRecDepth 16384

noncomputable section

namespace Cert.Kernel30Ideal.Norm

open Idealize.ShloMosaic Idealize.ShloMosaic.TcCoe Idealize.SL.Sem
open Idealize.ShloMosaic.Pipeline (Dat)
open Cert.Kernel30Ideal Cert.Kernel30Ideal.Gen

variable (m : (ℓ : Loc nD τ sig) → Buf (Elt Ideal) ℓ)

/-- The reference's normed rows. -/
abbrev normed (X : FVec Ideal S256x2048 .f32) (G : FVec Ideal S1x2048 .f32) : FVec Ideal S256x2048 .bf16 :=
  truncf .bf16 (shapeCast _ (mulf (mulf (broadcastInDim Cert.Reference30Ideal.S1x256x2048 ![1, 2] Cert.Reference30Ideal.Gen.bcast_S256x2048_S1x256x2048_1_2 X)
      (broadcastInDim Cert.Reference30Ideal.S1x256x2048 ![0, 1, 2] Cert.Reference30Ideal.Gen.bcast_S1x256x1_S1x256x2048_0_1_2 (Host.rsqrt (addf
        (Host.divf (broadcastInDim Cert.Reference30Ideal.S1x256x1 ![0, 1] Cert.Reference30Ideal.Gen.bcast_S1x256_S1x256x1_0_1 (Host.reduceAdd (mulf (broadcastInDim Cert.Reference30Ideal.S1x256x2048 ![1, 2] Cert.Reference30Ideal.Gen.bcast_S256x2048_S1x256x2048_1_2 X) (broadcastInDim Cert.Reference30Ideal.S1x256x2048 ![1, 2] Cert.Reference30Ideal.Gen.bcast_S256x2048_S1x256x2048_1_2 X))
          (constant Cert.Reference30Ideal.S_ .f32 0x00000000#32) Cert.Reference30Ideal.Gen.reducesTo_S1x256x2048_S1x256_d2 Cert.Reference30Ideal.Gen.h_S_))
          (broadcastInDim Cert.Reference30Ideal.S1x256x1 ![] Cert.Reference30Ideal.Gen.bcast_S_S1x256x1 (constant Cert.Reference30Ideal.S_ .f32 0x45000000#32)))
        (broadcastInDim Cert.Reference30Ideal.S1x256x1 ![] Cert.Reference30Ideal.Gen.bcast_S_S1x256x1 (constant Cert.Reference30Ideal.S_ .f32 0x358637BD#32))))))
      (broadcastInDim Cert.Reference30Ideal.S1x256x2048 ![0, 1, 2] Cert.Reference30Ideal.Gen.bcast_S1x1x2048_S1x256x2048_0_1_2
        (broadcastInDim Cert.Reference30Ideal.S1x1x2048 ![1, 2] Cert.Reference30Ideal.Gen.bcast_S1x2048_S1x1x2048_1_2 G)))
    Cert.Reference30Ideal.Gen.shapeCasts_S1x256x2048_S256x2048) Cert.Reference30Ideal.Gen.bitsLt_bf16_f32

/-- The mean of the squares of one row, with the norm's small constant added. -/
def den (x : Fin 2048 → EReal) : EReal :=
  Ideal.div (∑ k, x k * x k) (Ideal.ofBits .f32 0x45000000#32) + Ideal.ofBits .f32 0x358637BD#32

theorem normed_apply (X : FVec Ideal S256x2048 .f32) (G : FVec Ideal S1x2048 .f32) (j) :
    normed X G j = X (ix2 (j 0) (j 1)) * Ideal.rsqrt (den fun k => X (ix2 (j 0) k)) * G (ix2 0 (j 1)) := by
  unfold den
  pointwise [normed]

theorem block_apply (X : Vec Ideal S256x2048 .f32) (G : Vec Ideal S1x2048 .f32) (j) :
    k0_pay1 (F := Ideal) X G j = (X (ix2 (j 0) (j 1)) * Ideal.rsqrt (den fun k => X (ix2 (j 0) k)) * G (ix2 0 (j 1)) : EReal) := by
  unfold den
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

/-- THE RESULT ARRAY after the run is the reference's. -/
theorem final (c : Dev nD) : (dats m 0 c).arrAt 2 (cfgs 0).N = normed (m ((c : Thread nD τ).loc main_arg0)) (m ((c : Thread nD τ).loc main_arg1)) := by
  refine (dats m 0 c).arrAt_eq_of_covers 2 _ (by decide +kernel) fun t _ y => ?_
  blk_simp
  rw [after0_2]
  frame_out
  refine (block_apply _ _ _).trans (Eq.trans ?_ (normed_apply _ _ _).symm)
  refine congrArg₂ (· * ·) (congrArg₂ (· * ·) ?_ (congrArg (fun f => Ideal.rsqrt (den f)) (funext fun l => ?_))) ?_
  all_goals blk_point [iblk, V, idx t]

end Cert.Kernel30Ideal.Norm

end
-- ==== Proof.Claims30.lean ====
/- The claims about the norm of the memory going forward: the runs of the kernel, of its idealized form and of the reference, and the equality of their results. -/
module

public import proofs.«01_k».proof.Defs
public import proofs.«01_k».proof.Proof.Gen.Kernel30.Frame
public import proofs.«01_k».proof.Proof.Gen.Kernel30Ideal.Frame
public import proofs.«01_k».proof.Proof.Gen.Reference30Ideal.Run
public import proofs.«01_k».proof.Proof.Norm30
public import Idealize.ShloMosaic.Lib.Claim
public import Idealize.ShloMosaic.Lib.Quiescent

@[expose] public section

set_option maxRecDepth 16384

noncomputable section

namespace Cert.Claims30

open Idealize.ShloMosaic Idealize.SL.Sem

theorem kernel : Cert.quiescent_Kernel30 := fun m ρ _ => Cert.Kernel30.Gen.frame m ρ

theorem ideal : Cert.quiescent_Kernel30Ideal := fun m ρ _ => Cert.Kernel30Ideal.Gen.frame m ρ

theorem reference : Cert.quiescent_Reference30Ideal := fun m g _ =>
  θ_run_mono (Cert.Reference30Ideal.Value.run m g) fun r h => ⟨fun c => (h c).2, sem_eq_zero_of_no_sems rfl r.2⟩

set_option maxHeartbeats 1600000 in
theorem algebraic : Cert.algebraic_Kernel30Ideal_Reference30Ideal := by
  pair_intro
  · run_from Cert.Kernel30Ideal.Value.run_blocks m g
  · run_from Cert.Reference30Ideal.Value.run m' g'
    exact (Cert.Kernel30Ideal.Norm.final m c).symm

end Cert.Claims30

end
-- ==== Proof.Attend.lean ====
/- The attention over the memory going forward: each head's rows of the result are its weights' products with the values. Each grid point writes its four heads' parts of a block once. -/
module

public import proofs.«01_k».proof.Proof.Gen.Kernel31Ideal.Value
public import proofs.«01_k».proof.Proof.Gen.Reference31Ideal.Run
public import Idealize.ShloMosaic.Lib.Pipeline.ValueKit
public import Idealize.ShloMosaic.Lib.Pointwise

@[expose] public section

set_option maxRecDepth 16384

noncomputable section

namespace Cert.Kernel31Ideal.Attend

open Idealize.ShloMosaic Idealize.ShloMosaic.TcCoe Idealize.SL.Sem
open Idealize.ShloMosaic.Pipeline (Dat)
open Cert.Kernel31Ideal Cert.Kernel31Ideal.Gen

variable (m : (ℓ : Loc nD τ sig) → Buf (Elt Ideal) ℓ)

section Terms
open Cert.Reference31Ideal Cert.Reference31Ideal.Gen

/-! ## The reference's terms -/

abbrev qv (Q : FVec Ideal S8192x2048 .bf16) : FVec Ideal S1x8192x4x512 .f32 :=
  shapeCast _ (extf .f32 (broadcastInDim S1x8192x2048 ![1, 2] bcast_S8192x2048_S1x8192x2048_1_2 Q) Cert.Reference31Ideal.Gen.bitsLt_bf16_f32) shapeCasts_S1x8192x2048_S1x8192x4x512

abbrev kvv (KV : FVec Ideal S256x4096 .bf16) : FVec Ideal S1x256x2x4x512 .f32 :=
  shapeCast _ (extf .f32 (broadcastInDim S1x256x4096 ![1, 2] bcast_S256x4096_S1x256x4096_1_2 KV) Cert.Reference31Ideal.Gen.bitsLt_bf16_f32) shapeCasts_S1x256x4096_S1x256x2x4x512

abbrev kk (KV : FVec Ideal S256x4096 .bf16) : FVec Ideal S1x256x4x512 .f32 :=
  shapeCast _ (extractStridedSlice S1x256x1x4x512 ![0, 0, 0, 0, 0] (kvv KV) slices_S1x256x2x4x512_S1x256x1x4x512_0_0_0_0_0) shapeCasts_S1x256x1x4x512_S1x256x4x512

abbrev vv (KV : FVec Ideal S256x4096 .bf16) : FVec Ideal S1x256x4x512 .f32 :=
  shapeCast _ (extractStridedSlice S1x256x1x4x512 ![0, 0, 1, 0, 0] (kvv KV) slices_S1x256x2x4x512_S1x256x1x4x512_0_0_1_0_0) shapeCasts_S1x256x1x4x512_S1x256x4x512

abbrev scores (Q : FVec Ideal S8192x2048 .bf16) (KV : FVec Ideal S256x4096 .bf16) : FVec Ideal S1x4x8192x256 .f32 :=
  mulf (Host.dotGeneral dot_S1x8192x4x512_S1x256x4x512_S1x4x8192x256_3_3_1_1_02_02 none (qv Q) (kk KV)) (broadcastInDim S1x4x8192x256 ![] bcast_S_S1x4x8192x256 (constant S_ .f32 0x3D3504F3#32))

abbrev tops (Q : FVec Ideal S8192x2048 .bf16) (KV : FVec Ideal S256x4096 .bf16) : FVec Ideal S1x4x8192 .f32 :=
  maximumf (broadcastInDim S1x4x8192 ![] bcast_S_S1x4x8192 (constant S_ .f32 0xFF800000#32)) (Host.reduce FloatOps.maximumf (scores Q KV) (constant S_ .f32 0xFF800000#32) reducesTo_S1x4x8192x256_S1x4x8192_d3 h_S_)

abbrev exps (Q : FVec Ideal S8192x2048 .bf16) (KV : FVec Ideal S256x4096 .bf16) : FVec Ideal S1x4x8192x256 .f32 :=
  Host.exp (subf (scores Q KV) (broadcastInDim S1x4x8192x256 ![0, 1, 2, 3] bcast_S1x4x8192x1_S1x4x8192x256_0_1_2_3 (broadcastInDim S1x4x8192x1 ![0, 1, 2] bcast_S1x4x8192_S1x4x8192x1_0_1_2 (tops Q KV))))

abbrev sums (Q : FVec Ideal S8192x2048 .bf16) (KV : FVec Ideal S256x4096 .bf16) : FVec Ideal S1x4x8192x1 .f32 :=
  broadcastInDim S1x4x8192x1 ![0, 1, 2] bcast_S1x4x8192_S1x4x8192x1_0_1_2 (Host.reduceAdd (exps Q KV) (constant S_ .f32 0x00000000#32) reducesTo_S1x4x8192x256_S1x4x8192_d3 h_S_)

abbrev probs (Q : FVec Ideal S8192x2048 .bf16) (KV : FVec Ideal S256x4096 .bf16) : FVec Ideal S1x4x8192x256 .f32 :=
  Host.divf (exps Q KV) (broadcastInDim S1x4x8192x256 ![0, 1, 2, 3] bcast_S1x4x8192x1_S1x4x8192x256_0_1_2_3 (sums Q KV))

/-- The attention's result. -/
abbrev attended (Q : FVec Ideal S8192x2048 .bf16) (KV : FVec Ideal S256x4096 .bf16) : FVec Ideal S8192x2048 .bf16 :=
  truncf .bf16 (shapeCast _ (shapeCast _ (transpose S1x8192x4x512 [0, 3, 1, 2] (Host.dotGeneral dot_S1x256x4x512_S1x4x8192x256_S1x4x512x8192_1_3_3_2_02_01 none (vv KV) (probs Q KV)) transposes_S1x4x512x8192_S1x8192x4x512_0_3_1_2) shapeCasts_S1x8192x4x512_S1x8192x2048) shapeCasts_S1x8192x2048_S8192x2048) Cert.Reference31Ideal.Gen.bitsLt_bf16_f32

/-! ## One row of 256 scores -/

/-- The largest score of a row. -/
def top (s : Fin 256 → EReal) : EReal := Finset.univ.fold max (Ideal.ofBits .f32 0xFF800000#32) s

/-- The exponential of a score, less the largest. -/
def ex (s : Fin 256 → EReal) (k : Fin 256) : EReal := Ideal.exp (s k - top s)

/-- The row's sum of exponentials. -/
def den (s : Fin 256 → EReal) : EReal := ∑ k, ex s k

/-- The weight of a position. -/
def soft (s : Fin 256 → EReal) (k : Fin 256) : EReal := Ideal.div (ex s k) (den s)

theorem bottom : Ideal.ofBits .f32 0xFF800000#32 = ⊥ := by simp [Ideal.ofBits, Ideal.ieee]

theorem max_bottom (x : EReal) : max (Ideal.ofBits .f32 0xFF800000#32) x = x := by rw [bottom]; exact max_eq_right bot_le

/-! ## The reference's terms at an index -/

/-- A row of scores of one head. -/
def sc (Q : FVec Ideal S8192x2048 .bf16) (KV : FVec Ideal S256x4096 .bf16) (h : Fin 4) (r : Fin 8192) (m : Fin 256) : EReal :=
  (∑ d : Fin 512, Q (ix2 r (⟨h.val * 512 + d.val, by omega⟩ : Fin 2048)) * KV (ix2 m (⟨h.val * 512 + d.val, by omega⟩ : Fin 4096)) : EReal) * Ideal.ofBits .f32 0x3D3504F3#32

variable (Q : FVec Ideal S8192x2048 .bf16) (KV : FVec Ideal S256x4096 .bf16)

theorem scores_apply (h : Fin 4) (r : Fin 8192) (m : Fin 256) : scores Q KV (ix4 0 h r m) = sc Q KV h r m := by
  pointwise [sc]

theorem host_top (S : FVec Ideal S1x4x8192x256 .f32) (h : Fin 4) (r : Fin 8192) :
    Host.reduce FloatOps.maximumf S (constant S_ .f32 0xFF800000#32) reducesTo_S1x4x8192x256_S1x4x8192_d3 h_S_ (ix3 0 h r)
      = (Finset.univ.fold max (Ideal.ofBits .f32 0xFF800000#32) fun m : Fin 256 => S (ix4 0 h r m) : EReal) := by
  pointwise []

theorem with_bottom (R : FVec Ideal S1x4x8192 .f32) (j : S1x4x8192.Idx) :
    maximumf (broadcastInDim S1x4x8192 ![] bcast_S_S1x4x8192 (constant S_ .f32 0xFF800000#32)) R j = (R j : EReal) :=
  max_bottom (R j)

theorem tops_apply (h : Fin 4) (r : Fin 8192) : tops Q KV (ix3 0 h r) = top (sc Q KV h r) := by
  refine (with_bottom _ _).trans ((host_top _ h r).trans ?_)
  unfold top
  exact congrArg (fun f => Finset.univ.fold max (Ideal.ofBits .f32 0xFF800000#32) f) (funext fun m => scores_apply Q KV h r m)

theorem exps_apply (h : Fin 4) (r : Fin 8192) (m : Fin 256) : exps Q KV (ix4 0 h r m) = ex (sc Q KV h r) m := by
  unfold ex
  rw [← scores_apply, ← tops_apply]
  unfold exps
  generalize tops Q KV = T
  generalize scores Q KV = S
  pointwise []

theorem sums_apply (h : Fin 4) (r : Fin 8192) : sums Q KV (ix4 0 h r 0) = den (sc Q KV h r) := by
  have e : (fun m => exps Q KV (ix4 0 h r m)) = ex (sc Q KV h r) := funext fun m => exps_apply Q KV h r m
  unfold den
  rw [← e]
  unfold sums
  generalize exps Q KV = E
  pointwise []

theorem probs_apply (h : Fin 4) (r : Fin 8192) (m : Fin 256) : probs Q KV (ix4 0 h r m) = soft (sc Q KV h r) m := by
  unfold soft
  rw [← exps_apply, ← sums_apply]
  unfold probs
  generalize exps Q KV = E
  generalize sums Q KV = L
  pointwise []

theorem attended_apply (r : Fin 8192) (h : Fin 4) (d : Fin 512) : attended Q KV (ix2 r (⟨h.val * 512 + d.val, by omega⟩ : Fin 2048))
    = ∑ n : Fin 256, soft (sc Q KV h r) n * KV (ix2 n (⟨2048 + (h.val * 512 + d.val), by omega⟩ : Fin 4096)) := by
  simp only [← probs_apply]
  unfold attended
  generalize probs Q KV = P
  pointwise []
  refine Finset.sum_congr (M := EReal) rfl fun n _ => ?_
  rw [mul_comm]
  blk_point []

end Terms

/-! ## One head of a block -/

theorem pay3_apply (q : Vec Ideal S512x512 .bf16) (k : Vec Ideal S256x512 .bf16) (i : Fin 512) (n : Fin 256) :
    k0_pay3 (F := Ideal) q k (ix2 i n) = (∑ d : Fin 512, q (ix2 i d) * k (ix2 n d) : EReal) * Ideal.ofBits .f32 0x3D3504F3#32 := by
  pointwise [k0_pay3]

theorem pay8_apply (s : Vec Ideal S512x256 .f32) (v : Vec Ideal S256x512 .bf16) (i d : Fin 512) :
    k0_pay8 (F := Ideal) s v (ix2 i d) = (∑ n : Fin 256, soft (fun n => s (ix2 i n)) n * v (ix2 n d) : EReal) := by
  unfold soft den ex top
  pointwise [k0_pay8]

theorem pay1_apply (o : Vec Ideal S512x512 .f32) (j : S512x512.Idx) : k0_pay1 (F := Ideal) o j = (o j : EReal) := by
  pointwise [k0_pay1]

/-- A head's rows of a block of the result. -/
abbrev O (q : Vec Ideal S512x512 .bf16) (k v : Vec Ideal S256x512 .bf16) : Vec Ideal S512x512 .bf16 := k0_pay1 (F := Ideal) (k0_pay8 (F := Ideal) (k0_pay3 (F := Ideal) q k) v)

/-! The heads' payloads are the same terms under names of their own. -/

theorem same0 (q : Vec Ideal S512x512 .bf16) (k v : Vec Ideal S256x512 .bf16) : k0_pay10 (F := Ideal) (k0_pay6 (F := Ideal) q k) v = O q k v := rfl
theorem same1 (q : Vec Ideal S512x512 .bf16) (k v : Vec Ideal S256x512 .bf16) : k0_pay11 (F := Ideal) (k0_pay3 (F := Ideal) q k) (k0_pay7 (F := Ideal) q k) v = O q k v := rfl
theorem same2 (q : Vec Ideal S512x512 .bf16) (k v : Vec Ideal S256x512 .bf16) : k0_pay1 (F := Ideal) (k0_pay8 (F := Ideal) (k0_pay4 (F := Ideal) q k) v) = O q k v := rfl
theorem same3 (q : Vec Ideal S512x512 .bf16) (k v : Vec Ideal S256x512 .bf16) : k0_pay2 (F := Ideal) (k0_pay9 (F := Ideal) (k0_pay5 (F := Ideal) q k) v) = O q k v := rfl

/-- The operands of head `h` at grid point `T` are the arrays' parts. -/
structure Head (Q : FVec Ideal S8192x2048 .bf16) (KV : FVec Ideal S256x4096 .bf16) (T : Fin 16) (h : Fin 4)
    (q : Vec Ideal S512x512 .bf16) (k v : Vec Ideal S256x512 .bf16) : Prop where
  hq : ∀ (i d : Fin 512), q (ix2 i d) = Q (ix2 (⟨T.val * 512 + i.val, by omega⟩ : Fin 8192) (⟨h.val * 512 + d.val, by omega⟩ : Fin 2048))
  hk : ∀ (n : Fin 256) (d : Fin 512), k (ix2 n d) = KV (ix2 n (⟨h.val * 512 + d.val, by omega⟩ : Fin 4096))
  hv : ∀ (n : Fin 256) (d : Fin 512), v (ix2 n d) = KV (ix2 n (⟨2048 + (h.val * 512 + d.val), by omega⟩ : Fin 4096))

/-- A head's rows of the result. -/
theorem Head.rows {Q : FVec Ideal S8192x2048 .bf16} {KV : FVec Ideal S256x4096 .bf16} {T : Fin 16} {h : Fin 4}
    {q : Vec Ideal S512x512 .bf16} {k v : Vec Ideal S256x512 .bf16} (H : Head Q KV T h q k v) (x : S512x512.Idx) (j : S8192x2048.Idx)
    (h0 : (j 0).val = T.val * 512 + (x 0).val) (h1 : (j 1).val = h.val * 512 + (x 1).val) : O q k v x = attended Q KV j := by
  have b0 : (x 0).val < 512 := (x 0).isLt
  have b1 : (x 1).val < 512 := (x 1).isLt
  have e : j = ix2 (⟨T.val * 512 + (x 0).val, by omega⟩ : Fin 8192) (⟨h.val * 512 + (x 1).val, by omega⟩ : Fin 2048) :=
    (eq_ix2 j).trans (congrArg₂ ix2 (Fin.ext h0) (Fin.ext h1))
  rw [e]
  refine ((pay1_apply _ x).trans ((congrArg _ (eq_ix2 x)).trans (pay8_apply _ _ (x 0) (x 1)))).trans ((attended_apply Q KV _ h (x 1)).trans ?_).symm
  refine Finset.sum_congr (M := EReal) rfl fun n _ => congrArg₂ (· * ·) (congrArg (soft · n) (funext fun i => ?_)) (H.hv n (x 1)).symm
  exact Eq.trans (congrArg (· * Ideal.ofBits .f32 0x3D3504F3#32) (Finset.sum_congr (M := EReal) rfl fun d _ => congrArg₂ (· * ·) (H.hq (x 0) d).symm (H.hk i d).symm))
    (pay3_apply q k (x 0) i).symm

/-! ## The blocks -/

theorem idx : ∀ t : Fin cfg0.N, win0_0.index t = ![t.val, 0] ∧ win0_1.index t = ![0, 0] ∧ win0_2.index t = ![0, 1] ∧ win0_3.index t = ![t.val, 0] :=
  (by decide +kernel : ∀ t : Fin grid0.N, _)

/-- The launch's arrays. -/
abbrev Qm (c : Dev nD) : FVec Ideal S8192x2048 .bf16 := m ((c : Thread nD τ).loc main_arg0)
abbrev Km (c : Dev nD) : FVec Ideal S256x4096 .bf16 := m ((c : Thread nD τ).loc main_arg1)

theorem head0 (c : Dev nD) (t : Fin cfg0.N) : Head (Qm m c) (Km m c) ⟨t.val, lt_of_lt_of_eq t.isLt N_0⟩ 0
    (View.ld (iblk m c 0 t) (Rect.unit ![0, 0] ![512, 512] inb_S512x2048_S512x512_0_0))
    (View.ld (iblk m c 1 t) (Rect.unit ![0, 0] ![256, 512] inb_S256x2048_S256x512_0_0)) (View.ld (iblk m c 2 t) (Rect.unit ![0, 0] ![256, 512] inb_S256x2048_S256x512_0_0)) := by
  have ht : t.val < 16 := lt_of_lt_of_eq t.isLt N_0
  refine ⟨fun i d => ?_, fun n d => ?_, fun n d => ?_⟩ <;> blk_point [iblk, V, idx t]

theorem head1 (c : Dev nD) (t : Fin cfg0.N) : Head (Qm m c) (Km m c) ⟨t.val, lt_of_lt_of_eq t.isLt N_0⟩ 1
    (View.ld (iblk m c 0 t) (Rect.unit ![0, 512] ![512, 512] inb_S512x2048_S512x512_0_512))
    (View.ld (iblk m c 1 t) (Rect.unit ![0, 512] ![256, 512] inb_S256x2048_S256x512_0_512)) (View.ld (iblk m c 2 t) (Rect.unit ![0, 512] ![256, 512] inb_S256x2048_S256x512_0_512)) := by
  have ht : t.val < 16 := lt_of_lt_of_eq t.isLt N_0
  refine ⟨fun i d => ?_, fun n d => ?_, fun n d => ?_⟩ <;> blk_point [iblk, V, idx t]

theorem head2 (c : Dev nD) (t : Fin cfg0.N) : Head (Qm m c) (Km m c) ⟨t.val, lt_of_lt_of_eq t.isLt N_0⟩ 2
    (View.ld (iblk m c 0 t) (Rect.unit ![0, 1024] ![512, 512] inb_S512x2048_S512x512_0_1024))
    (View.ld (iblk m c 1 t) (Rect.unit ![0, 1024] ![256, 512] inb_S256x2048_S256x512_0_1024)) (View.ld (iblk m c 2 t) (Rect.unit ![0, 1024] ![256, 512] inb_S256x2048_S256x512_0_1024)) := by
  have ht : t.val < 16 := lt_of_lt_of_eq t.isLt N_0
  refine ⟨fun i d => ?_, fun n d => ?_, fun n d => ?_⟩ <;> blk_point [iblk, V, idx t]

theorem head3 (c : Dev nD) (t : Fin cfg0.N) : Head (Qm m c) (Km m c) ⟨t.val, lt_of_lt_of_eq t.isLt N_0⟩ 3
    (View.ld (iblk m c 0 t) (Rect.unit ![0, 1536] ![512, 512] inb_S512x2048_S512x512_0_1536))
    (View.ld (iblk m c 1 t) (Rect.unit ![0, 1536] ![256, 512] inb_S256x2048_S256x512_0_1536)) (View.ld (iblk m c 2 t) (Rect.unit ![0, 1536] ![256, 512] inb_S256x2048_S256x512_0_1536)) := by
  have ht : t.val < 16 := lt_of_lt_of_eq t.isLt N_0
  refine ⟨fun i d => ?_, fun n d => ?_, fun n d => ?_⟩ <;> blk_point [iblk, V, idx t]

set_option maxHeartbeats 1600000 in
/-- THE RESULT ARRAY after the run is the reference's. -/
theorem final (c : Dev nD) : (dats m 0 c).arrAt 3 (cfgs 0).N = attended (Qm m c) (Km m c) := by
  refine (dats m 0 c).arrAt_eq_of_covers 3 _ (by decide +kernel) fun t _ y => ?_
  blk_simp
  rw [after0_3]
  frame_out
  canon_tiles x h
  · exact (same3 _ _ _ ▸ (head3 m c t).rows x _ (by blk_simp; simp [idx t, h0]) (by blk_simp; simp [idx t, h1]))
  · exact (same2 _ _ _ ▸ (head2 m c t).rows x _ (by blk_simp; simp [idx t, h0]) (by blk_simp; simp [idx t, h1]))
  · exact (same1 _ _ _ ▸ (head1 m c t).rows x _ (by blk_simp; simp [idx t, h0]) (by blk_simp; simp [idx t, h1]))
  · exact (same0 _ _ _ ▸ (head0 m c t).rows x _ (by blk_simp; simp [idx t, h0]) (by blk_simp; simp [idx t, h1]))

end Cert.Kernel31Ideal.Attend

end
-- ==== Proof.Claims31.lean ====
/- The claims about the attention over the memory going forward: the runs of the kernel, of its idealized form and of the reference, and the equality of their results. -/
module

public import proofs.«01_k».proof.Defs
public import proofs.«01_k».proof.Proof.Gen.Kernel31.Frame
public import proofs.«01_k».proof.Proof.Gen.Kernel31Ideal.Frame
public import proofs.«01_k».proof.Proof.Gen.Reference31Ideal.Run
public import proofs.«01_k».proof.Proof.Attend
public import Idealize.ShloMosaic.Lib.Claim
public import Idealize.ShloMosaic.Lib.Quiescent

@[expose] public section

set_option maxRecDepth 16384

noncomputable section

namespace Cert.Claims31

open Idealize.ShloMosaic Idealize.SL.Sem

theorem kernel : Cert.quiescent_Kernel31 := fun m ρ _ => Cert.Kernel31.Gen.frame m ρ

theorem ideal : Cert.quiescent_Kernel31Ideal := fun m ρ _ => Cert.Kernel31Ideal.Gen.frame m ρ

theorem reference : Cert.quiescent_Reference31Ideal := fun m g _ =>
  θ_run_mono (Cert.Reference31Ideal.Value.run m g) fun r h => ⟨fun c => (h c).2, sem_eq_zero_of_no_sems rfl r.2⟩

set_option maxHeartbeats 1600000 in
theorem algebraic : Cert.algebraic_Kernel31Ideal_Reference31Ideal := by
  pair_intro
  · run_from Cert.Kernel31Ideal.Value.run_blocks m g
  · run_from Cert.Reference31Ideal.Value.run m' g'
    refine Eq.trans ?_ (Cert.Kernel31Ideal.Attend.final m c).symm
    change Cert.Kernel31Ideal.Attend.attended (m' (c.tc.loc Reference31Ideal.main_arg0)) (m' (c.tc.loc Reference31Ideal.main_arg1)) = _
    rw [(hagree c).1, (hagree c).2]

end Cert.Claims31

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Pre_finite
public import proofs.«01_k».proof.Proof.Gen.Pre_finite2
public import proofs.«01_k».proof.Proof.Gen.Pre_finite3
public import proofs.«01_k».proof.Proof.Gen.Pre_finite7
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run
public import proofs.«01_k».proof.Proof.Gen.Kernel29Ideal.Value
public import proofs.«01_k».proof.Proof.Gen.Reference29Ideal.Run
public import proofs.«01_k».proof.Proof.Gen.Kernel30Ideal.Value
public import proofs.«01_k».proof.Proof.Gen.Reference30Ideal.Run
public import proofs.«01_k».proof.Proof.Gen.Kernel31Ideal.Value
public import proofs.«01_k».proof.Proof.Gen.Reference31Ideal.Run
public import proofs.«01_k».proof.Proof.Claims
public import proofs.«01_k».proof.Proof.Claims2
public import proofs.«01_k».proof.Proof.Claims3
public import proofs.«01_k».proof.Proof.Claims4
public import proofs.«01_k».proof.Proof.Claims5
public import proofs.«01_k».proof.Proof.Claims6
public import proofs.«01_k».proof.Proof.Claims7
public import proofs.«01_k».proof.Proof.Claims8
public import proofs.«01_k».proof.Proof.Claims9
public import proofs.«01_k».proof.Proof.Claims10
public import proofs.«01_k».proof.Proof.Claims11
public import proofs.«01_k».proof.Proof.Claims12
public import proofs.«01_k».proof.Proof.Claims13
public import proofs.«01_k».proof.Proof.Claims14
public import proofs.«01_k».proof.Proof.Claims15
public import proofs.«01_k».proof.Proof.Claims16
public import proofs.«01_k».proof.Proof.Claims17
public import proofs.«01_k».proof.Proof.Claims18
public import proofs.«01_k».proof.Proof.Claims19
public import proofs.«01_k».proof.Proof.Claims20
public import proofs.«01_k».proof.Proof.Claims21
public import proofs.«01_k».proof.Proof.Claims22
public import proofs.«01_k».proof.Proof.Claims23
public import proofs.«01_k».proof.Proof.Claims24
public import proofs.«01_k».proof.Proof.Claims25
public import proofs.«01_k».proof.Proof.Claims26
public import proofs.«01_k».proof.Proof.Claims27
public import proofs.«01_k».proof.Proof.Claims28
public import proofs.«01_k».proof.Proof.Claims29
public import proofs.«01_k».proof.Proof.Claims30
public import proofs.«01_k».proof.Proof.Claims31
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel20.Gen.facts,
    Cert.Kernel20Ideal.Gen.facts,
    Cert.Reference20Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Kernel26.Gen.facts,
    Cert.Kernel26Ideal.Gen.facts,
    Cert.Reference26Ideal.Gen.facts,
    Cert.Kernel27.Gen.facts,
    Cert.Kernel27Ideal.Gen.facts,
    Cert.Reference27Ideal.Gen.facts,
    Cert.Kernel28.Gen.facts,
    Cert.Kernel28Ideal.Gen.facts,
    Cert.Reference28Ideal.Gen.facts,
    Cert.Kernel29.Gen.facts,
    Cert.Kernel29Ideal.Gen.facts,
    Cert.Reference29Ideal.Gen.facts,
    Cert.Kernel30.Gen.facts,
    Cert.Kernel30Ideal.Gen.facts,
    Cert.Reference30Ideal.Gen.facts,
    Cert.Kernel31.Gen.facts,
    Cert.Kernel31Ideal.Gen.facts,
    Cert.Reference31Ideal.Gen.facts,
    Cert.Pre_finite.Gen.facts,
    Cert.Pre_finite2.Gen.facts,
    Cert.Pre_finite3.Gen.facts,
    Cert.Pre_finite7.Gen.facts,
    Claims.kernel,
    Claims.ideal,
    Claims.ideal_pre,
    Claims.reference,
    Claims.reference_pre,
    Claims2.kernel,
    Claims2.ideal,
    Claims2.ideal_pre,
    Claims2.reference,
    Claims2.reference_pre,
    Claims3.kernel,
    Claims3.ideal,
    Claims3.ideal_pre,
    Claims3.reference,
    Claims3.reference_pre,
    Claims4.kernel,
    Claims4.ideal,
    Claims4.reference,
    Claims5.kernel,
    Claims5.ideal,
    Claims5.reference,
    Claims6.kernel,
    Claims6.ideal,
    Claims6.reference,
    Claims7.kernel,
    Claims7.ideal,
    Claims7.ideal_pre,
    Claims7.reference,
    Claims7.reference_pre,
    Claims8.kernel,
    Claims8.ideal,
    Claims8.reference,
    Claims9.kernel,
    Claims9.ideal,
    Claims9.reference,
    Claims10.kernel,
    Claims10.ideal,
    Claims10.reference,
    Claims11.kernel,
    Claims11.ideal,
    Claims11.reference,
    Claims12.kernel,
    Claims12.ideal,
    Claims12.reference,
    Claims13.kernel,
    Claims13.ideal,
    Claims13.reference,
    Claims14.kernel,
    Claims14.ideal,
    Claims14.reference,
    Claims15.kernel,
    Claims15.ideal,
    Claims15.reference,
    Claims16.kernel,
    Claims16.ideal,
    Claims16.reference,
    Claims17.kernel,
    Claims17.ideal,
    Claims17.reference,
    Claims18.kernel,
    Claims18.ideal,
    Claims18.reference,
    Claims19.kernel,
    Claims19.ideal,
    Claims19.reference,
    Claims20.kernel,
    Claims20.ideal,
    Claims20.reference,
    Claims21.kernel,
    Claims21.ideal,
    Claims21.reference,
    Claims22.kernel,
    Claims22.ideal,
    Claims22.reference,
    Claims23.kernel,
    Claims23.ideal,
    Claims23.reference,
    Claims24.kernel,
    Claims24.ideal,
    Claims24.reference,
    Claims25.kernel,
    Claims25.ideal,
    Claims25.reference,
    Claims26.kernel,
    Claims26.ideal,
    Claims26.reference,
    Claims27.kernel,
    Claims27.ideal,
    Claims27.reference,
    Claims28.kernel,
    Claims28.ideal,
    Claims28.reference,
    Claims29.kernel,
    Claims29.ideal,
    Claims29.reference,
    Claims30.kernel,
    Claims30.ideal,
    Claims30.reference,
    Claims31.kernel,
    Claims31.ideal,
    Claims31.reference,
    trivial,
    Claims.algebraic,
    trivial,
    Claims2.algebraic,
    trivial,
    Claims3.algebraic,
    trivial,
    Claims4.algebraic,
    trivial,
    Claims5.algebraic,
    trivial,
    Claims6.algebraic,
    trivial,
    Claims7.algebraic,
    trivial,
    Claims8.algebraic,
    trivial,
    Claims9.algebraic,
    trivial,
    Claims10.algebraic,
    trivial,
    Claims11.algebraic,
    trivial,
    Claims12.algebraic,
    trivial,
    Claims13.algebraic,
    trivial,
    Claims14.algebraic,
    trivial,
    Claims15.algebraic,
    trivial,
    Claims16.algebraic,
    trivial,
    Claims17.algebraic,
    trivial,
    Claims18.algebraic,
    trivial,
    Claims19.algebraic,
    trivial,
    Claims20.algebraic,
    trivial,
    Claims21.algebraic,
    trivial,
    Claims22.algebraic,
    trivial,
    Claims23.algebraic,
    trivial,
    Claims24.algebraic,
    trivial,
    Claims25.algebraic,
    trivial,
    Claims26.algebraic,
    trivial,
    Claims27.algebraic,
    trivial,
    Claims28.algebraic,
    trivial,
    Claims29.algebraic,
    trivial,
    Claims30.algebraic,
    trivial,
    Claims31.algebraic⟩

end Cert.Proof

end
